-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v69_0)) (v1 : (c : Dev Cert.Kernel4Ideal.nD) → Buf (Elt Ideal) ((c.tc : Thread Cert.Kernel4Ideal.nD Cert.Kernel4Ideal.τ).loc Cert.Kernel4Ideal.main_v69_1)) (v2 : (c : Dev Cert.Kernel4Ideal.nD) → Buf (Elt Ideal) ((c.tc : Thread Cert.Kernel4Ideal.nD Cert.Kernel4Ideal.τ).loc Cert.Kernel4Ideal.main_v69_2)) (v3 : (c : Dev Cert.Kernel4Ideal.nD) → Buf (Elt Ideal) ((c.tc : Thread Cert.Kernel4Ideal.nD Cert.Kernel4Ideal.τ).loc Cert.Kernel4Ideal.main_v69_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v69_0) = v0 c
          ∧ r.2.mem ((c.tc : Thread Cert.Kernel4Ideal.nD Cert.Kernel4Ideal.τ).loc Cert.Kernel4Ideal.main_v69_1) = v1 c
          ∧ r.2.mem ((c.tc : Thread Cert.Kernel4Ideal.nD Cert.Kernel4Ideal.τ).loc Cert.Kernel4Ideal.main_v69_2) = v2 c
          ∧ r.2.mem ((c.tc : Thread Cert.Kernel4Ideal.nD Cert.Kernel4Ideal.τ).loc Cert.Kernel4Ideal.main_v69_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v98) = v0 c
          ∧ r.2.mem ((c.tc : Thread Cert.Reference4Ideal.nD Cert.Reference4Ideal.τ).loc Cert.Reference4Ideal.main_v101) = v1 c
          ∧ r.2.mem ((c.tc : Thread Cert.Reference4Ideal.nD Cert.Reference4Ideal.τ).loc Cert.Reference4Ideal.main_v102) = v2 c
          ∧ r.2.mem ((c.tc : Thread Cert.Reference4Ideal.nD Cert.Reference4Ideal.τ).loc Cert.Reference4Ideal.main_v104) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_v15) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_v12) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x4 : Shape := ⟨2, ![2, 4]⟩
abbrev S32x2048x6144 : Shape := ⟨3, ![32, 2048, 6144]⟩
abbrev S_ : Shape := ⟨0, ![]⟩

class Facts : Prop where
  bcast_S_S2x4 : S_.BroadcastsInDim S2x4 (![] : Fin 0 → Fin S2x4.rank)
  reducesTo_S2x4_S_d0_1 : S2x4.ReducesTo [0, 1] S_
  h_S_ : 0 < S_.numel
  bcast_S_S32x2048x6144 : S_.BroadcastsInDim S32x2048x6144 (![] : Fin 0 → Fin S32x2048x6144.rank)
  reducesTo_S32x2048x6144_S_d0_1_2 : S32x2048x6144.ReducesTo [0, 1, 2] S_

variable [Facts]

def fn {F : FTy → Type} [FloatOps F] (main_arg0 : FVec F S2x4 .f32) (main_arg1 : FVec F S32x2048x6144 .bf16) : IVec S_ 1 :=
  let main_v0 : FVec F S2x4 .f32 := Host.absf main_arg0
  let main_cst : FVec F S_ .f32 := constant S_ .f32 0x7F800000#32
  let main_v1 : FVec F S2x4 .f32 := broadcastInDim S2x4 ![] bcast_S_S2x4 main_cst
  let main_v2 : IVec S2x4 1 := cmpf .olt main_v0 main_v1
  let main_c : IVec S_ 1 := constantI S_ 1 1#1
  let main_v3 : IVec S_ 1 := (fun x v => Host.reduce IntOp.andi x v reducesTo_S2x4_S_d0_1 h_S_) main_v2 main_c
  let main_v4 : FVec F S32x2048x6144 .bf16 := Host.absf main_arg1
  let main_cst_0 : FVec F S_ .bf16 := constant S_ .bf16 0x7F80#16
  let main_v5 : FVec F S32x2048x6144 .bf16 := broadcastInDim S32x2048x6144 ![] bcast_S_S32x2048x6144 main_cst_0
  let main_v6 : IVec S32x2048x6144 1 := cmpf .olt main_v4 main_v5
  let main_c_1 : IVec S_ 1 := constantI S_ 1 1#1
  let main_v7 : IVec S_ 1 := (fun x v => Host.reduce IntOp.andi x v reducesTo_S32x2048x6144_S_d0_1_2 h_S_) main_v6 main_c_1
  let main_v8 : IVec S_ 1 := andi main_v3 main_v7
  main_v8
-- ==== Pre_finite6.lean ====
abbrev S2x4 : Shape := ⟨2, ![2, 4]⟩
abbrev S32x2048x6144 : Shape := ⟨3, ![32, 2048, 6144]⟩
abbrev S32x2048x2048 : Shape := ⟨3, ![32, 2048, 2048]⟩
abbrev S32x2048x1024 : Shape := ⟨3, ![32, 2048, 1024]⟩
abbrev S2048x1024 : Shape := ⟨2, ![2048, 1024]⟩
abbrev S_ : Shape := ⟨0, ![]⟩

class Facts : Prop where
  bcast_S_S2x4 : S_.BroadcastsInDim S2x4 (![] : Fin 0 → Fin S2x4.rank)
  reducesTo_S2x4_S_d0_1 : S2x4.ReducesTo [0, 1] S_
  h_S_ : 0 < S_.numel
  bcast_S_S32x2048x6144 : S_.BroadcastsInDim S32x2048x6144 (![] : Fin 0 → Fin S32x2048x6144.rank)
  reducesTo_S32x2048x6144_S_d0_1_2 : S32x2048x6144.ReducesTo [0, 1, 2] S_

variable [Facts]

def fn {F : FTy → Type} [FloatOps F] (main_arg0 : FVec F S2x4 .f32) (main_arg1 : FVec F S32x2048x6144 .bf16) (main_arg2 : FVec F S32x2048x2048 .bf16) (main_arg3 : FVec F S32x2048x1024 .f32) (main_arg4 : FVec F S2048x1024 .bf16) : IVec S_ 1 :=
  let main_v0 : FVec F S2x4 .f32 := Host.absf main_arg0
  let main_cst : FVec F S_ .f32 := constant S_ .f32 0x7F800000#32
  let main_v1 : FVec F S2x4 .f32 := broadcastInDim S2x4 ![] bcast_S_S2x4 main_cst
  let main_v2 : IVec S2x4 1 := cmpf .olt main_v0 main_v1
  let main_c : IVec S_ 1 := constantI S_ 1 1#1
  let main_v3 : IVec S_ 1 := (fun x v => Host.reduce IntOp.andi x v reducesTo_S2x4_S_d0_1 h_S_) main_v2 main_c
  let main_v4 : FVec F S32x2048x6144 .bf16 := Host.absf main_arg1
  let main_cst_0 : FVec F S_ .bf16 := constant S_ .bf16 0x7F80#16
  let main_v5 : FVec F S32x2048x6144 .bf16 := broadcastInDim S32x2048x6144 ![] bcast_S_S32x2048x6144 main_cst_0
  let main_v6 : IVec S32x2048x6144 1 := cmpf .olt main_v4 main_v5
  let main_c_1 : IVec S_ 1 := constantI S_ 1 1#1
  let main_v7 : IVec S_ 1 := (fun x v => Host.reduce IntOp.andi x v reducesTo_S32x2048x6144_S_d0_1_2 h_S_) main_v6 main_c_1
  let main_v8 : IVec S_ 1 := andi main_v3 main_v7
  main_v8
-- ==== Kernel.lean ====
abbrev S2x4 : Shape := ⟨2, ![2, 4]⟩
abbrev S32x2048x6144 : Shape := ⟨3, ![32, 2048, 6144]⟩
abbrev S32x2048x2048 : Shape := ⟨3, ![32, 2048, 2048]⟩
abbrev S2x256x1024 : Shape := ⟨3, ![2, 256, 1024]⟩
abbrev S2x256x2048 : Shape := ⟨3, ![2, 256, 2048]⟩
abbrev S2x4x256x512 : Shape := ⟨4, ![2, 4, 256, 512]⟩
abbrev S4x256x256 : Shape := ⟨3, ![4, 256, 256]⟩
abbrev S4x2x256x128 : Shape := ⟨4, ![4, 2, 256, 128]⟩
abbrev S256x256 : Shape := ⟨2, ![256, 256]⟩
abbrev S256x128 : Shape := ⟨2, ![256, 128]⟩
abbrev S1x1 : Shape := ⟨2, ![1, 1]⟩
abbrev S1x1x256x128 : Shape := ⟨4, ![1, 1, 256, 128]⟩
abbrev S1x256x256 : Shape := ⟨3, ![1, 256, 256]⟩
abbrev S1x256x512 : Shape := ⟨3, ![1, 256, 512]⟩
abbrev S256x512 : Shape := ⟨2, ![256, 512]⟩
abbrev S1x512 : Shape := ⟨2, ![1, 512]⟩
abbrev S1x1x256x512 : Shape := ⟨4, ![1, 1, 256, 512]⟩
abbrev S512x512 : Shape := ⟨2, ![512, 512]⟩

abbrev nBuf : Space → Nat
  | .hbm => 3
  | .vmem => 11
  | .smem => 1
  | _ => 0

abbrev bufTy : (tb : Table) → Fin (tcTables nBuf tb) → BufTy
  | .hbm, ⟨0, _⟩ => ⟨S2x4, .f32⟩
  | .hbm, ⟨1, _⟩ => ⟨S32x2048x6144, .bf16⟩
  | .hbm, ⟨2, _⟩ => ⟨S32x2048x2048, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .bf16⟩
  | .local _ .vmem, ⟨8, _⟩ => ⟨S2x4x256x512, .f32⟩
  | .local _ .vmem, ⟨9, _⟩ => ⟨S4x256x256, .f32⟩
  | .local _ .vmem, ⟨10, _⟩ => ⟨S4x2x256x128, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![arg0.toNat, v0.toNat, c1_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x4 : Shape := ⟨2, ![2, 4]⟩
abbrev S32x2048x6144 : Shape := ⟨3, ![32, 2048, 6144]⟩
abbrev S32x2048x1024 : Shape := ⟨3, ![32, 2048, 1024]⟩
abbrev S32x2048x4x256 : Shape := ⟨4, ![32, 2048, 4, 256]⟩
abbrev S32x2048x2048 : Shape := ⟨3, ![32, 2048, 2048]⟩
abbrev S32x2048x4x512 : Shape := ⟨4, ![32, 2048, 4, 512]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S4x1x1 : Shape := ⟨3, ![4, 1, 1]⟩
abbrev S4x128x128 : Shape := ⟨3, ![4, 128, 128]⟩
abbrev S128x4 : Shape := ⟨2, ![128, 4]⟩
abbrev S1x128x4x1 : Shape := ⟨4, ![1, 128, 4, 1]⟩
abbrev S1x4x1x1 : Shape := ⟨4, ![1, 4, 1, 1]⟩
abbrev S32x4x256x512 : Shape := ⟨4, ![32, 4, 256, 512]⟩
abbrev S32x16x128x4x256 : Shape := ⟨5, ![32, 16, 128, 4, 256]⟩
abbrev S16x32x128x4x256 : Shape := ⟨5, ![16, 32, 128, 4, 256]⟩
abbrev S32x16x128x4x512 : Shape := ⟨5, ![32, 16, 128, 4, 512]⟩
abbrev S16x32x128x4x512 : Shape := ⟨5, ![16, 32, 128, 4, 512]⟩
abbrev S1x32x128x4x256 : Shape := ⟨5, ![1, 32, 128, 4, 256]⟩
abbrev S32x128x4x256 : Shape := ⟨4, ![32, 128, 4, 256]⟩
abbrev S1x32x128x4x512 : Shape := ⟨5, ![1, 32, 128, 4, 512]⟩
abbrev S32x128x4x512 : Shape := ⟨4, ![32, 128, 4, 512]⟩
abbrev S32x4x128x128 : Shape := ⟨4, ![32, 4, 128, 128]⟩
abbrev S1x4x128x128 : Shape := ⟨4, ![1, 4, 128, 128]⟩
abbrev S32x4x512x128 : Shape := ⟨4, ![32, 4, 512, 128]⟩

abbrev nBuf : Space → Nat
  | .hbm => 135
  | .vmem => 0
  | .smem => 0
  | _ => 0

abbrev hbmTy0_0 (i : Nat) : BufTy := match i % 128 with
  | 0 => ⟨S2x4, .f32⟩
  | 1 => ⟨S32x2048x6144, .bf16⟩
  | 2 => ⟨S32x2048x6144, .f32⟩
  | 3 => ⟨S32x2048x1024, .f32⟩
  | 4 => ⟨S32x2048x4x256, .f32⟩
  | 5 => ⟨S32x2048x1024, .f32⟩
  | 6 => ⟨S32x2048x4x256, .f32⟩
  | 7 => ⟨S32x2048x2048, .f32⟩
  | 8 => ⟨S32x2048x4x512, .f32⟩
  | 9 => ⟨S32x2048x4x256, .f32⟩
  | 10 => ⟨S32x2048x4x256, .f32⟩
  | 11 => ⟨S32x2048x4x512, .f32⟩
  | 12 => ⟨S1x4, .f32⟩
  | 13 => ⟨S4, .f32⟩
  | 14 => ⟨S128, .f32⟩
  | 15 => ⟨S128x1, .f32⟩
  | 16 => ⟨S1x128, .f32⟩
  | 17 => ⟨S128x128, .f32⟩
  | 18 => ⟨S128x128, .f32⟩
  | 19 => ⟨S128x128, .f32⟩
  | 20 => ⟨S_, .f32⟩
  | 21 => ⟨S128x128, .f32⟩
  | 22 => ⟨S128x128, .i1⟩
  | 23 => ⟨S1x128x128, .i1⟩
  | 24 => ⟨S_, .f32⟩
  | 25 => ⟨S_, .f32⟩
  | 26 => ⟨S128x128, .f32⟩
  | 27 => ⟨S128x128, .f32⟩
  | 28 => ⟨S1x128x128, .f32⟩
  | 29 => ⟨S4x1x1, .f32⟩
  | 30 => ⟨S4x128x128, .f32⟩
  | 31 => ⟨S4x128x128, .f32⟩
  | 32 => ⟨S4x128x128, .f32⟩
  | 33 => ⟨S4x128x128, .f32⟩
  | 34 => ⟨S_, .f32⟩
  | 35 => ⟨S_, .f32⟩
  | 36 => ⟨S4x128x128, .i1⟩
  | 37 => ⟨S4x128x128, .f32⟩
  | 38 => ⟨S4x128x128, .f32⟩
  | 39 => ⟨S_, .f32⟩
  | 40 => ⟨S128, .f32⟩
  | 41 => ⟨S128, .f32⟩
  | 42 => ⟨S128x1, .f32⟩
  | 43 => ⟨S1x4, .f32⟩
  | 44 => ⟨S128x4, .f32⟩
  | 45 => ⟨S128x4, .f32⟩
  | 46 => ⟨S128x4, .f32⟩
  | 47 => ⟨S128x4, .f32⟩
  | 48 => ⟨S1x128x4x1, .f32⟩
  | 49 => ⟨S_, .f32⟩
  | 50 => ⟨S128, .f32⟩
  | 51 => ⟨S128, .f32⟩
  | 52 => ⟨S128x1, .f32⟩
  | 53 => ⟨S1x4, .f32⟩
  | 54 => ⟨S128x4, .f32⟩
  | 55 => ⟨S128x4, .f32⟩
  | 56 => ⟨S128x4, .f32⟩
  | 57 => ⟨S128x4, .f32⟩
  | 58 => ⟨S1x128x4x1, .f32⟩
  | 59 => ⟨S_, .f32⟩
  | 60 => ⟨S4, .f32⟩
  | 61 => ⟨S4, .f32⟩
  | 62 => ⟨S4, .f32⟩
  | 63 => ⟨S1x4x1x1, .f32⟩
  | 64 => ⟨S_, .f32⟩
  | 65 => ⟨S32x4x256x512, .f32⟩
  | 66 => ⟨S32x16x128x4x256, .f32⟩
  | 67 => ⟨S16x32x128x4x256, .f32⟩
  | 68 => ⟨S32x16x128x4x256, .f32⟩
  | 69 => ⟨S16x32x128x4x256, .f32⟩
  | 70 => ⟨S32x16x128x4x512, .f32⟩
  | 71 => ⟨S16x32x128x4x512, .f32⟩
  | 72 => ⟨S_, .f32⟩
  | 73 => ⟨S16x32x128x4x512, .f32⟩
  | 74 => ⟨S_, .i32⟩
  | 75 => ⟨S16x32x128x4x256, .f32⟩
  | 76 => ⟨S16x32x128x4x256, .f32⟩
  | 77 => ⟨S16x32x128x4x512, .f32⟩
  | 78 => ⟨S4x128x128, .f32⟩
  | 79 => ⟨S1x128x4x1, .f32⟩
  | 80 => ⟨S1x4x1x1, .f32⟩
  | 81 => ⟨S1x128x4x1, .f32⟩
  | 82 => ⟨S_, .i32⟩
  | 83 => ⟨S32x4x256x512, .f32⟩
  | 84 => ⟨S16x32x128x4x512, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x32x128x4x256, .f32⟩
  | 92 => ⟨S32x128x4x256, .f32⟩
  | 93 => ⟨S_, .i32⟩
  | 94 => ⟨S_, .i32⟩
  | 95 => ⟨S_, .i32⟩
  | 96 => ⟨S_, .i32⟩
  | 97 => ⟨S1x32x128x4x256, .f32⟩
  | 98 => ⟨S32x128x4x256, .f32⟩
  | 99 => ⟨S_, .i32⟩
  | 100 => ⟨S_, .i32⟩
  | 101 => ⟨S_, .i32⟩
  | 102 => ⟨S_, .i32⟩
  | 103 => ⟨S1x32x128x4x512, .f32⟩
  | 104 => ⟨S32x128x4x512, .f32⟩
  | 105 => ⟨S32x4x128x128, .f32⟩
  | 106 => ⟨S1x4x128x128, .f32⟩
  | 107 => ⟨S32x4x128x128, .f32⟩
  | 108 => ⟨S32x4x128x128, .f32⟩
  | 109 => ⟨S32x4x512x128, .f32⟩
  | 110 => ⟨S32x128x4x512, .f32⟩
  | 111 => ⟨S32x4x512x128, .f32⟩
  | 112 => ⟨S32x128x4x512, .f32⟩
  | 113 => ⟨S32x128x4x512, .f32⟩
  | 114 => ⟨S32x128x4x512, .f32⟩
  | 115 => ⟨S32x4x256x512, .f32⟩
  | 116 => ⟨S32x4x256x512, .f32⟩
  | 117 => ⟨S32x128x4x256, .f32⟩
  | 118 => ⟨S32x128x4x256, .f32⟩
  | 119 => ⟨S32x4x256x512, .f32⟩
  | 120 => ⟨S32x4x256x512, .f32⟩
  | 121 => ⟨S32x128x4x512, .f32⟩
  | 122 => ⟨S1x32x128x4x512, .f32⟩
  | 123 => ⟨S_, .i32⟩
  | 124 => ⟨S_, .i32⟩
  | 125 => ⟨S_, .i32⟩
  | 126 => ⟨S_, .i32⟩
  | 127 => ⟨S16x32x128x4x512, .f32⟩
  | _ => ⟨S2x4, .f32⟩

abbrev hbmTy0_1 (i : Nat) : BufTy := match i % 128 with
  | 0 => ⟨S_, .i32⟩
  | 1 => ⟨S_, .i32⟩
  | 2 => ⟨S32x16x128x4x512, .f32⟩
  | 3 => ⟨S32x2048x4x512, .f32⟩
  | 4 => ⟨S32x2048x4x512, .f32⟩
  | 5 => ⟨S32x2048x2048, .f32⟩
  | 6 => ⟨S32x2048x2048, .bf16⟩
  | _ => ⟨S2x4, .f32⟩

abbrev hbmTy (i : Nat) : BufTy := match i / 128 with
  | 0 => hbmTy0_0 i
  | 1 => hbmTy0_1 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_call3_v0 : Ref sig .tc := ⟨.hbm, 25, rfl⟩
abbrev main_call3_v1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_c : Ref sig .tc := ⟨.hbm, 74, rfl⟩
abbrev main_v59_0 : Ref sig .tc := ⟨.hbm, 75, rfl⟩
abbrev main_v59_1 : Ref sig .tc := ⟨.hbm, 76, rfl⟩
abbrev main_v59_2 : Ref sig .tc := ⟨.hbm, 77, rfl⟩
abbrev main_v59_3 : Ref sig .tc := ⟨.hbm, 78, rfl⟩
abbrev main_v59_4 : Ref sig .tc := ⟨.hbm, 79, rfl⟩
abbrev main_v59_5 : Ref sig .tc := ⟨.hbm, 80, rfl⟩
abbrev main_v59_6 : Ref sig .tc := ⟨.hbm, 81, rfl⟩
abbrev main_v59_7 : Ref sig .tc := ⟨.hbm, 82, rfl⟩
abbrev main_v59_8 : Ref sig .tc := ⟨.hbm, 83, rfl⟩
abbrev main_v59_9 : Ref sig .tc := ⟨.hbm, 84, rfl⟩
abbrev main_while0c_c_16 : Ref sig .tc := ⟨.hbm, 85, rfl⟩
abbrev main_while0c_v65 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_c_2 : Ref sig .tc := ⟨.hbm, 90, rfl⟩
abbrev main_while0b_call5_v0 : Ref sig .tc := ⟨.hbm, 91, rfl⟩
abbrev main_while0b_v65 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_c_2 : Ref sig .tc := ⟨.hbm, 96, rfl⟩
abbrev main_while0b_call6_v0 : Ref sig .tc := ⟨.hbm, 97, rfl⟩
abbrev main_while0b_v66 : Ref sig .tc := ⟨.hbm, 98, rfl⟩
abbrev main_while0b_call7_c : Ref sig .tc := ⟨.hbm, 99, rfl⟩
abbrev main_while0b_call7_c_0 : Ref sig .tc := ⟨.hbm, 100, rfl⟩
abbrev main_while0b_call7_c_1 : Ref sig .tc := ⟨.hbm, 101, rfl⟩
abbrev main_while0b_call7_c_2 : Ref sig .tc := ⟨.hbm, 102, rfl⟩
abbrev main_while0b_call7_v0 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_call8_v0 : Ref sig .tc := ⟨.hbm, 122, rfl⟩
abbrev main_while0b_call8_c : Ref sig .tc := ⟨.hbm, 123, rfl⟩
abbrev main_while0b_call8_c_0 : Ref sig .tc := ⟨.hbm, 124, rfl⟩
abbrev main_while0b_call8_c_1 : Ref sig .tc := ⟨.hbm, 125, rfl⟩
abbrev main_while0b_call8_c_2 : Ref sig .tc := ⟨.hbm, 126, rfl⟩
abbrev main_while0b_v85 : Ref sig .tc := ⟨.hbm, 127, rfl⟩
abbrev main_while0b_c_16 : Ref sig .tc := ⟨.hbm, 128, rfl⟩
abbrev main_while0b_v86 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S65536x1024 : Shape := ⟨2, ![65536, 1024]⟩
abbrev S1x1024 : Shape := ⟨2, ![1, 1024]⟩
abbrev S1024x6144 : Shape := ⟨2, ![1024, 6144]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x128 : Shape := ⟨3, ![1, 2048, 128]⟩
abbrev S4x2048x128 : Shape := ⟨3, ![4, 2048, 128]⟩
abbrev S65536x6144 : Shape := ⟨2, ![65536, 6144]⟩
abbrev S1024x1024 : Shape := ⟨2, ![1024, 1024]⟩
abbrev S4x1024x128 : Shape := ⟨3, ![4, 1024, 128]⟩
abbrev S1024 : Shape := ⟨1, ![1024]⟩
abbrev S1024x1 : Shape := ⟨2, ![1024, 1]⟩
abbrev S1024x512 : Shape := ⟨2, ![1024, 512]⟩
abbrev S1x1024x128 : Shape := ⟨3, ![1, 1024, 128]⟩
abbrev S1024x128 : Shape := ⟨2, ![1024, 128]⟩
abbrev S1024x256 : Shape := ⟨2, ![1024, 256]⟩

abbrev nBuf : Space → Nat
  | .hbm => 32
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x6144, .bf16⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S2048, .f32⟩
  | .hbm, ⟨13, _⟩ => ⟨S2048x1, .f32⟩
  | .hbm, ⟨14, _⟩ => ⟨S1x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S_, .f32⟩
  | .hbm, ⟨21, _⟩ => ⟨S2048x128, .f32⟩
  | .hbm, ⟨22, _⟩ => ⟨S2048x128, .f32⟩
  | .hbm, ⟨23, _⟩ => ⟨S_, .f32⟩
  | .hbm, ⟨24, _⟩ => ⟨S2048x128, .f32⟩
  | .hbm, ⟨25, _⟩ => ⟨S2048x128, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S1x2048x128, .f32⟩
  | .hbm, ⟨30, _⟩ => ⟨S4x2048x128, .f32⟩
  | .hbm, ⟨31, _⟩ => ⟨S65536x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6144, .bf16⟩
  | .local _ .vmem, ⟨4, _⟩ => ⟨S4x1024x128, .f32⟩
  | .local _ .vmem, ⟨5, _⟩ => ⟨S4x1024x128, .f32⟩
  | .local _ .vmem, ⟨6, _⟩ => ⟨S1024x6144, .bf16⟩
  | .local _ .vmem, ⟨7, _⟩ => ⟨S1024x6144, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65536x1024 : Shape := ⟨2, ![65536, 1024]⟩
abbrev S1x1024 : Shape := ⟨2, ![1, 1024]⟩
abbrev S1024x6144 : Shape := ⟨2, ![1024, 6144]⟩
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6144 : Shape := ⟨3, ![32, 2048, 6144]⟩
abbrev S32x2048x4x256 : Shape := ⟨4, ![32, 2048, 4, 256]⟩
abbrev S128 : Shape := ⟨1, ![128]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S32x2048x4x128 : Shape := ⟨4, ![32, 2048, 4, 128]⟩
abbrev S32x2048x4096 : Shape := ⟨3, ![32, 2048, 4096]⟩
abbrev S65536x6144 : Shape := ⟨2, ![65536, 6144]⟩

abbrev nBuf : Space → Nat
  | .hbm => 100
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x6144, .bf16⟩
  | .hbm, ⟨3, _⟩ => ⟨S32x2048x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S1024x6144, .f32⟩
  | .hbm, ⟨22, _⟩ => ⟨S32x2048x6144, .f32⟩
  | .hbm, ⟨23, _⟩ => ⟨S32x2048x1024, .f32⟩
  | .hbm, ⟨24, _⟩ => ⟨S32x2048x4x256, .f32⟩
  | .hbm, ⟨25, _⟩ => ⟨S32x2048x1024, .f32⟩
  | .hbm, ⟨26, _⟩ => ⟨S32x2048x4x256, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S2048, .f32⟩
  | .hbm, ⟨37, _⟩ => ⟨S2048x1, .f32⟩
  | .hbm, ⟨38, _⟩ => ⟨S1x128, .f32⟩
  | .hbm, ⟨39, _⟩ => ⟨S2048x128, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S1x2048x1x128, .f32⟩
  | .hbm, ⟨44, _⟩ => ⟨S2048x128, .f32⟩
  | .hbm, ⟨45, _⟩ => ⟨S1x2048x1x128, .f32⟩
  | .hbm, ⟨46, _⟩ => ⟨S32x2048x4x128, .f32⟩
  | .hbm, ⟨47, _⟩ => ⟨S32x2048x4x128, .f32⟩
  | .hbm, ⟨48, _⟩ => ⟨S32x2048x4x128, .f32⟩
  | .hbm, ⟨49, _⟩ => ⟨S32x2048x4x128, .f32⟩
  | .hbm, ⟨50, _⟩ => ⟨S32x2048x4x128, .f32⟩
  | .hbm, ⟨51, _⟩ => ⟨S32x2048x4x128, .f32⟩
  | .hbm, ⟨52, _⟩ => ⟨S32x2048x4x128, .f32⟩
  | .hbm, ⟨53, _⟩ => ⟨S32x2048x4x128, .f32⟩
  | .hbm, ⟨54, _⟩ => ⟨S32x2048x4x128, .f32⟩
  | .hbm, ⟨55, _⟩ => ⟨S32x2048x4x128, .f32⟩
  | .hbm, ⟨56, _⟩ => ⟨S32x2048x4x128, .f32⟩
  | .hbm, ⟨57, _⟩ => ⟨S32x2048x4x128, .f32⟩
  | .hbm, ⟨58, _⟩ => ⟨S32x2048x4x256, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S2048, .f32⟩
  | .hbm, ⟨69, _⟩ => ⟨S2048x1, .f32⟩
  | .hbm, ⟨70, _⟩ => ⟨S1x128, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S2048x128, .f32⟩
  | .hbm, ⟨75, _⟩ => ⟨S1x2048x1x128, .f32⟩
  | .hbm, ⟨76, _⟩ => ⟨S2048x128, .f32⟩
  | .hbm, ⟨77, _⟩ => ⟨S1x2048x1x128, .f32⟩
  | .hbm, ⟨78, _⟩ => ⟨S32x2048x4x128, .f32⟩
  | .hbm, ⟨79, _⟩ => ⟨S32x2048x4x128, .f32⟩
  | .hbm, ⟨80, _⟩ => ⟨S32x2048x4x128, .f32⟩
  | .hbm, ⟨81, _⟩ => ⟨S32x2048x4x128, .f32⟩
  | .hbm, ⟨82, _⟩ => ⟨S32x2048x4x128, .f32⟩
  | .hbm, ⟨83, _⟩ => ⟨S32x2048x4x128, .f32⟩
  | .hbm, ⟨84, _⟩ => ⟨S32x2048x4x128, .f32⟩
  | .hbm, ⟨85, _⟩ => ⟨S32x2048x4x128, .f32⟩
  | .hbm, ⟨86, _⟩ => ⟨S32x2048x4x128, .f32⟩
  | .hbm, ⟨87, _⟩ => ⟨S32x2048x4x128, .f32⟩
  | .hbm, ⟨88, _⟩ => ⟨S32x2048x4x128, .f32⟩
  | .hbm, ⟨89, _⟩ => ⟨S32x2048x4x128, .f32⟩
  | .hbm, ⟨90, _⟩ => ⟨S32x2048x4x256, .f32⟩
  | .hbm, ⟨91, _⟩ => ⟨S_, .f32⟩
  | .hbm, ⟨92, _⟩ => ⟨S32x2048x4x256, .f32⟩
  | .hbm, ⟨93, _⟩ => ⟨S32x2048x4x256, .f32⟩
  | .hbm, ⟨94, _⟩ => ⟨S32x2048x4096, .f32⟩
  | .hbm, ⟨95, _⟩ => ⟨S32x2048x1024, .f32⟩
  | .hbm, ⟨96, _⟩ => ⟨S32x2048x1024, .f32⟩
  | .hbm, ⟨97, _⟩ => ⟨S32x2048x6144, .f32⟩
  | .hbm, ⟨98, _⟩ => ⟨S65536x6144, .f32⟩
  | .hbm, ⟨99, _⟩ => ⟨S65536x6144, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩

abbrev nD : Nat := 1
abbrev τ : Topo := Topo.v7x

variable {F : FTy → Type} [FloatOps F]
-- ==== Kernel3.lean ====
abbrev S65536x1024 : Shape := ⟨2, ![65536, 1024]⟩
abbrev S1x1024 : Shape := ⟨2, ![1, 1024]⟩
abbrev S1024x4352 : Shape := ⟨2, ![1024, 4352]⟩
abbrev S65536x4352 : Shape := ⟨2, ![65536, 4352]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x4352, .bf16⟩
  | .hbm, ⟨3, _⟩ => ⟨S65536x4352, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4352, .bf16⟩
  | .local _ .vmem, ⟨4, _⟩ => ⟨S1024x4352, .bf16⟩
  | .local _ .vmem, ⟨5, _⟩ => ⟨S1024x4352, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S65536x1024 : Shape := ⟨2, ![65536, 1024]⟩
abbrev S1x1024 : Shape := ⟨2, ![1, 1024]⟩
abbrev S1024x4352 : Shape := ⟨2, ![1024, 4352]⟩
abbrev S1024 : Shape := ⟨1, ![1024]⟩
abbrev S_ : Shape := ⟨0, ![]⟩
abbrev S65536 : Shape := ⟨1, ![65536]⟩
abbrev S65536x1 : Shape := ⟨2, ![65536, 1]⟩
abbrev S65536x4352 : Shape := ⟨2, ![65536, 4352]⟩

abbrev nBuf : Space → Nat
  | .hbm => 23
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x4352, .bf16⟩
  | .hbm, ⟨3, _⟩ => ⟨S1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x4352, .f32⟩
  | .hbm, ⟨21, _⟩ => ⟨S65536x4352, .f32⟩
  | .hbm, ⟨22, _⟩ => ⟨S65536x4352, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S65536x1024 : Shape := ⟨2, ![65536, 1024]⟩
abbrev S1x1024 : Shape := ⟨2, ![1, 1024]⟩
abbrev S1024x4608 : Shape := ⟨2, ![1024, 4608]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S128 : Shape := ⟨1, ![128]⟩
abbrev S1x128 : Shape := ⟨2, ![1, 128]⟩
abbrev S128x1 : Shape := ⟨2, ![128, 1]⟩
abbrev S2048x128 : Shape := ⟨2, ![2048, 128]⟩
abbrev S1x2048x128 : Shape := ⟨3, ![1, 2048, 128]⟩
abbrev S6x2048x128 : Shape := ⟨3, ![6, 2048, 128]⟩
abbrev S16x65536x128 : Shape := ⟨3, ![16, 65536, 128]⟩
abbrev S4x65536x128 : Shape := ⟨3, ![4, 65536, 128]⟩
abbrev S32x256x2048 : Shape := ⟨3, ![32, 256, 2048]⟩
abbrev S1024x1024 : Shape := ⟨2, ![1024, 1024]⟩
abbrev S6x1024x128 : Shape := ⟨3, ![6, 1024, 128]⟩
abbrev S16x1024x128 : Shape := ⟨3, ![16, 1024, 128]⟩
abbrev S4x1024x128 : Shape := ⟨3, ![4, 1024, 128]⟩
abbrev S1x256x1024 : Shape := ⟨3, ![1, 256, 1024]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩
abbrev S1x1024x128 : Shape := ⟨3, ![1, 1024, 128]⟩
abbrev S1024x256 : Shape := ⟨2, ![1024, 256]⟩
abbrev S256x1024 : Shape := ⟨2, ![256, 1024]⟩

abbrev nBuf : Space → Nat
  | .hbm => 145
  | .vmem => 14
  | .smem => 0
  | _ => 0

abbrev hbmTy0_0 (i : Nat) : BufTy := match i % 128 with
  | 0 => ⟨S65536x1024, .f32⟩
  | 1 => ⟨S1x1024, .f32⟩
  | 2 => ⟨S1024x4608, .bf16⟩
  | 3 => ⟨S8, .f32⟩
  | 4 => ⟨S_, .f32⟩
  | 5 => ⟨S8, .f32⟩
  | 6 => ⟨S8, .f32⟩
  | 7 => ⟨S8, .f32⟩
  | 8 => ⟨S_, .f32⟩
  | 9 => ⟨S8, .f32⟩
  | 10 => ⟨S8, .f32⟩
  | 11 => ⟨S8, .f32⟩
  | 12 => ⟨S2048, .f32⟩
  | 13 => ⟨S2048x1, .f32⟩
  | 14 => ⟨S1x8, .f32⟩
  | 15 => ⟨S2048x8, .f32⟩
  | 16 => ⟨S2048x8, .f32⟩
  | 17 => ⟨S2048x8, .f32⟩
  | 18 => ⟨S2048x8, .f32⟩
  | 19 => ⟨S2048x8, .f32⟩
  | 20 => ⟨S128, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S128, .i32⟩
  | 28 => ⟨S128, .i32⟩
  | 29 => ⟨S_, .i32⟩
  | 30 => ⟨S128, .i32⟩
  | 31 => ⟨S128, .i1⟩
  | 32 => ⟨S_, .i32⟩
  | 33 => ⟨S128, .i32⟩
  | 34 => ⟨S128, .i1⟩
  | 35 => ⟨S_, .i32⟩
  | 36 => ⟨S_, .i1⟩
  | 37 => ⟨S128, .i1⟩
  | 38 => ⟨S128, .i1⟩
  | 39 => ⟨S128, .i1⟩
  | 40 => ⟨S128, .i32⟩
  | 41 => ⟨S128, .i32⟩
  | 42 => ⟨S128, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S128, .i32⟩
  | 50 => ⟨S128, .i32⟩
  | 51 => ⟨S_, .i32⟩
  | 52 => ⟨S128, .i32⟩
  | 53 => ⟨S128, .i1⟩
  | 54 => ⟨S_, .i32⟩
  | 55 => ⟨S128, .i32⟩
  | 56 => ⟨S128, .i1⟩
  | 57 => ⟨S_, .i32⟩
  | 58 => ⟨S_, .i1⟩
  | 59 => ⟨S128, .i1⟩
  | 60 => ⟨S128, .i1⟩
  | 61 => ⟨S128, .i1⟩
  | 62 => ⟨S128, .i32⟩
  | 63 => ⟨S128, .i32⟩
  | 64 => ⟨S128, .i32⟩
  | 65 => ⟨S1x128, .i32⟩
  | 66 => ⟨S_, .i32⟩
  | 67 => ⟨S1x128, .i32⟩
  | 68 => ⟨S1x128, .i1⟩
  | 69 => ⟨S_, .i32⟩
  | 70 => ⟨S128, .i32⟩
  | 71 => ⟨S128, .i1⟩
  | 72 => ⟨S_, .i32⟩
  | 73 => ⟨S128, .i32⟩
  | 74 => ⟨S128, .i32⟩
  | 75 => ⟨S128, .i32⟩
  | 76 => ⟨S128x1, .i32⟩
  | 77 => ⟨S2048x128, .f32⟩
  | 78 => ⟨S_, .f32⟩
  | 79 => ⟨S_, .f32⟩
  | 80 => ⟨S2048x128, .i1⟩
  | 81 => ⟨S2048x128, .f32⟩
  | 82 => ⟨S2048x128, .f32⟩
  | 83 => ⟨S1x128, .i32⟩
  | 84 => ⟨S_, .i32⟩
  | 85 => ⟨S1x128, .i32⟩
  | 86 => ⟨S1x128, .i1⟩
  | 87 => ⟨S_, .i32⟩
  | 88 => ⟨S128, .i32⟩
  | 89 => ⟨S128, .i1⟩
  | 90 => ⟨S_, .i32⟩
  | 91 => ⟨S128, .i32⟩
  | 92 => ⟨S128, .i32⟩
  | 93 => ⟨S128, .i32⟩
  | 94 => ⟨S128x1, .i32⟩
  | 95 => ⟨S2048x128, .f32⟩
  | 96 => ⟨S2048x128, .f32⟩
  | 97 => ⟨S_, .f32⟩
  | 98 => ⟨S_, .f32⟩
  | 99 => ⟨S2048x128, .i1⟩
  | 100 => ⟨S2048x128, .f32⟩
  | 101 => ⟨S2048x128, .f32⟩
  | 102 => ⟨S1x128, .i32⟩
  | 103 => ⟨S_, .i32⟩
  | 104 => ⟨S1x128, .i32⟩
  | 105 => ⟨S1x128, .i1⟩
  | 106 => ⟨S1x128, .i32⟩
  | 107 => ⟨S_, .i32⟩
  | 108 => ⟨S1x128, .i32⟩
  | 109 => ⟨S1x128, .i1⟩
  | 110 => ⟨S1x128, .i1⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S128x1, .i32⟩
  | 119 => ⟨S2048x128, .f32⟩
  | 120 => ⟨S_, .f32⟩
  | 121 => ⟨S_, .f32⟩
  | 122 => ⟨S2048x128, .i1⟩
  | 123 => ⟨S2048x128, .f32⟩
  | 124 => ⟨S2048x128, .f32⟩
  | 125 => ⟨S_, .f32⟩
  | 126 => ⟨S2048x128, .f32⟩
  | 127 => ⟨S2048x128, .f32⟩
  | _ => ⟨S65536x1024, .f32⟩

abbrev hbmTy0_1 (i : Nat) : BufTy := match i % 128 with
  | 0 => ⟨S_, .f32⟩
  | 1 => ⟨S2048x128, .f32⟩
  | 2 => ⟨S2048x128, .f32⟩
  | 3 => ⟨S_, .f32⟩
  | 4 => ⟨S2048x128, .f32⟩
  | 5 => ⟨S2048x128, .f32⟩
  | 6 => ⟨S1x2048x128, .f32⟩
  | 7 => ⟨S1x2048x128, .f32⟩
  | 8 => ⟨S1x2048x128, .f32⟩
  | 9 => ⟨S1x2048x128, .f32⟩
  | 10 => ⟨S1x2048x128, .f32⟩
  | 11 => ⟨S1x2048x128, .f32⟩
  | 12 => ⟨S6x2048x128, .f32⟩
  | 13 => ⟨S16x65536x128, .bf16⟩
  | 14 => ⟨S16x65536x128, .bf16⟩
  | 15 => ⟨S4x65536x128, .bf16⟩
  | 16 => ⟨S32x256x2048, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4608, .bf16⟩
  | .local _ .vmem, ⟨4, _⟩ => ⟨S6x1024x128, .f32⟩
  | .local _ .vmem, ⟨5, _⟩ => ⟨S6x1024x128, .f32⟩
  | .local _ .vmem, ⟨6, _⟩ => ⟨S16x1024x128, .bf16⟩
  | .local _ .vmem, ⟨7, _⟩ => ⟨S16x1024x128, .bf16⟩
  | .local _ .vmem, ⟨8, _⟩ => ⟨S16x1024x128, .bf16⟩
  | .local _ .vmem, ⟨9, _⟩ => ⟨S16x1024x128, .bf16⟩
  | .local _ .vmem, ⟨10, _⟩ => ⟨S4x1024x128, .bf16⟩
  | .local _ .vmem, ⟨11, _⟩ => ⟨S4x1024x128, .bf16⟩
  | .local _ .vmem, ⟨12, _⟩ => ⟨S1x256x1024, .bf16⟩
  | .local _ .vmem, ⟨13, _⟩ => ⟨S1x256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v16 : Ref sig .tc := ⟨.hbm, 42, rfl⟩
abbrev main_c_1 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_v18 : Ref sig .tc := ⟨.hbm, 65, rfl⟩
abbrev main_c_2 : Ref sig .tc := ⟨.hbm, 66, rfl⟩
abbrev main_v19 : Ref sig .tc := ⟨.hbm, 67, rfl⟩
abbrev main_v20 : Ref sig .tc := ⟨.hbm, 68, rfl⟩
abbrev main_c_3 : Ref sig .tc := ⟨.hbm, 69, rfl⟩
abbrev main_v21 : Ref sig .tc := ⟨.hbm, 70, rfl⟩
abbrev main_v22 : Ref sig .tc := ⟨.hbm, 71, rfl⟩
abbrev main_c_4 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_5 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v28 : Ref sig .tc := ⟨.hbm, 82, rfl⟩
abbrev main_v29 : Ref sig .tc := ⟨.hbm, 83, rfl⟩
abbrev main_c_6 : Ref sig .tc := ⟨.hbm, 84, rfl⟩
abbrev main_v30 : Ref sig .tc := ⟨.hbm, 85, rfl⟩
abbrev main_v31 : Ref sig .tc := ⟨.hbm, 86, rfl⟩
abbrev main_c_7 : Ref sig .tc := ⟨.hbm, 87, rfl⟩
abbrev main_v32 : Ref sig .tc := ⟨.hbm, 88, rfl⟩
abbrev main_v33 : Ref sig .tc := ⟨.hbm, 89, rfl⟩
abbrev main_c_8 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_9 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v40 : Ref sig .tc := ⟨.hbm, 101, rfl⟩
abbrev main_v41 : Ref sig .tc := ⟨.hbm, 102, rfl⟩
abbrev main_c_10 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_c_11 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_12 : Ref sig .tc := ⟨.hbm, 111, rfl⟩
abbrev main_v48 : Ref sig .tc := ⟨.hbm, 112, rfl⟩
abbrev main_v49 : Ref sig .tc := ⟨.hbm, 113, rfl⟩
abbrev main_c_13 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_cst_14 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v55 : Ref sig .tc := ⟨.hbm, 124, rfl⟩
abbrev main_cst_15 : Ref sig .tc := ⟨.hbm, 125, rfl⟩
abbrev main_v56 : Ref sig .tc := ⟨.hbm, 126, rfl⟩
abbrev main_v57 : Ref sig .tc := ⟨.hbm, 127, rfl⟩
abbrev main_cst_16 : Ref sig .tc := ⟨.hbm, 128, rfl⟩
abbrev main_v58 : Ref sig .tc := ⟨.hbm, 129, rfl⟩
abbrev main_v59 : Ref sig .tc := ⟨.hbm, 130, rfl⟩
abbrev main_cst_17 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69_0 : Ref sig .tc := ⟨.hbm, 141, rfl⟩
abbrev main_v69_1 : Ref sig .tc := ⟨.hbm, 142, rfl⟩
abbrev main_v69_2 : Ref sig .tc := ⟨.hbm, 143, rfl⟩
abbrev main_v69_3 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S65536x1024 : Shape := ⟨2, ![65536, 1024]⟩
abbrev S1x1024 : Shape := ⟨2, ![1, 1024]⟩
abbrev S1024x4608 : Shape := ⟨2, ![1024, 4608]⟩
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4608 : Shape := ⟨3, ![32, 2048, 4608]⟩
abbrev S32x2048x2048 : Shape := ⟨3, ![32, 2048, 2048]⟩
abbrev S32x2048x32x64 : Shape := ⟨4, ![32, 2048, 32, 64]⟩
abbrev S32x2048x256 : Shape := ⟨3, ![32, 2048, 256]⟩
abbrev S32x2048x4x64 : Shape := ⟨4, ![32, 2048, 4, 64]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S32x2048x32x16 : Shape := ⟨4, ![32, 2048, 32, 16]⟩
abbrev S32x2048x32x8 : Shape := ⟨4, ![32, 2048, 32, 8]⟩
abbrev S32x2048x32x48 : Shape := ⟨4, ![32, 2048, 32, 48]⟩
abbrev S32x2048x4x16 : Shape := ⟨4, ![32, 2048, 4, 16]⟩
abbrev S32x2048x4x8 : Shape := ⟨4, ![32, 2048, 4, 8]⟩
abbrev S32x2048x4x48 : Shape := ⟨4, ![32, 2048, 4, 48]⟩
abbrev S32x2048x4x128 : Shape := ⟨4, ![32, 2048, 4, 128]⟩
abbrev S65536x4x128 : Shape := ⟨3, ![65536, 4, 128]⟩
abbrev S4x65536x128 : Shape := ⟨3, ![4, 65536, 128]⟩
abbrev S65536x16x128 : Shape := ⟨3, ![65536, 16, 128]⟩
abbrev S16x65536x128 : Shape := ⟨3, ![16, 65536, 128]⟩
abbrev S32x256x2048 : Shape := ⟨3, ![32, 256, 2048]⟩

abbrev nBuf : Space → Nat
  | .hbm => 117
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x4608, .bf16⟩
  | .hbm, ⟨3, _⟩ => ⟨S32x2048x1024, .f32⟩
  | .hbm, ⟨4, _⟩ => ⟨S1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S1024x4608, .f32⟩
  | .hbm, ⟨22, _⟩ => ⟨S32x2048x4608, .f32⟩
  | .hbm, ⟨23, _⟩ => ⟨S32x2048x2048, .f32⟩
  | .hbm, ⟨24, _⟩ => ⟨S32x2048x32x64, .f32⟩
  | .hbm, ⟨25, _⟩ => ⟨S32x2048x2048, .f32⟩
  | .hbm, ⟨26, _⟩ => ⟨S32x2048x256, .f32⟩
  | .hbm, ⟨27, _⟩ => ⟨S32x2048x4x64, .f32⟩
  | .hbm, ⟨28, _⟩ => ⟨S32x2048x256, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S2048, .f32⟩
  | .hbm, ⟨39, _⟩ => ⟨S2048x1, .f32⟩
  | .hbm, ⟨40, _⟩ => ⟨S1x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S1x2048x1x8, .f32⟩
  | .hbm, ⟨46, _⟩ => ⟨S2048x8, .f32⟩
  | .hbm, ⟨47, _⟩ => ⟨S1x2048x1x8, .f32⟩
  | .hbm, ⟨48, _⟩ => ⟨S32x2048x32x16, .f32⟩
  | .hbm, ⟨49, _⟩ => ⟨S32x2048x32x8, .f32⟩
  | .hbm, ⟨50, _⟩ => ⟨S32x2048x32x8, .f32⟩
  | .hbm, ⟨51, _⟩ => ⟨S32x2048x32x8, .f32⟩
  | .hbm, ⟨52, _⟩ => ⟨S32x2048x32x8, .f32⟩
  | .hbm, ⟨53, _⟩ => ⟨S32x2048x32x8, .f32⟩
  | .hbm, ⟨54, _⟩ => ⟨S32x2048x32x8, .f32⟩
  | .hbm, ⟨55, _⟩ => ⟨S32x2048x32x8, .f32⟩
  | .hbm, ⟨56, _⟩ => ⟨S32x2048x32x8, .f32⟩
  | .hbm, ⟨57, _⟩ => ⟨S32x2048x32x8, .f32⟩
  | .hbm, ⟨58, _⟩ => ⟨S32x2048x32x8, .f32⟩
  | .hbm, ⟨59, _⟩ => ⟨S32x2048x32x8, .f32⟩
  | .hbm, ⟨60, _⟩ => ⟨S32x2048x32x8, .f32⟩
  | .hbm, ⟨61, _⟩ => ⟨S32x2048x32x16, .f32⟩
  | .hbm, ⟨62, _⟩ => ⟨S32x2048x32x48, .f32⟩
  | .hbm, ⟨63, _⟩ => ⟨S32x2048x32x64, .f32⟩
  | .hbm, ⟨64, _⟩ => ⟨S_, .f32⟩
  | .hbm, ⟨65, _⟩ => ⟨S32x2048x32x64, .f32⟩
  | .hbm, ⟨66, _⟩ => ⟨S32x2048x32x64, .f32⟩
  | .hbm, ⟨67, _⟩ => ⟨S_, .f32⟩
  | .hbm, ⟨68, _⟩ => ⟨S32x2048x32x64, .f32⟩
  | .hbm, ⟨69, _⟩ => ⟨S32x2048x32x64, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S2048, .f32⟩
  | .hbm, ⟨80, _⟩ => ⟨S2048x1, .f32⟩
  | .hbm, ⟨81, _⟩ => ⟨S1x8, .f32⟩
  | .hbm, ⟨82, _⟩ => ⟨S2048x8, .f32⟩
  | .hbm, ⟨83, _⟩ => ⟨S2048x8, .f32⟩
  | .hbm, ⟨84, _⟩ => ⟨S2048x8, .f32⟩
  | .hbm, ⟨85, _⟩ => ⟨S2048x8, .f32⟩
  | .hbm, ⟨86, _⟩ => ⟨S1x2048x1x8, .f32⟩
  | .hbm, ⟨87, _⟩ => ⟨S2048x8, .f32⟩
  | .hbm, ⟨88, _⟩ => ⟨S1x2048x1x8, .f32⟩
  | .hbm, ⟨89, _⟩ => ⟨S32x2048x4x16, .f32⟩
  | .hbm, ⟨90, _⟩ => ⟨S32x2048x4x8, .f32⟩
  | .hbm, ⟨91, _⟩ => ⟨S32x2048x4x8, .f32⟩
  | .hbm, ⟨92, _⟩ => ⟨S32x2048x4x8, .f32⟩
  | .hbm, ⟨93, _⟩ => ⟨S32x2048x4x8, .f32⟩
  | .hbm, ⟨94, _⟩ => ⟨S32x2048x4x8, .f32⟩
  | .hbm, ⟨95, _⟩ => ⟨S32x2048x4x8, .f32⟩
  | .hbm, ⟨96, _⟩ => ⟨S32x2048x4x8, .f32⟩
  | .hbm, ⟨97, _⟩ => ⟨S32x2048x4x8, .f32⟩
  | .hbm, ⟨98, _⟩ => ⟨S32x2048x4x8, .f32⟩
  | .hbm, ⟨99, _⟩ => ⟨S32x2048x4x8, .f32⟩
  | .hbm, ⟨100, _⟩ => ⟨S32x2048x4x8, .f32⟩
  | .hbm, ⟨101, _⟩ => ⟨S32x2048x4x8, .f32⟩
  | .hbm, ⟨102, _⟩ => ⟨S32x2048x4x16, .f32⟩
  | .hbm, ⟨103, _⟩ => ⟨S32x2048x4x48, .f32⟩
  | .hbm, ⟨104, _⟩ => ⟨S32x2048x4x64, .f32⟩
  | .hbm, ⟨105, _⟩ => ⟨S32x2048x4x128, .f32⟩
  | .hbm, ⟨106, _⟩ => ⟨S65536x4x128, .f32⟩
  | .hbm, ⟨107, _⟩ => ⟨S4x65536x128, .f32⟩
  | .hbm, ⟨108, _⟩ => ⟨S65536x16x128, .f32⟩
  | .hbm, ⟨109, _⟩ => ⟨S16x65536x128, .f32⟩
  | .hbm, ⟨110, _⟩ => ⟨S16x65536x128, .bf16⟩
  | .hbm, ⟨111, _⟩ => ⟨S65536x16x128, .f32⟩
  | .hbm, ⟨112, _⟩ => ⟨S16x65536x128, .f32⟩
  | .hbm, ⟨113, _⟩ => ⟨S16x65536x128, .bf16⟩
  | .hbm, ⟨114, _⟩ => ⟨S4x65536x128, .bf16⟩
  | .hbm, ⟨115, _⟩ => ⟨S32x256x2048, .f32⟩
  | .hbm, ⟨116, _⟩ => ⟨S32x256x2048, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_7 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩

abbrev nD : Nat := 1
abbrev τ : Topo := Topo.v7x

variable {F : FTy → Type} [FloatOps F]
-- ==== Kernel5.lean ====
abbrev S65536x1024 : Shape := ⟨2, ![65536, 1024]⟩
abbrev S65536x128 : Shape := ⟨2, ![65536, 128]⟩
abbrev S2176x1024 : Shape := ⟨2, ![2176, 1024]⟩
abbrev S512x1024 : Shape := ⟨2, ![512, 1024]⟩
abbrev S512x128 : Shape := ⟨2, ![512, 128]⟩
abbrev S1024x1024 : Shape := ⟨2, ![1024, 1024]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x128, .bf16⟩
  | .hbm, ⟨3, _⟩ => ⟨S65536x1024, .f32⟩
  | .hbm, ⟨4, _⟩ => ⟨S2176x1024, .bf16⟩
  | .hbm, ⟨5, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S512x1024, .f32⟩
  | .local _ .vmem, ⟨7, _⟩ => ⟨S512x1024, .f32⟩
  | .local _ .vmem, ⟨8, _⟩ => ⟨S2176x1024, .bf16⟩
  | .local _ .vmem, ⟨9, _⟩ => ⟨S512x1024, .f32⟩
  | .local _ .vmem, ⟨10, _⟩ => ⟨S512x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2176x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S65536x1024 : Shape := ⟨2, ![65536, 1024]⟩
abbrev S65536x128 : Shape := ⟨2, ![65536, 128]⟩
abbrev S2176x1024 : Shape := ⟨2, ![2176, 1024]⟩
abbrev S65536x2176 : Shape := ⟨2, ![65536, 2176]⟩

abbrev nBuf : Space → Nat
  | .hbm => 10
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x128, .bf16⟩
  | .hbm, ⟨3, _⟩ => ⟨S65536x1024, .f32⟩
  | .hbm, ⟨4, _⟩ => ⟨S2176x1024, .bf16⟩
  | .hbm, ⟨5, _⟩ => ⟨S65536x2176, .bf16⟩
  | .hbm, ⟨6, _⟩ => ⟨S65536x2176, .f32⟩
  | .hbm, ⟨7, _⟩ => ⟨S2176x1024, .f32⟩
  | .hbm, ⟨8, _⟩ => ⟨S65536x1024, .f32⟩
  | .hbm, ⟨9, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel6.lean ====
abbrev S2x4 : Shape := ⟨2, ![2, 4]⟩
abbrev S32x2048x6144 : Shape := ⟨3, ![32, 2048, 6144]⟩
abbrev S32x2048x2048 : Shape := ⟨3, ![32, 2048, 2048]⟩
abbrev S32x2048x1024 : Shape := ⟨3, ![32, 2048, 1024]⟩
abbrev S2048x1024 : Shape := ⟨2, ![2048, 1024]⟩
abbrev S2x256x1024 : Shape := ⟨3, ![2, 256, 1024]⟩
abbrev S2x256x2048 : Shape := ⟨3, ![2, 256, 2048]⟩
abbrev S2x4x256x512 : Shape := ⟨4, ![2, 4, 256, 512]⟩
abbrev S4x256x256 : Shape := ⟨3, ![4, 256, 256]⟩
abbrev S4x2x256x128 : Shape := ⟨4, ![4, 2, 256, 128]⟩
abbrev S256x256 : Shape := ⟨2, ![256, 256]⟩
abbrev S256x128 : Shape := ⟨2, ![256, 128]⟩
abbrev S1x1 : Shape := ⟨2, ![1, 1]⟩
abbrev S1x1x256x128 : Shape := ⟨4, ![1, 1, 256, 128]⟩
abbrev S1x256x256 : Shape := ⟨3, ![1, 256, 256]⟩
abbrev S1x256x512 : Shape := ⟨3, ![1, 256, 512]⟩
abbrev S256x512 : Shape := ⟨2, ![256, 512]⟩
abbrev S1x512 : Shape := ⟨2, ![1, 512]⟩
abbrev S1x1x256x512 : Shape := ⟨4, ![1, 1, 256, 512]⟩
abbrev S512x512 : Shape := ⟨2, ![512, 512]⟩
abbrev S256 : Shape := ⟨1, ![256]⟩
abbrev S256x1 : Shape := ⟨2, ![256, 1]⟩
abbrev S256x2048 : Shape := ⟨2, ![256, 2048]⟩
abbrev S1x256x1024 : Shape := ⟨3, ![1, 256, 1024]⟩
abbrev S256x1024 : Shape := ⟨2, ![256, 1024]⟩

abbrev nBuf : Space → Nat
  | .hbm => 6
  | .vmem => 18
  | .smem => 1
  | _ => 0

abbrev bufTy : (tb : Table) → Fin (tcTables nBuf tb) → BufTy
  | .hbm, ⟨0, _⟩ => ⟨S2x4, .f32⟩
  | .hbm, ⟨1, _⟩ => ⟨S32x2048x6144, .bf16⟩
  | .hbm, ⟨2, _⟩ => ⟨S32x2048x2048, .bf16⟩
  | .hbm, ⟨3, _⟩ => ⟨S32x2048x1024, .f32⟩
  | .hbm, ⟨4, _⟩ => ⟨S2048x1024, .bf16⟩
  | .hbm, ⟨5, _⟩ => ⟨S32x2048x1024, .f32⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .vmem, ⟨7, _⟩ => ⟨S2x256x2048, .bf16⟩
  | .local _ .vmem, ⟨8, _⟩ => ⟨S2x256x2048, .bf16⟩
  | .local _ .vmem, ⟨9, _⟩ => ⟨S2x256x2048, .bf16⟩
  | .local _ .vmem, ⟨10, _⟩ => ⟨S2x256x1024, .f32⟩
  | .local _ .vmem, ⟨11, _⟩ => ⟨S2x256x1024, .f32⟩
  | .local _ .vmem, ⟨12, _⟩ => ⟨S2048x1024, .bf16⟩
  | .local _ .vmem, ⟨13, _⟩ => ⟨S2x256x1024, .f32⟩
  | .local _ .vmem, ⟨14, _⟩ => ⟨S2x256x1024, .f32⟩
  | .local _ .vmem, ⟨15, _⟩ => ⟨S2x4x256x512, .f32⟩
  | .local _ .vmem, ⟨16, _⟩ => ⟨S4x256x256, .f32⟩
  | .local _ .vmem, ⟨17, _⟩ => ⟨S4x2x256x128, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S2x4 : Shape := ⟨2, ![2, 4]⟩
abbrev S32x2048x6144 : Shape := ⟨3, ![32, 2048, 6144]⟩
abbrev S32x2048x2048 : Shape := ⟨3, ![32, 2048, 2048]⟩
abbrev S32x2048x1024 : Shape := ⟨3, ![32, 2048, 1024]⟩
abbrev S2048x1024 : Shape := ⟨2, ![2048, 1024]⟩
abbrev S32x2048x4x256 : Shape := ⟨4, ![32, 2048, 4, 256]⟩
abbrev S32x2048x4x512 : Shape := ⟨4, ![32, 2048, 4, 512]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S4x1x1 : Shape := ⟨3, ![4, 1, 1]⟩
abbrev S4x128x128 : Shape := ⟨3, ![4, 128, 128]⟩
abbrev S128x4 : Shape := ⟨2, ![128, 4]⟩
abbrev S1x128x4x1 : Shape := ⟨4, ![1, 128, 4, 1]⟩
abbrev S1x4x1x1 : Shape := ⟨4, ![1, 4, 1, 1]⟩
abbrev S32x4x256x512 : Shape := ⟨4, ![32, 4, 256, 512]⟩
abbrev S32x16x128x4x256 : Shape := ⟨5, ![32, 16, 128, 4, 256]⟩
abbrev S16x32x128x4x256 : Shape := ⟨5, ![16, 32, 128, 4, 256]⟩
abbrev S32x16x128x4x512 : Shape := ⟨5, ![32, 16, 128, 4, 512]⟩
abbrev S16x32x128x4x512 : Shape := ⟨5, ![16, 32, 128, 4, 512]⟩
abbrev S1x32x128x4x256 : Shape := ⟨5, ![1, 32, 128, 4, 256]⟩
abbrev S32x128x4x256 : Shape := ⟨4, ![32, 128, 4, 256]⟩
abbrev S1x32x128x4x512 : Shape := ⟨5, ![1, 32, 128, 4, 512]⟩
abbrev S32x128x4x512 : Shape := ⟨4, ![32, 128, 4, 512]⟩
abbrev S32x4x128x128 : Shape := ⟨4, ![32, 4, 128, 128]⟩
abbrev S1x4x128x128 : Shape := ⟨4, ![1, 4, 128, 128]⟩
abbrev S32x4x512x128 : Shape := ⟨4, ![32, 4, 512, 128]⟩
abbrev S32x2048x4 : Shape := ⟨3, ![32, 2048, 4]⟩
abbrev S32x2048x4x1 : Shape := ⟨4, ![32, 2048, 4, 1]⟩

abbrev nBuf : Space → Nat
  | .hbm => 164
  | .vmem => 0
  | .smem => 0
  | _ => 0

abbrev hbmTy0_0 (i : Nat) : BufTy := match i % 128 with
  | 0 => ⟨S2x4, .f32⟩
  | 1 => ⟨S32x2048x6144, .bf16⟩
  | 2 => ⟨S32x2048x2048, .bf16⟩
  | 3 => ⟨S32x2048x1024, .f32⟩
  | 4 => ⟨S2048x1024, .bf16⟩
  | 5 => ⟨S32x2048x6144, .f32⟩
  | 6 => ⟨S32x2048x1024, .f32⟩
  | 7 => ⟨S32x2048x4x256, .f32⟩
  | 8 => ⟨S32x2048x1024, .f32⟩
  | 9 => ⟨S32x2048x4x256, .f32⟩
  | 10 => ⟨S32x2048x2048, .f32⟩
  | 11 => ⟨S32x2048x4x512, .f32⟩
  | 12 => ⟨S1x4, .f32⟩
  | 13 => ⟨S4, .f32⟩
  | 14 => ⟨S128, .f32⟩
  | 15 => ⟨S128x1, .f32⟩
  | 16 => ⟨S1x128, .f32⟩
  | 17 => ⟨S128x128, .f32⟩
  | 18 => ⟨S128x128, .f32⟩
  | 19 => ⟨S128x128, .f32⟩
  | 20 => ⟨S_, .f32⟩
  | 21 => ⟨S128x128, .f32⟩
  | 22 => ⟨S128x128, .i1⟩
  | 23 => ⟨S1x128x128, .i1⟩
  | 24 => ⟨S_, .f32⟩
  | 25 => ⟨S_, .f32⟩
  | 26 => ⟨S128x128, .f32⟩
  | 27 => ⟨S128x128, .f32⟩
  | 28 => ⟨S1x128x128, .f32⟩
  | 29 => ⟨S4x1x1, .f32⟩
  | 30 => ⟨S4x128x128, .f32⟩
  | 31 => ⟨S4x128x128, .f32⟩
  | 32 => ⟨S4x128x128, .f32⟩
  | 33 => ⟨S4x128x128, .f32⟩
  | 34 => ⟨S_, .f32⟩
  | 35 => ⟨S_, .f32⟩
  | 36 => ⟨S4x128x128, .i1⟩
  | 37 => ⟨S4x128x128, .f32⟩
  | 38 => ⟨S4x128x128, .f32⟩
  | 39 => ⟨S_, .f32⟩
  | 40 => ⟨S128, .f32⟩
  | 41 => ⟨S128, .f32⟩
  | 42 => ⟨S128x1, .f32⟩
  | 43 => ⟨S1x4, .f32⟩
  | 44 => ⟨S128x4, .f32⟩
  | 45 => ⟨S128x4, .f32⟩
  | 46 => ⟨S128x4, .f32⟩
  | 47 => ⟨S128x4, .f32⟩
  | 48 => ⟨S1x128x4x1, .f32⟩
  | 49 => ⟨S_, .f32⟩
  | 50 => ⟨S128, .f32⟩
  | 51 => ⟨S128, .f32⟩
  | 52 => ⟨S128x1, .f32⟩
  | 53 => ⟨S1x4, .f32⟩
  | 54 => ⟨S128x4, .f32⟩
  | 55 => ⟨S128x4, .f32⟩
  | 56 => ⟨S128x4, .f32⟩
  | 57 => ⟨S128x4, .f32⟩
  | 58 => ⟨S1x128x4x1, .f32⟩
  | 59 => ⟨S_, .f32⟩
  | 60 => ⟨S4, .f32⟩
  | 61 => ⟨S4, .f32⟩
  | 62 => ⟨S4, .f32⟩
  | 63 => ⟨S1x4x1x1, .f32⟩
  | 64 => ⟨S_, .f32⟩
  | 65 => ⟨S32x4x256x512, .f32⟩
  | 66 => ⟨S32x16x128x4x256, .f32⟩
  | 67 => ⟨S16x32x128x4x256, .f32⟩
  | 68 => ⟨S32x16x128x4x256, .f32⟩
  | 69 => ⟨S16x32x128x4x256, .f32⟩
  | 70 => ⟨S32x16x128x4x512, .f32⟩
  | 71 => ⟨S16x32x128x4x512, .f32⟩
  | 72 => ⟨S_, .f32⟩
  | 73 => ⟨S16x32x128x4x512, .f32⟩
  | 74 => ⟨S_, .i32⟩
  | 75 => ⟨S16x32x128x4x256, .f32⟩
  | 76 => ⟨S16x32x128x4x256, .f32⟩
  | 77 => ⟨S16x32x128x4x512, .f32⟩
  | 78 => ⟨S4x128x128, .f32⟩
  | 79 => ⟨S1x128x4x1, .f32⟩
  | 80 => ⟨S1x4x1x1, .f32⟩
  | 81 => ⟨S1x128x4x1, .f32⟩
  | 82 => ⟨S_, .i32⟩
  | 83 => ⟨S32x4x256x512, .f32⟩
  | 84 => ⟨S16x32x128x4x512, .f32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1x32x128x4x256, .f32⟩
  | 92 => ⟨S32x128x4x256, .f32⟩
  | 93 => ⟨S_, .i32⟩
  | 94 => ⟨S_, .i32⟩
  | 95 => ⟨S_, .i32⟩
  | 96 => ⟨S_, .i32⟩
  | 97 => ⟨S1x32x128x4x256, .f32⟩
  | 98 => ⟨S32x128x4x256, .f32⟩
  | 99 => ⟨S_, .i32⟩
  | 100 => ⟨S_, .i32⟩
  | 101 => ⟨S_, .i32⟩
  | 102 => ⟨S_, .i32⟩
  | 103 => ⟨S1x32x128x4x512, .f32⟩
  | 104 => ⟨S32x128x4x512, .f32⟩
  | 105 => ⟨S32x4x128x128, .f32⟩
  | 106 => ⟨S1x4x128x128, .f32⟩
  | 107 => ⟨S32x4x128x128, .f32⟩
  | 108 => ⟨S32x4x128x128, .f32⟩
  | 109 => ⟨S32x4x512x128, .f32⟩
  | 110 => ⟨S32x128x4x512, .f32⟩
  | 111 => ⟨S32x4x512x128, .f32⟩
  | 112 => ⟨S32x128x4x512, .f32⟩
  | 113 => ⟨S32x128x4x512, .f32⟩
  | 114 => ⟨S32x128x4x512, .f32⟩
  | 115 => ⟨S32x4x256x512, .f32⟩
  | 116 => ⟨S32x4x256x512, .f32⟩
  | 117 => ⟨S32x128x4x256, .f32⟩
  | 118 => ⟨S32x128x4x256, .f32⟩
  | 119 => ⟨S32x4x256x512, .f32⟩
  | 120 => ⟨S32x4x256x512, .f32⟩
  | 121 => ⟨S32x128x4x512, .f32⟩
  | 122 => ⟨S1x32x128x4x512, .f32⟩
  | 123 => ⟨S_, .i32⟩
  | 124 => ⟨S_, .i32⟩
  | 125 => ⟨S_, .i32⟩
  | 126 => ⟨S_, .i32⟩
  | 127 => ⟨S16x32x128x4x512, .f32⟩
  | _ => ⟨S2x4, .f32⟩

abbrev hbmTy0_1 (i : Nat) : BufTy := match i % 128 with
  | 0 => ⟨S_, .i32⟩
  | 1 => ⟨S_, .i32⟩
  | 2 => ⟨S32x16x128x4x512, .f32⟩
  | 3 => ⟨S32x2048x4x512, .f32⟩
  | 4 => ⟨S32x2048x2048, .f32⟩
  | 5 => ⟨S32x2048x4x512, .f32⟩
  | 6 => ⟨S32x2048x4x512, .f32⟩
  | 7 => ⟨S32x2048x4x512, .f32⟩
  | 8 => ⟨S_, .f32⟩
  | 9 => ⟨S32x2048x4, .f32⟩
  | 10 => ⟨S32x2048x4x1, .f32⟩
  | 11 => ⟨S_, .f32⟩
  | 12 => ⟨S32x2048x4x1, .f32⟩
  | 13 => ⟨S32x2048x4x1, .f32⟩
  | 14 => ⟨S_, .f32⟩
  | 15 => ⟨S32x2048x4x1, .f32⟩
  | 16 => ⟨S32x2048x4x1, .f32⟩
  | 17 => ⟨S32x2048x4x1, .f32⟩
  | 18 => ⟨S32x2048x4x512, .f32⟩
  | 19 => ⟨S32x2048x4x512, .f32⟩
  | 20 => ⟨S32x2048x2048, .f32⟩
  | 21 => ⟨S32x2048x2048, .bf16⟩
  | 22 => ⟨S32x2048x2048, .f32⟩
  | 23 => ⟨S32x2048x2048, .f32⟩
  | 24 => ⟨S32x2048x2048, .f32⟩
  | 25 => ⟨S_, .f32⟩
  | 26 => ⟨S32x2048x2048, .f32⟩
  | 27 => ⟨S32x2048x2048, .f32⟩
  | 28 => ⟨S_, .f32⟩
  | 29 => ⟨S32x2048x2048, .f32⟩
  | 30 => ⟨S32x2048x2048, .f32⟩
  | 31 => ⟨S32x2048x2048, .f32⟩
  | 32 => ⟨S32x2048x2048, .f32⟩
  | 33 => ⟨S2048x1024, .f32⟩
  | 34 => ⟨S32x2048x1024, .f32⟩
  | 35 => ⟨S32x2048x1024, .f32⟩
  | _ => ⟨S2x4, .f32⟩

abbrev hbmTy (i : Nat) : BufTy := match i / 128 with
  | 0 => hbmTy0_0 i
  | 1 => hbmTy0_1 i
  | _ => ⟨S2x4, .f32⟩

abbrev bufTy : (tb : Table) → Fin (tcTables nBuf tb) → BufTy
  | .hbm, ⟨i, _⟩ => hbmTy i
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_c : Ref sig .tc := ⟨.hbm, 74, rfl⟩
abbrev main_v56_0 : Ref sig .tc := ⟨.hbm, 75, rfl⟩
abbrev main_v56_1 : Ref sig .tc := ⟨.hbm, 76, rfl⟩
abbrev main_v56_2 : Ref sig .tc := ⟨.hbm, 77, rfl⟩
abbrev main_v56_3 : Ref sig .tc := ⟨.hbm, 78, rfl⟩
abbrev main_v56_4 : Ref sig .tc := ⟨.hbm, 79, rfl⟩
abbrev main_v56_5 : Ref sig .tc := ⟨.hbm, 80, rfl⟩
abbrev main_v56_6 : Ref sig .tc := ⟨.hbm, 81, rfl⟩
abbrev main_v56_7 : Ref sig .tc := ⟨.hbm, 82, rfl⟩
abbrev main_v56_8 : Ref sig .tc := ⟨.hbm, 83, rfl⟩
abbrev main_v56_9 : Ref sig .tc := ⟨.hbm, 84, rfl⟩
abbrev main_while0c_c_19 : Ref sig .tc := ⟨.hbm, 85, rfl⟩
abbrev main_while0c_v80 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_c_1 : Ref sig .tc := ⟨.hbm, 89, rfl⟩
abbrev main_while0b_call2_c_2 : Ref sig .tc := ⟨.hbm, 90, rfl⟩
abbrev main_while0b_call2_v0 : Ref sig .tc := ⟨.hbm, 91, rfl⟩
abbrev main_while0b_v80 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v81 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_call5_v0 : Ref sig .tc := ⟨.hbm, 122, rfl⟩
abbrev main_while0b_call5_c : Ref sig .tc := ⟨.hbm, 123, rfl⟩
abbrev main_while0b_call5_c_0 : Ref sig .tc := ⟨.hbm, 124, rfl⟩
abbrev main_while0b_call5_c_1 : Ref sig .tc := ⟨.hbm, 125, rfl⟩
abbrev main_while0b_call5_c_2 : Ref sig .tc := ⟨.hbm, 126, rfl⟩
abbrev main_while0b_v100 : Ref sig .tc := ⟨.hbm, 127, rfl⟩
abbrev main_while0b_c_19 : Ref sig .tc := ⟨.hbm, 128, rfl⟩
abbrev main_while0b_v101 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_7 : Ref sig .tc := ⟨.hbm, 136, rfl⟩
abbrev main_v63 : Ref sig .tc := ⟨.hbm, 137, rfl⟩
abbrev main_v64 : Ref sig .tc := ⟨.hbm, 138, rfl⟩
abbrev main_cst_8 : Ref sig .tc := ⟨.hbm, 139, rfl⟩
abbrev main_v65 : Ref sig .tc := ⟨.hbm, 140, rfl⟩
abbrev main_v66 : Ref sig .tc := ⟨.hbm, 141, rfl⟩
abbrev main_cst_9 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_call6_v0 : Ref sig .tc := ⟨.hbm, 151, rfl⟩
abbrev main_call6_v1 : Ref sig .tc := ⟨.hbm, 152, rfl⟩
abbrev main_call6_cst : Ref sig .tc := ⟨.hbm, 153, rfl⟩
abbrev main_call6_v2 : Ref sig .tc := ⟨.hbm, 154, rfl⟩
abbrev main_call6_v3 : Ref sig .tc := ⟨.hbm, 155, rfl⟩
abbrev main_call6_cst_0 : Ref sig .tc := ⟨.hbm, 156, rfl⟩
abbrev main_call6_v4 : Ref sig .tc := ⟨.hbm, 157, rfl⟩
abbrev main_call6_v5 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩

abbrev nD : Nat := 1
abbrev τ : Topo := Topo.v7x

variable {F : FTy → Type} [FloatOps F]

abbrev main_while0_count : Scf.Loop 32 := ⟨0#32, 16#32, 1#32⟩
-- ==== Kernel7.lean ====
abbrev S2x128x128x1024 : Shape := ⟨4, ![2, 128, 128, 1024]⟩
abbrev S1x1024 : Shape := ⟨2, ![1, 1024]⟩
abbrev S1024x4352 : Shape := ⟨2, ![1024, 4352]⟩
abbrev S2x128x128x4352 : Shape := ⟨4, ![2, 128, 128, 4352]⟩
abbrev S1x64x8x1024 : Shape := ⟨4, ![1, 64, 8, 1024]⟩
abbrev S1x8x64x4352 : Shape := ⟨4, ![1, 8, 64, 4352]⟩
abbrev S512x1024 : Shape := ⟨2, ![512, 1024]⟩
abbrev S1x64x1x1024 : Shape := ⟨4, ![1, 64, 1, 1024]⟩
abbrev S64x1024 : Shape := ⟨2, ![64, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1x1x64x1024 : Shape := ⟨4, ![1, 1, 64, 1024]⟩
abbrev S1024x256 : Shape := ⟨2, ![1024, 256]⟩
abbrev S256x256 : Shape := ⟨2, ![256, 256]⟩
abbrev S64x256 : Shape := ⟨2, ![64, 256]⟩
abbrev S1x1x64x256 : Shape := ⟨4, ![1, 1, 64, 256]⟩

abbrev nBuf : Space → Nat
  | .hbm => 4
  | .vmem => 7
  | .smem => 0
  | _ => 0

abbrev bufTy : (tb : Table) → Fin (tcTables nBuf tb) → BufTy
  | .hbm, ⟨0, _⟩ => ⟨S2x128x128x1024, .f32⟩
  | .hbm, ⟨1, _⟩ => ⟨S1x1024, .f32⟩
  | .hbm, ⟨2, _⟩ => ⟨S1024x4352, .bf16⟩
  | .hbm, ⟨3, _⟩ => ⟨S2x128x128x4352, .bf16⟩
  | .local _ .vmem, ⟨0, _⟩ => ⟨S1x64x8x1024, .f32⟩
  | .local _ .vmem, ⟨1, _⟩ => ⟨S1x64x8x1024, .f32⟩
  | .local _ .vmem, ⟨2, _⟩ => ⟨S1x1024, .f32⟩
  | .local _ .vmem, ⟨3, _⟩ => ⟨S1024x4352, .bf16⟩
  | .local _ .vmem, ⟨4, _⟩ => ⟨S1x8x64x4352, .bf16⟩
  | .local _ .vmem, ⟨5, _⟩ => ⟨S1x8x64x4352, .bf16⟩
  | .local _ .vmem, ⟨6, _⟩ => ⟨S512x1024, .f32⟩
  | _, _ => ⟨S2x128x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x8x64x4352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S2x128x128x1024 : Shape := ⟨4, ![2, 128, 128, 1024]⟩
abbrev S1x1024 : Shape := ⟨2, ![1, 1024]⟩
abbrev S1024x4352 : Shape := ⟨2, ![1024, 4352]⟩
abbrev S1024 : Shape := ⟨1, ![1024]⟩
abbrev S_ : Shape := ⟨0, ![]⟩
abbrev S2x128x128 : Shape := ⟨3, ![2, 128, 128]⟩
abbrev S2x128x128x1 : Shape := ⟨4, ![2, 128, 128, 1]⟩
abbrev S1x1x1x1024 : Shape := ⟨4, ![1, 1, 1, 1024]⟩
abbrev S2x128x128x4352 : Shape := ⟨4, ![2, 128, 128, 4352]⟩

abbrev nBuf : Space → Nat
  | .hbm => 24
  | .vmem => 0
  | .smem => 0
  | _ => 0

abbrev bufTy : (tb : Table) → Fin (tcTables nBuf tb) → BufTy
  | .hbm, ⟨0, _⟩ => ⟨S2x128x128x1024, .f32⟩
  | .hbm, ⟨1, _⟩ => ⟨S1x1024, .f32⟩
  | .hbm, ⟨2, _⟩ => ⟨S1024x4352, .bf16⟩
  | .hbm, ⟨3, _⟩ => ⟨S1024, .f32⟩
  | .hbm, ⟨4, _⟩ => ⟨S2x128x128x1024, .f32⟩
  | .hbm, ⟨5, _⟩ => ⟨S_, .f32⟩
  | .hbm, ⟨6, _⟩ => ⟨S2x128x128, .f32⟩
  | .hbm, ⟨7, _⟩ => ⟨S2x128x128x1, .f32⟩
  | .hbm, ⟨8, _⟩ => ⟨S_, .f32⟩
  | .hbm, ⟨9, _⟩ => ⟨S2x128x128x1, .f32⟩
  | .hbm, ⟨10, _⟩ => ⟨S2x128x128x1, .f32⟩
  | .hbm, ⟨11, _⟩ => ⟨S_, .f32⟩
  | .hbm, ⟨12, _⟩ => ⟨S2x128x128x1, .f32⟩
  | .hbm, ⟨13, _⟩ => ⟨S2x128x128x1, .f32⟩
  | .hbm, ⟨14, _⟩ => ⟨S2x128x128x1, .f32⟩
  | .hbm, ⟨15, _⟩ => ⟨S2x128x128x1024, .f32⟩
  | .hbm, ⟨16, _⟩ => ⟨S2x128x128x1024, .f32⟩
  | .hbm, ⟨17, _⟩ => ⟨S1x1x1x1024, .f32⟩
  | .hbm, ⟨18, _⟩ => ⟨S2x128x128x1024, .f32⟩
  | .hbm, ⟨19, _⟩ => ⟨S2x128x128x1024, .f32⟩
  | .hbm, ⟨20, _⟩ => ⟨S1024x4352, .f32⟩
  | .hbm, ⟨21, _⟩ => ⟨S2x128x128x4352, .f32⟩
  | .hbm, ⟨22, _⟩ => ⟨S2x128x128x4352, .f32⟩
  | .hbm, ⟨23, _⟩ => ⟨S2x128x128x4352, .bf16⟩
  | _, _ => ⟨S2x128x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S128x256x128 : Shape := ⟨3, ![128, 256, 128]⟩
abbrev S2x128x128x4352 : Shape := ⟨4, ![2, 128, 128, 4352]⟩
abbrev S2x128x128x2048 : Shape := ⟨4, ![2, 128, 128, 2048]⟩
abbrev S2x128x128x128 : Shape := ⟨4, ![2, 128, 128, 128]⟩
abbrev S8x256x128 : Shape := ⟨3, ![8, 256, 128]⟩
abbrev S1x8x128x2048 : Shape := ⟨4, ![1, 8, 128, 2048]⟩
abbrev S1x8x128x128 : Shape := ⟨4, ![1, 8, 128, 128]⟩
abbrev S1x128x8x2048 : Shape := ⟨4, ![1, 128, 8, 2048]⟩
abbrev S1x128x8x128 : Shape := ⟨4, ![1, 128, 8, 128]⟩
abbrev S1x128x128 : Shape := ⟨3, ![1, 128, 128]⟩
abbrev S128x128 : Shape := ⟨2, ![128, 128]⟩
abbrev S1x1x128x2048 : Shape := ⟨4, ![1, 1, 128, 2048]⟩
abbrev S128x2048 : Shape := ⟨2, ![128, 2048]⟩
abbrev S1x128x1x2048 : Shape := ⟨4, ![1, 128, 1, 2048]⟩
abbrev S1x1x128x128 : Shape := ⟨4, ![1, 1, 128, 128]⟩
abbrev S1x128x1x128 : Shape := ⟨4, ![1, 128, 1, 128]⟩

abbrev nBuf : Space → Nat
  | .hbm => 6
  | .vmem => 14
  | .smem => 0
  | _ => 0

abbrev bufTy : (tb : Table) → Fin (tcTables nBuf tb) → BufTy
  | .hbm, ⟨0, _⟩ => ⟨S128x256x128, .bf16⟩
  | .hbm, ⟨1, _⟩ => ⟨S2x128x128x4352, .bf16⟩
  | .hbm, ⟨2, _⟩ => ⟨S2x128x128x2048, .f32⟩
  | .hbm, ⟨3, _⟩ => ⟨S2x128x128x2048, .f32⟩
  | .hbm, ⟨4, _⟩ => ⟨S2x128x128x128, .f32⟩
  | .hbm, ⟨5, _⟩ => ⟨S2x128x128x128, .f32⟩
  | .local _ .vmem, ⟨0, _⟩ => ⟨S8x256x128, .bf16⟩
  | .local _ .vmem, ⟨1, _⟩ => ⟨S8x256x128, .bf16⟩
  | .local _ .vmem, ⟨2, _⟩ => ⟨S1x8x128x2048, .bf16⟩
  | .local _ .vmem, ⟨3, _⟩ => ⟨S1x8x128x2048, .bf16⟩
  | .local _ .vmem, ⟨4, _⟩ => ⟨S1x8x128x128, .bf16⟩
  | .local _ .vmem, ⟨5, _⟩ => ⟨S1x8x128x128, .bf16⟩
  | .local _ .vmem, ⟨6, _⟩ => ⟨S1x128x8x2048, .f32⟩
  | .local _ .vmem, ⟨7, _⟩ => ⟨S1x128x8x2048, .f32⟩
  | .local _ .vmem, ⟨8, _⟩ => ⟨S1x128x8x2048, .f32⟩
  | .local _ .vmem, ⟨9, _⟩ => ⟨S1x128x8x2048, .f32⟩
  | .local _ .vmem, ⟨10, _⟩ => ⟨S1x128x8x128, .f32⟩
  | .local _ .vmem, ⟨11, _⟩ => ⟨S1x128x8x128, .f32⟩
  | .local _ .vmem, ⟨12, _⟩ => ⟨S1x128x8x128, .f32⟩
  | .local _ .vmem, ⟨13, _⟩ => ⟨S1x128x8x128, .f32⟩
  | _, _ => ⟨S128x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c32_i32 : BitVec 32 := 32#32
  let c0_i32_0 : BitVec 32 := 0#32
  ![arg0.toNat, arg1.toNat, c0_i32.toNat, c32_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference8Ideal.lean ====
abbrev S128x256x128 : Shape := ⟨3, ![128, 256, 128]⟩
abbrev S2x128x128x4352 : Shape := ⟨4, ![2, 128, 128, 4352]⟩
abbrev S2x128x128x2048 : Shape := ⟨4, ![2, 128, 128, 2048]⟩
abbrev S2x128x128x128 : Shape := ⟨4, ![2, 128, 128, 128]⟩
abbrev S128x128x128 : Shape := ⟨3, ![128, 128, 128]⟩
abbrev S128x2x2048x128 : Shape := ⟨4, ![128, 2, 2048, 128]⟩
abbrev S128x2x128x128 : Shape := ⟨4, ![128, 2, 128, 128]⟩

abbrev nBuf : Space → Nat
  | .hbm => 18
  | .vmem => 0
  | .smem => 0
  | _ => 0

abbrev bufTy : (tb : Table) → Fin (tcTables nBuf tb) → BufTy
  | .hbm, ⟨0, _⟩ => ⟨S128x256x128, .bf16⟩
  | .hbm, ⟨1, _⟩ => ⟨S2x128x128x4352, .bf16⟩
  | .hbm, ⟨2, _⟩ => ⟨S128x256x128, .f32⟩
  | .hbm, ⟨3, _⟩ => ⟨S2x128x128x4352, .f32⟩
  | .hbm, ⟨4, _⟩ => ⟨S2x128x128x2048, .f32⟩
  | .hbm, ⟨5, _⟩ => ⟨S2x128x128x128, .f32⟩
  | .hbm, ⟨6, _⟩ => ⟨S128x128x128, .f32⟩
  | .hbm, ⟨7, _⟩ => ⟨S128x2x2048x128, .f32⟩
  | .hbm, ⟨8, _⟩ => ⟨S2x128x128x2048, .f32⟩
  | .hbm, ⟨9, _⟩ => ⟨S128x128x128, .f32⟩
  | .hbm, ⟨10, _⟩ => ⟨S128x2x2048x128, .f32⟩
  | .hbm, ⟨11, _⟩ => ⟨S2x128x128x2048, .f32⟩
  | .hbm, ⟨12, _⟩ => ⟨S128x128x128, .f32⟩
  | .hbm, ⟨13, _⟩ => ⟨S128x2x128x128, .f32⟩
  | .hbm, ⟨14, _⟩ => ⟨S2x128x128x128, .f32⟩
  | .hbm, ⟨15, _⟩ => ⟨S128x128x128, .f32⟩
  | .hbm, ⟨16, _⟩ => ⟨S128x2x128x128, .f32⟩
  | .hbm, ⟨17, _⟩ => ⟨S2x128x128x128, .f32⟩
  | _, _ => ⟨S128x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel9.lean ====
abbrev S1024x2048 : Shape := ⟨2, ![1024, 2048]⟩
abbrev S4x512x640 : Shape := ⟨3, ![4, 512, 640]⟩
abbrev S1024x1024 : Shape := ⟨2, ![1024, 1024]⟩
abbrev S1024x128 : Shape := ⟨2, ![1024, 128]⟩
abbrev S1024x512 : Shape := ⟨2, ![1024, 512]⟩
abbrev S1x512x640 : Shape := ⟨3, ![1, 512, 640]⟩
abbrev S1024x256 : Shape := ⟨2, ![1024, 256]⟩
abbrev S512x640 : Shape := ⟨2, ![512, 640]⟩
abbrev S1024x640 : Shape := ⟨2, ![1024, 640]⟩

abbrev nBuf : Space → Nat
  | .hbm => 5
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S4x512x640, .f32⟩
  | .hbm, ⟨2, _⟩ => ⟨S1024x1024, .bf16⟩
  | .hbm, ⟨3, _⟩ => ⟨S1024x1024, .bf16⟩
  | .hbm, ⟨4, _⟩ => ⟨S1024x128, .f32⟩
  | .local _ .vmem, ⟨0, _⟩ => ⟨S1024x512, .f32⟩
  | .local _ .vmem, ⟨1, _⟩ => ⟨S1024x512, .f32⟩
  | .local _ .vmem, ⟨2, _⟩ => ⟨S1x512x640, .f32⟩
  | .local _ .vmem, ⟨3, _⟩ => ⟨S1x512x640, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S1024x2048 : Shape := ⟨2, ![1024, 2048]⟩
abbrev S4x512x640 : Shape := ⟨3, ![4, 512, 640]⟩
abbrev S1024x4x512 : Shape := ⟨3, ![1024, 4, 512]⟩
abbrev S4x512x256 : Shape := ⟨3, ![4, 512, 256]⟩
abbrev S4x256x1024 : Shape := ⟨3, ![4, 256, 1024]⟩
abbrev S1024x4x256 : Shape := ⟨3, ![1024, 4, 256]⟩
abbrev S1024x1024 : Shape := ⟨2, ![1024, 1024]⟩
abbrev S4x512x128 : Shape := ⟨3, ![4, 512, 128]⟩
abbrev S1024x128 : Shape := ⟨2, ![1024, 128]⟩

abbrev nBuf : Space → Nat
  | .hbm => 15
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4x512x640, .f32⟩
  | .hbm, ⟨2, _⟩ => ⟨S1024x4x512, .f32⟩
  | .hbm, ⟨3, _⟩ => ⟨S4x512x256, .f32⟩
  | .hbm, ⟨4, _⟩ => ⟨S4x256x1024, .f32⟩
  | .hbm, ⟨5, _⟩ => ⟨S1024x4x256, .f32⟩
  | .hbm, ⟨6, _⟩ => ⟨S1024x1024, .f32⟩
  | .hbm, ⟨7, _⟩ => ⟨S4x512x256, .f32⟩
  | .hbm, ⟨8, _⟩ => ⟨S4x256x1024, .f32⟩
  | .hbm, ⟨9, _⟩ => ⟨S1024x4x256, .f32⟩
  | .hbm, ⟨10, _⟩ => ⟨S1024x1024, .f32⟩
  | .hbm, ⟨11, _⟩ => ⟨S4x512x128, .f32⟩
  | .hbm, ⟨12, _⟩ => ⟨S1024x128, .f32⟩
  | .hbm, ⟨13, _⟩ => ⟨S1024x1024, .bf16⟩
  | .hbm, ⟨14, _⟩ => ⟨S1024x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Proof.Norm.lean ====
/- Root-mean-square norm of a row and its product with a column, over the extended reals. -/
module

public import Idealize.ShloMosaic.PureOps.Ideal
public import Idealize.ShloMosaic.Lib.Pointwise

@[expose] public section

noncomputable section

namespace Cert.Norm

open Idealize.ShloMosaic

/-- Entry `k` of the row `x` over the root of its mean square, scaled by `g`. -/
def nrm (x g : Fin 1024 → EReal) (k : Fin 1024) : EReal :=
  x k * Ideal.rsqrt (Ideal.div (∑ l, x l * x l) (Ideal.ofBits .f32 1149239296#32) + Ideal.ofBits .f32 897988541#32) * g k

/-- The normed row times the column `w`. -/
def pr (x g w : Fin 1024 → EReal) : EReal := ∑ k, nrm x g k * w k

end Cert.Norm
-- ==== Proof.Turn.lean ====
/- Pairs of columns turned by an angle: the first columns of a row are heads of two halves each, and a head's two halves are
   turned as the two coordinates of points of the plane. -/
module

public import proofs.«01_k».proof.Proof.Norm

@[expose] public section

noncomputable section

namespace Cert.Turn

open Idealize.ShloMosaic
open Cert.Norm

/-- The angle of position `s` and column `k` of a half head. -/
def ang (s k : ℕ) : EReal :=
  FloatOps.sitofp (F := Ideal) FTy.f32 (BitVec.ofNat 32 s) *
    Ideal.exp (-(FloatOps.sitofp (F := Ideal) FTy.f32 (BitVec.ofNat 32 k) * Ideal.ofBits FTy.f32 1006632960#32) * Ideal.ofBits FTy.f32 1091788174#32)

/-- Column `n` of the row `p` turned by the tables `co` and `si`, the heads being 256 columns wide. -/
def turn (p co si : ℕ → EReal) (n : ℕ) : EReal :=
  if n % 256 < 128 then p n * co (n % 256) - p (n + 128) * si (n % 256)
  else p n * co (n % 256 - 128) + p (n - 128) * si (n % 256 - 128)

/-- The row with its first 2048 columns turned, the first 1024 by the tables 0 and 1 and the others by the tables 2 and 3. -/
def turned (p : ℕ → EReal) (t : Fin 4 → ℕ → EReal) (n : ℕ) : EReal :=
  if n < 1024 then turn p (t 0) (t 1) n else if n < 2048 then turn p (t 2) (t 3) n else p n

variable {p : ℕ → EReal} {t : Fin 4 → ℕ → EReal} {n b : ℕ} {u v c d : EReal}

theorem lo_first (hu : u = p n) (hv : v = p (n + 128)) (hc : c = t 0 b) (hd : d = t 1 b)
    (hb : n % 256 = b) (hl : b < 128) (h : n < 1024) : u * c - v * d = turned p t n := by
  subst hu hv hc hd hb; simp only [turned, turn, h, hl, if_true]

theorem lo_last (hu : u = p n) (hv : v = p (n - 128)) (hc : c = t 0 b) (hd : d = t 1 b)
    (hb : n % 256 = b + 128) (h : n < 1024) : u * c + v * d = turned p t n := by
  have e1 : ¬ n % 256 < 128 := by omega
  have e2 : n % 256 - 128 = b := by omega
  subst hu hv hc hd; simp only [turned, turn, h, e1, e2, if_true, if_false]

theorem hi_first (hu : u = p n) (hv : v = p (n + 128)) (hc : c = t 2 b) (hd : d = t 3 b)
    (hb : n % 256 = b) (hl : b < 128) (g : ¬ n < 1024) (h : n < 2048) : u * c - v * d = turned p t n := by
  subst hu hv hc hd hb; simp only [turned, turn, g, h, hl, if_true, if_false]

theorem hi_last (hu : u = p n) (hv : v = p (n - 128)) (hc : c = t 2 b) (hd : d = t 3 b)
    (hb : n % 256 = b + 128) (g : ¬ n < 1024) (h : n < 2048) : u * c + v * d = turned p t n := by
  have e1 : ¬ n % 256 < 128 := by omega
  have e2 : n % 256 - 128 = b := by omega
  subst hu hv hc hd; simp only [turned, turn, g, h, e1, e2, if_true, if_false]

theorem rest (hu : u = p n) (h : ¬ n < 2048) : u = turned p t n := by
  have g : ¬ n < 1024 := by omega
  subst hu; simp only [turned, g, h, if_false]

/-- One sixteenth is what its bits say, a nonnegative real. -/
theorem sixteenth : Ideal.ofBits FTy.f32 1031798784#32 = ((1 / 16 : ℝ) : EReal) := by
  simp [Ideal.ofBits, Ideal.ieee, -EReal.coe_mul]; norm_num

/-- Turned by scaled tables is turned, then scaled: the scale is a nonnegative real, so it distributes over any sum. -/
theorem turn_scaled (p : ℕ → EReal) (n : ℕ) (co si : ℕ → EReal) :
    turn p (fun k => co k * Ideal.ofBits FTy.f32 1031798784#32) (fun k => si k * Ideal.ofBits FTy.f32 1031798784#32) n
      = turn p co si n * Ideal.ofBits FTy.f32 1031798784#32 := by
  have h0 : (0 : EReal) ≤ Ideal.ofBits FTy.f32 1031798784#32 := by rw [sixteenth]; exact_mod_cast (by norm_num : (0 : ℝ) ≤ 1 / 16)
  have h1 : Ideal.ofBits FTy.f32 1031798784#32 ≠ ⊤ := by rw [sixteenth]; exact EReal.coe_ne_top _
  unfold turn
  split
  · rw [sub_eq_add_neg, sub_eq_add_neg, EReal.right_distrib_of_nonneg_of_ne_top h0 h1, EReal.neg_mul, mul_assoc, mul_assoc]
  · rw [EReal.right_distrib_of_nonneg_of_ne_top h0 h1, mul_assoc, mul_assoc]

/-- A row of projected columns at position `s`: the first 1024 turned, the next 1024 turned and scaled, the others as they are. -/
def heads (p : ℕ → EReal) (s n : ℕ) : EReal :=
  if n < 1024 then turn p (fun k => Ideal.cos (ang s k)) (fun k => Ideal.sin (ang s k)) n
  else if n < 2048 then turn p (fun k => Ideal.cos (ang s k)) (fun k => Ideal.sin (ang s k)) n * Ideal.ofBits FTy.f32 1031798784#32
  else p n

/-- The kernel's four tables give the same row. -/
theorem turned_eq (p : ℕ → EReal) (n s : ℕ) (h0 : ∀ k < 128, t 0 k = Ideal.cos (ang s k)) (h1 : ∀ k < 128, t 1 k = Ideal.sin (ang s k))
    (h2 : ∀ k < 128, t 2 k = Ideal.cos (ang s k) * Ideal.ofBits FTy.f32 1031798784#32)
    (h3 : ∀ k < 128, t 3 k = Ideal.sin (ang s k) * Ideal.ofBits FTy.f32 1031798784#32) : turned p t n = heads p s n := by
  unfold turned heads
  rw [← turn_scaled]
  unfold turn
  by_cases g : n % 256 < 128
  · simp only [g, if_true, h0 _ g, h1 _ g, h2 _ g, h3 _ g]
  · have g' : n % 256 - 128 < 128 := by omega
    simp only [g, if_false, h0 _ g', h1 _ g', h2 _ g', h3 _ g']

end Cert.Turn

end
-- ==== Proof.ProjB.lean ====
/- The input projection of the block with rotated heads: a norm, one product and the turning of the heads, 1024 rows to the
   grid point. -/
module

public import proofs.«01_k».proof.Proof.Turn
public import proofs.«01_k».proof.Proof.Gen.Kernel2Ideal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)
open Cert.Norm Cert.Turn

variable (m : (ℓ : Loc nD τ sig) → Buf (Elt Ideal) ℓ) (c : Dev nD)

/-- The table of cosines. -/
theorem cos_at (s : Fin 2048) (k : Fin 128) : V m c main_v23 (ix3 0 s k) = Ideal.cos (ang s k) := by
  unfold V hostOps0
  after_reads_at
  rw [StableHlo.unary_result']
  after_reads_at
  rfl

/-- The table of sines. -/
theorem sin_at (s : Fin 2048) (k : Fin 128) : V m c main_v23 (ix3 1 s k) = Ideal.sin (ang s k) := by
  unfold V hostOps0
  after_reads_at
  rw [StableHlo.unary_result']
  after_reads_at
  rfl

/-- The table of scaled cosines. -/
theorem cosk_at (s : Fin 2048) (k : Fin 128) :
    V m c main_v23 (ix3 2 s k) = Ideal.cos (ang s k) * Ideal.ofBits FTy.f32 1031798784#32 := by
  unfold V hostOps0
  after_reads_at
  rw [StableHlo.unary_result']
  after_reads_at
  rfl

/-- The table of scaled sines. -/
theorem sink_at (s : Fin 2048) (k : Fin 128) :
    V m c main_v23 (ix3 3 s k) = Ideal.sin (ang s k) * Ideal.ofBits FTy.f32 1031798784#32 := by
  unfold V hostOps0
  after_reads_at
  rw [StableHlo.unary_result']
  after_reads_at
  rfl

/-- The projected columns of a row, by their numbers. -/
def cols (x : Fin 1024 → EReal) (g : Fin 1024 → EReal) (w : Fin 1024 → Fin 6144 → EReal) (j : ℕ) : EReal :=
  pr x g (fun k => w k (Fin.ofNat 6144 j))

theorem cols_mk (x : Fin 1024 → EReal) (g : Fin 1024 → EReal) (w : Fin 1024 → Fin 6144 → EReal) (j : ℕ) (h : j < 6144) :
    ∑ k, x k * Ideal.rsqrt (Ideal.div (∑ l, x l * x l) (Ideal.ofBits .f32 1149239296#32) + Ideal.ofBits .f32 897988541#32) * g k * w k ⟨j, h⟩
      = cols x g w j := by
  have e : Fin.ofNat 6144 j = ⟨j, h⟩ := Fin.ext (Nat.mod_eq_of_lt h)
  unfold cols
  rw [e]
  rfl

set_option maxHeartbeats 4000000 in
/-- What the body leaves, at a row and a column of its block. -/
theorem out_at (t : Fin cfg0.N) (r : Fin 1024) (n : Fin 6144) :
    outsAt0 (F := Ideal) m c t (ix2 r n) = turned (cols (fun k => iblk m c 0 t (ix2 r k)) (fun k => iblk m c 1 t (ix2 0 k))
      (fun k j => iblk m c 2 t (ix2 k j))) (fun i k => iblk m c 3 t (ix3 i r (Fin.ofNat 128 k))) n := by
  unfold outsAt0
  generalize iblk m c 0 t = x0
  generalize iblk m c 1 t = x1
  generalize iblk m c 2 t = x2
  generalize iblk m c 3 t = x3
  frame_out
  canon_tiles x h using (View.cover_of_tiledBy _ ![1024, 128] (by sl_kernel_rfl) _)
  all_goals open_payloads
  all_goals
    obtain ⟨a, b, hx⟩ : ∃ a b, x = ix2 a b := ⟨_, _, eq_ix2 x⟩
    subst hx
    obtain rfl : r = a := Fin.ext h0
    pointwise
    have e := cols_mk (fun k => x0 (ix2 r k)) (fun k => x1 (ix2 0 k)) (fun k j => x2 (ix2 k j))
    have hb := b.isLt
    first | replace h1 : n.val = _ + b.val := h1 | replace h1 : n.val = b.val := h1
    have eb : ∀ b' : Fin 128, b' = Fin.ofNat 128 b'.val := fun b' => Fin.ext (Nat.mod_eq_of_lt b'.isLt).symm
    first
      | have : n.val % 256 = b.val ∧ b.val < 128 ∧ n.val < 1024 := by omega
        refine lo_first (b := b.val) (u := _) (v := _) (c := _) (d := _) ?_ ?_ (congrArg (fun b' => x3 (ix3 0 r b')) (eb b)) (congrArg (fun b' => x3 (ix3 1 r b')) (eb b)) (by omega) (by omega) (by omega)
        all_goals refine (e _ _).trans (congrArg _ ?_); omega
      | have : n.val % 256 = b.val + 128 ∧ n.val < 1024 := by omega
        refine lo_last (b := b.val) (u := _) (v := _) (c := _) (d := _) ?_ ?_ (congrArg (fun b' => x3 (ix3 0 r b')) (eb b)) (congrArg (fun b' => x3 (ix3 1 r b')) (eb b)) (by omega) (by omega)
        all_goals refine (e _ _).trans (congrArg _ ?_); omega
      | have : n.val % 256 = b.val ∧ b.val < 128 ∧ n.val < 2048 := by omega
        refine hi_first (b := b.val) (u := _) (v := _) (c := _) (d := _) ?_ ?_ (congrArg (fun b' => x3 (ix3 2 r b')) (eb b)) (congrArg (fun b' => x3 (ix3 3 r b')) (eb b)) (by omega) (by omega) (by omega) (by omega)
        all_goals refine (e _ _).trans (congrArg _ ?_); omega
      | have : n.val % 256 = b.val + 128 ∧ n.val < 2048 := by omega
        refine hi_last (b := b.val) (u := _) (v := _) (c := _) (d := _) ?_ ?_ (congrArg (fun b' => x3 (ix3 2 r b')) (eb b)) (congrArg (fun b' => x3 (ix3 3 r b')) (eb b)) (by omega) (by omega) (by omega)
        all_goals refine (e _ _).trans (congrArg _ ?_); omega
      | refine rest ?_ (by omega)
        refine (e _ _).trans (congrArg _ ?_)
        omega

/-- The windows' block indices. -/
theorem index_eq : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = t.val % 2 ∧ win0_3.index t 2 = 0 ∧ win0_4.index t 0 = t.val ∧ win0_4.index t 1 = 0 :=
  (by decide +kernel : ∀ t : Fin grid0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = t.val % 2 ∧ win0_3.index t 2 = 0 ∧ win0_4.index t 0 = t.val ∧ win0_4.index t 1 = 0)

/-- The rows' block of a grid point. -/
theorem rows_at (t : Fin cfg0.N) (r k : Fin 1024) (R : Fin 65536) (hR : R.val = t.val * 1024 + r.val) :
    iblk m c 0 t (ix2 r k) = m ((c : Thread nD τ).loc main_arg0) (ix2 R k) := by
  obtain ⟨e0, e1, -⟩ := index_eq t
  unfold iblk
  rw [View.read_apply]
  show V m c main_arg0 _ = _
  rw [V_main_arg0]
  congr 1
  funext a
  apply Fin.ext
  match a with
  | ⟨0, _⟩ => show win0_0.index t 0 * 1024 + 1 * r.val = R.val; rw [e0, hR]; omega
  | ⟨1, _⟩ => show win0_0.index t 1 * 1024 + 1 * k.val = k.val; rw [e1]; omega

/-- The scale's block is the scale. -/
theorem scale_at (t : Fin cfg0.N) (k : Fin 1024) :
    iblk m c 1 t (ix2 0 k) = m ((c : Thread nD τ).loc main_arg1) (ix2 0 k) := by
  obtain ⟨-, -, e0, e1, -⟩ := index_eq t
  unfold iblk
  rw [View.read_apply]
  show V m c main_arg1 _ = _
  rw [V_main_arg1]
  congr 1
  funext a
  apply Fin.ext
  match a with
  | ⟨0, _⟩ => show win0_1.index t 0 * 1 + 1 * 0 = 0; rw [e0]
  | ⟨1, _⟩ => show win0_1.index t 1 * 1024 + 1 * k.val = k.val; rw [e1]; omega

/-- The weights' block is the weights. -/
theorem weights_at (t : Fin cfg0.N) (k : Fin 1024) (n : Fin 6144) :
    iblk m c 2 t (ix2 k n) = m ((c : Thread nD τ).loc main_arg2) (ix2 k n) := by
  obtain ⟨-, -, -, -, e0, e1, -⟩ := index_eq t
  unfold iblk
  rw [View.read_apply]
  show V m c main_arg2 _ = _
  rw [V_main_arg2]
  congr 1
  funext a
  apply Fin.ext
  match a with
  | ⟨0, _⟩ => show win0_2.index t 0 * 1024 + 1 * k.val = k.val; rw [e0]; omega
  | ⟨1, _⟩ => show win0_2.index t 1 * 6144 + 1 * n.val = n.val; rw [e1]; omega

/-- Where a block of the output sits. -/
theorem emb_at (t : Fin cfg0.N) (r : Fin 1024) (n : Fin 6144) (R : Fin 65536) (hR : R.val = t.val * 1024 + r.val) :
    ((cfg0.win 4).blk t).view.emb (ix2 r n) = (ix2 R n : S65536x6144.Idx) := by
  obtain ⟨-, -, -, -, -, -, -, -, -, e0, e1⟩ := index_eq t
  funext a
  apply Fin.ext
  match a with
  | ⟨0, _⟩ => show win0_4.index t 0 * 1024 + 1 * r.val = R.val; rw [e0, hR]; omega
  | ⟨1, _⟩ => show win0_4.index t 1 * 6144 + 1 * n.val = n.val; rw [e1]; omega

/-- The tables' block of a grid point. -/
theorem tables_at (t : Fin cfg0.N) (i : Fin 4) (r : Fin 1024) (k : Fin 128) (s : Fin 2048) (hs : s.val = t.val % 2 * 1024 + r.val) :
    iblk m c 3 t (ix3 i r k) = V m c main_v23 (ix3 i s k) := by
  obtain ⟨-, -, -, -, -, -, e0, e1, e2, -⟩ := index_eq t
  unfold iblk
  rw [View.read_apply]
  show V m c main_v23 _ = _
  congr 1
  funext a
  apply Fin.ext
  match a with
  | ⟨0, _⟩ => show win0_3.index t 0 * 4 + 1 * i.val = i.val; rw [e0]; omega
  | ⟨1, _⟩ => show win0_3.index t 1 * 1024 + 1 * r.val = s.val; rw [e1, hs]; omega
  | ⟨2, _⟩ => show win0_3.index t 2 * 128 + 1 * k.val = k.val; rw [e2]; omega

/-- The rows normed and projected, and their heads turned. -/
def whole (y : S65536x6144.Idx) : EReal :=
  heads (fun j => pr (fun k => m ((c : Thread nD τ).loc main_arg0) (ix2 (y 0) k)) (fun k => m ((c : Thread nD τ).loc main_arg1) (ix2 0 k))
    (fun k => m ((c : Thread nD τ).loc main_arg2) (ix2 k (Fin.ofNat 6144 j)))) ((y 0).val % 2048) (y 1).val

/-- What a grid point leaves is the result at its place. -/
theorem point_at (t : Fin cfg0.N) (r : Fin 1024) (n : Fin 6144) :
    outsAt0 (F := Ideal) m c t (ix2 r n) = whole m c (((cfg0.win 4).blk t).view.emb (ix2 r n)) := by
  have hN : t.val < 64 := t.isLt
  have hR : t.val * 1024 + r.val < 65536 := by omega
  have hs : (t.val * 1024 + r.val) % 2048 = t.val % 2 * 1024 + r.val := by omega
  have hs' : t.val % 2 * 1024 + r.val < 2048 := by omega
  have ek : ∀ k < 128, (Fin.ofNat 128 k).val = k := fun k hk => Nat.mod_eq_of_lt hk
  rw [emb_at t r n ⟨_, hR⟩ rfl]
  refine (out_at m c t r n).trans ?_
  simp only [rows_at m c t r _ ⟨_, hR⟩ rfl, scale_at, weights_at, tables_at m c t _ r _ ⟨_, hs'⟩ rfl]
  refine (turned_eq _ _ (t.val % 2 * 1024 + r.val) ?_ ?_ ?_ ?_).trans ?_
  · intro k hk; rw [cos_at, ek k hk]
  · intro k hk; rw [sin_at, ek k hk]
  · intro k hk; rw [cosk_at, ek k hk]
  · intro k hk; rw [sink_at, ek k hk]
  · rw [← hs]; rfl

/-- The output array after the run: every row normed and projected, its heads turned. -/
theorem final : (dats m 0 c).arrAt 4 cfg0.N = whole m c := by
  refine (dats m 0 c).arrAt_eq_of_covers 4 _ (by decide +kernel) fun t hf y => ?_
  blk_simp
  rw [after0_4]
  have h := point_at m c t (y 0) (y 1)
  have e : (ix2 (y 0) (y 1) : S1024x6144.Idx) = y := (eq_ix2 (n0 := 1024) (n1 := 6144) y).symm
  rw [e] at h
  exact h

end Cert.Kernel2Ideal.Hand

end
-- ==== Proof.ProjBRef.lean ====
/- The reference of the input projection of the block with rotated heads. -/
module

public import proofs.«01_k».proof.Proof.Turn
public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen Idealize.ShloMosaic Idealize.ShloMosaic.TcCoe Idealize.SL.Sem
open Cert.Norm Cert.Turn

/-- The normed rows times the weights. -/
def proj (x : FVec Ideal S65536x1024 .f32) (g : FVec Ideal S1x1024 .f32) (w : FVec Ideal S1024x6144 .bf16) : FVec Ideal S32x2048x6144 .f32 :=
  Host.dotGeneral dot_S32x2048x1024_S1024x6144_S32x2048x6144_2_0_01_1_n_n none (mulf (mulf (shapeCast _ x shapeCasts_S65536x1024_S32x2048x1024) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (shapeCast _ x shapeCasts_S65536x1024_S32x2048x1024) (shapeCast _ x shapeCasts_S65536x1024_S32x2048x1024)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (extf .f32 w bitsLt_bf16_f32)

/-- The angles. -/
def angles : FVec Ideal S2048x128 .f32 :=
  mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.exp (mulf (Host.negf (mulf (sitofp .f32 (iotaInDim S128 32 0)) (broadcastInDim S128 ![] bcast_S_S128 (constant S_ .f32 0x3C000000#32)))) (broadcastInDim S128 ![] bcast_S_S128 (constant S_ .f32 0x41135D8E#32))))))

/-- Heads of two halves, turned. -/
def rot (q : FVec Ideal S32x2048x4x256 .f32) (co si : FVec Ideal S2048x128 .f32) : FVec Ideal S32x2048x4x256 .f32 :=
  concatenate S32x2048x4x256 3 [⟨S32x2048x4x128, (subf (mulf (extractStridedSlice S32x2048x4x128 ![0, 0, 0, 0] q slices_S32x2048x4x256_S32x2048x4x128_0_0_0_0) (broadcastInDim S32x2048x4x128 ![0, 1, 2, 3] bcast_S1x2048x1x128_S32x2048x4x128_0_1_2_3 (broadcastInDim S1x2048x1x128 ![1, 3] bcast_S2048x128_S1x2048x1x128_1_3 co))) (mulf (extractStridedSlice S32x2048x4x128 ![0, 0, 0, 128] q slices_S32x2048x4x256_S32x2048x4x128_0_0_0_128) (broadcastInDim S32x2048x4x128 ![0, 1, 2, 3] bcast_S1x2048x1x128_S32x2048x4x128_0_1_2_3 (broadcastInDim S1x2048x1x128 ![1, 3] bcast_S2048x128_S1x2048x1x128_1_3 si))))⟩, ⟨S32x2048x4x128, (addf (mulf (extractStridedSlice S32x2048x4x128 ![0, 0, 0, 128] q slices_S32x2048x4x256_S32x2048x4x128_0_0_0_128) (broadcastInDim S32x2048x4x128 ![0, 1, 2, 3] bcast_S1x2048x1x128_S32x2048x4x128_0_1_2_3 (broadcastInDim S1x2048x1x128 ![1, 3] bcast_S2048x128_S1x2048x1x128_1_3 co))) (mulf (extractStridedSlice S32x2048x4x128 ![0, 0, 0, 0] q slices_S32x2048x4x256_S32x2048x4x128_0_0_0_0) (broadcastInDim S32x2048x4x128 ![0, 1, 2, 3] bcast_S1x2048x1x128_S32x2048x4x128_0_1_2_3 (broadcastInDim S1x2048x1x128 ![1, 3] bcast_S2048x128_S1x2048x1x128_1_3 si))))⟩] concatenates_S32x2048x4x128_S32x2048x4x128_S32x2048x4x256_d3

/-- The queries' columns by heads. -/
def queries (p : FVec Ideal S32x2048x6144 .f32) : FVec Ideal S32x2048x4x256 .f32 :=
  shapeCast _ (extractStridedSlice S32x2048x1024 ![0, 0, 0] p slices_S32x2048x6144_S32x2048x1024_0_0_0) shapeCasts_S32x2048x1024_S32x2048x4x256

/-- The keys' columns by heads. -/
def keys (p : FVec Ideal S32x2048x6144 .f32) : FVec Ideal S32x2048x4x256 .f32 :=
  shapeCast _ (extractStridedSlice S32x2048x1024 ![0, 0, 1024] p slices_S32x2048x6144_S32x2048x1024_0_0_1024) shapeCasts_S32x2048x1024_S32x2048x4x256

/-- Heads and the other columns side by side, as rows. -/
def joined (q k : FVec Ideal S32x2048x4x256 .f32) (p : FVec Ideal S32x2048x6144 .f32) : FVec Ideal S65536x6144 .bf16 :=
  truncf .bf16 (shapeCast _ ((concatenate S32x2048x6144 2 [⟨S32x2048x1024, ((shapeCast _ q shapeCasts_S32x2048x4x256_S32x2048x1024))⟩, ⟨S32x2048x1024, ((shapeCast _ (mulf k (broadcastInDim S32x2048x4x256 ![] bcast_S_S32x2048x4x256 (constant S_ .f32 0x3D800000#32))) shapeCasts_S32x2048x4x256_S32x2048x1024))⟩, ⟨S32x2048x4096, ((extractStridedSlice S32x2048x4096 ![0, 0, 2048] p slices_S32x2048x6144_S32x2048x4096_0_0_2048))⟩] concatenates_S32x2048x1024_S32x2048x1024_S32x2048x4096_S32x2048x6144_d2)) shapeCasts_S32x2048x6144_S65536x6144) bitsLt_bf16_f32

theorem result_eq (m : (ℓ : Loc nD τ sig) → Buf (Elt Ideal) ℓ) (c : Dev nD) (p : FVec Ideal S32x2048x6144 .f32)
    (hp : p = proj (m ((c.tc : Thread nD τ).loc main_arg0)) (m ((c.tc : Thread nD τ).loc main_arg1)) (m ((c.tc : Thread nD τ).loc main_arg2))) :
    Value.res_main_v88 m c = joined (rot (queries p) (Host.cos angles) (Host.sin angles)) (rot (keys p) (Host.cos angles) (Host.sin angles)) p := by
  subst hp
  rfl

theorem angles_at (s : Fin 2048) (k : Fin 128) : angles (ix2 s k) = ang s k := by
  unfold angles
  pointwise
  rfl

theorem proj_at (x : FVec Ideal S65536x1024 .f32) (g : FVec Ideal S1x1024 .f32) (w : FVec Ideal S1024x6144 .bf16)
    (b : Fin 32) (s : Fin 2048) (n : Fin 6144) :
    proj x g w (ix3 b s n) = pr (fun k => x (ix2 ⟨b * 2048 + s, by omega⟩ k)) (fun k => g (ix2 0 k)) (fun k => w (ix2 k n)) := by
  unfold proj
  pointwise
  rfl

theorem rot_at (q : FVec Ideal S32x2048x4x256 .f32) (b : Fin 32) (s : Fin 2048) (h : Fin 4) (j : Fin 256)
    (p : ℕ → EReal) (o : ℕ) (ho : o % 256 = 0) (hp : ∀ j' : Fin 256, q (ix4 b s h j') = p (o + h.val * 256 + j'.val)) :
    rot q (Host.cos angles) (Host.sin angles) (ix4 b s h j)
      = turn p (fun k => Ideal.cos (ang s k)) (fun k => Ideal.sin (ang s k)) (o + h.val * 256 + j.val) := by
  have hm : (o + h.val * 256 + j.val) % 256 = j.val := by omega
  have hc : ∀ k : Fin 128, (Host.cos angles : FVec Ideal S2048x128 .f32) (ix2 s k) = Ideal.cos (ang s k) := fun k => congrArg Ideal.cos (angles_at s k)
  have hs : ∀ k : Fin 128, (Host.sin angles : FVec Ideal S2048x128 .f32) (ix2 s k) = Ideal.sin (ang s k) := fun k => congrArg Ideal.sin (angles_at s k)
  generalize (Host.cos angles : FVec Ideal S2048x128 .f32) = co at *
  generalize (Host.sin angles : FVec Ideal S2048x128 .f32) = si at *
  unfold rot turn
  pointwise
  rw [hm]
  by_cases g : j.val < 128
  · rw [dif_pos g, if_pos g, hp, hp, hc, hs]
    congr 3
    show o + h.val * 256 + (128 + j.val) = _
    omega
  · rw [dif_neg g, if_neg g, hp, hp, hc, hs]
    congr 3
    · show o + h.val * 256 + (128 + (j.val - 128)) = _
      omega
    · show o + h.val * 256 + (j.val - 128) = _
      omega

theorem joined_at (q k : FVec Ideal S32x2048x4x256 .f32) (p : FVec Ideal S32x2048x6144 .f32) (R : Fin 65536) (n : Fin 6144) :
    joined q k p (ix2 R n) =
      if h : n.val < 1024 then q (ix4 ⟨R.val / 2048, by omega⟩ ⟨R.val % 2048, by omega⟩ ⟨n.val / 256, by omega⟩ ⟨n.val % 256, by omega⟩)
      else if h' : n.val - 1024 < 1024 then
        k (ix4 ⟨R.val / 2048, by omega⟩ ⟨R.val % 2048, by omega⟩ ⟨(n.val - 1024) / 256, by omega⟩ ⟨(n.val - 1024) % 256, by omega⟩)
          * Ideal.ofBits FTy.f32 1031798784#32
      else p (ix3 ⟨R.val / 2048, by omega⟩ ⟨R.val % 2048, by omega⟩ ⟨2048 + (n.val - 1024 - 1024), by omega⟩) := by
  unfold joined
  pointwise

theorem queries_at (p : FVec Ideal S32x2048x6144 .f32) (b : Fin 32) (s : Fin 2048) (h : Fin 4) (j : Fin 256) :
    queries p (ix4 b s h j) = p (ix3 b s ⟨h.val * 256 + j.val, by omega⟩) := by
  unfold queries
  pointwise

theorem keys_at (p : FVec Ideal S32x2048x6144 .f32) (b : Fin 32) (s : Fin 2048) (h : Fin 4) (j : Fin 256) :
    keys p (ix4 b s h j) = p (ix3 b s ⟨1024 + (h.val * 256 + j.val), by omega⟩) := by
  unfold keys
  pointwise

/-- The reference's result, at a row and a column. -/
theorem result_at (m : (ℓ : Loc nD τ sig) → Buf (Elt Ideal) ℓ) (c : Dev nD) (R : Fin 65536) (n : Fin 6144) :
    Value.res_main_v88 m c (ix2 R n) = heads (fun j => pr (fun k => m ((c.tc : Thread nD τ).loc main_arg0) (ix2 R k))
      (fun k => m ((c.tc : Thread nD τ).loc main_arg1) (ix2 0 k)) (fun k => m ((c.tc : Thread nD τ).loc main_arg2) (ix2 k (Fin.ofNat 6144 j))))
      (R.val % 2048) n := by
  rw [result_eq m c _ rfl, joined_at]
  have hR : (⟨(⟨R.val / 2048, by omega⟩ : Fin 32).val * 2048 + (⟨R.val % 2048, by omega⟩ : Fin 2048).val, by dsimp only; omega⟩ : Fin 65536) = R :=
    Fin.ext (by dsimp only; omega)
  have e := fun n => (proj_at (m ((c.tc : Thread nD τ).loc main_arg0)) (m ((c.tc : Thread nD τ).loc main_arg1)) (m ((c.tc : Thread nD τ).loc main_arg2))
    ⟨R.val / 2048, by omega⟩ ⟨R.val % 2048, by omega⟩ n)
  rw [hR] at e
  generalize proj (m ((c.tc : Thread nD τ).loc main_arg0)) (m ((c.tc : Thread nD τ).loc main_arg1)) (m ((c.tc : Thread nD τ).loc main_arg2)) = P at *
  generalize hp : (fun j => pr (fun k => m ((c.tc : Thread nD τ).loc main_arg0) (ix2 R k))
      (fun k => m ((c.tc : Thread nD τ).loc main_arg1) (ix2 0 k)) (fun k => m ((c.tc : Thread nD τ).loc main_arg2) (ix2 k (Fin.ofNat 6144 j)))) = p
  have e' : ∀ n (h : n < 6144), P (ix3 ⟨R.val / 2048, by omega⟩ ⟨R.val % 2048, by omega⟩ ⟨n, h⟩) = p n := fun n h => by
    have en : (⟨n, h⟩ : Fin 6144) = Fin.ofNat 6144 n := Fin.ext (Nat.mod_eq_of_lt h).symm
    rw [e, ← hp, en]
  unfold heads
  by_cases g : n.val < 1024
  · rw [dif_pos g, if_pos g, rot_at _ _ _ _ _ p 0 rfl fun j' => by rw [queries_at, e', Nat.zero_add]]
    congr 1
    dsimp only
    omega
  · rw [dif_neg g, if_neg g]
    by_cases g' : n.val - 1024 < 1024
    · rw [dif_pos g', if_pos (by omega), rot_at _ _ _ _ _ p 1024 rfl fun j' => by rw [keys_at, e', Nat.add_assoc]]
      congr 2
      dsimp only
      omega
    · rw [dif_neg g', if_neg (by omega), e']
      congr 1
      omega

/-- The reference's run. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = (fun y : S65536x6144.Idx =>
        heads (fun j => pr (fun k => m ((c.tc : Thread nD τ).loc main_arg0) (ix2 (y 0) k)) (fun k => m ((c.tc : Thread nD τ).loc main_arg1) (ix2 0 k))
          (fun k => m ((c.tc : Thread nD τ).loc main_arg2) (ix2 k (Fin.ofNat 6144 j)))) ((y 0).val % 2048) (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext y
  obtain ⟨r, n, hy⟩ : ∃ (r : Fin 65536) (n : Fin 6144), y = ix2 r n := ⟨_, _, eq_ix2 y⟩
  subst hy
  exact result_at m c r n

end Cert.Reference2Ideal.Hand

end
-- ==== Proof.ProjC.lean ====
/- The input projection of the mixing layer: a norm and one product, 1024 rows to the grid point. -/
module

public import proofs.«01_k».proof.Proof.Norm
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)
open Cert.Norm

/-- What the body leaves, at a row and a column of its block. -/
theorem out_at (x0 : Vec Ideal S1024x1024 .f32) (x1 : Vec Ideal S1x1024 .f32) (x2 : Vec Ideal S1024x4352 .bf16)
    (r : Fin 1024) (n : Fin 4352) :
    out0_3 (F := Ideal) x0 x1 x2 (ix2 r n) = pr (fun k => x0 (ix2 r k)) (fun k => x1 (ix2 0 k)) (fun k => x2 (ix2 k n)) := by
  unfold out0_3 k0_pay28
  canon_tiles x h using (cover0_3 _ _ _ _ _ _ _ _ _ _ _ _ _ _ _ _ _ _)
  all_goals open_payloads
  all_goals
    obtain ⟨a, b, hx⟩ : ∃ a b, x = ix2 a b := ⟨_, _, eq_ix2 x⟩
    subst hx
    obtain rfl : r = a := Fin.ext h0
    pointwise
    unfold pr nrm
    refine Finset.sum_congr rfl fun k _ => congrArg _ (congrArg x2 (congrArg (ix2 k) (Fin.ext ?_)))
    first | replace h1 : n.val = _ + b.val := h1 | replace h1 : n.val = b.val := h1
    dsimp only
    omega

/-- The windows' block indices. -/
theorem index_eq : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0 :=
  (by decide +kernel : ∀ t : Fin grid0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0)

variable (m : (ℓ : Loc nD τ sig) → Buf (Elt Ideal) ℓ) (c : Dev nD)

/-- The rows' block of a grid point. -/
theorem rows_at (t : Fin cfg0.N) (r k : Fin 1024) (R : Fin 65536) (hR : R.val = t.val * 1024 + r.val) :
    iblk m c 0 t (ix2 r k) = m ((c : Thread nD τ).loc main_arg0) (ix2 R k) := by
  obtain ⟨e0, e1, -⟩ := index_eq t
  unfold iblk
  rw [View.read_apply]
  show V m c main_arg0 _ = _
  rw [V_main_arg0]
  congr 1
  funext a
  apply Fin.ext
  match a with
  | ⟨0, _⟩ => show win0_0.index t 0 * 1024 + 1 * r.val = R.val; rw [e0, hR]; omega
  | ⟨1, _⟩ => show win0_0.index t 1 * 1024 + 1 * k.val = k.val; rw [e1]; omega

/-- The scale's block is the scale. -/
theorem scale_at (t : Fin cfg0.N) (k : Fin 1024) :
    iblk m c 1 t (ix2 0 k) = m ((c : Thread nD τ).loc main_arg1) (ix2 0 k) := by
  obtain ⟨-, -, e0, e1, -⟩ := index_eq t
  unfold iblk
  rw [View.read_apply]
  show V m c main_arg1 _ = _
  rw [V_main_arg1]
  congr 1
  funext a
  apply Fin.ext
  match a with
  | ⟨0, _⟩ => show win0_1.index t 0 * 1 + 1 * 0 = 0; rw [e0]
  | ⟨1, _⟩ => show win0_1.index t 1 * 1024 + 1 * k.val = k.val; rw [e1]; omega

/-- The weights' block is the weights. -/
theorem weights_at (t : Fin cfg0.N) (k : Fin 1024) (n : Fin 4352) :
    iblk m c 2 t (ix2 k n) = m ((c : Thread nD τ).loc main_arg2) (ix2 k n) := by
  obtain ⟨-, -, -, -, e0, e1, -⟩ := index_eq t
  unfold iblk
  rw [View.read_apply]
  show V m c main_arg2 _ = _
  rw [V_main_arg2]
  congr 1
  funext a
  apply Fin.ext
  match a with
  | ⟨0, _⟩ => show win0_2.index t 0 * 1024 + 1 * k.val = k.val; rw [e0]; omega
  | ⟨1, _⟩ => show win0_2.index t 1 * 4352 + 1 * n.val = n.val; rw [e1]; omega

/-- Where a block of the output sits. -/
theorem emb_at (t : Fin cfg0.N) (r : Fin 1024) (n : Fin 4352) (R : Fin 65536) (hR : R.val = t.val * 1024 + r.val) :
    ((cfg0.win 3).blk t).view.emb (ix2 r n) = (ix2 R n : S65536x4352.Idx) := by
  obtain ⟨-, -, -, -, -, -, e0, e1⟩ := index_eq t
  funext a
  apply Fin.ext
  match a with
  | ⟨0, _⟩ => show win0_3.index t 0 * 1024 + 1 * r.val = R.val; rw [e0, hR]; omega
  | ⟨1, _⟩ => show win0_3.index t 1 * 4352 + 1 * n.val = n.val; rw [e1]; omega

/-- The rows normed and projected. -/
def whole (y : S65536x4352.Idx) : EReal :=
  pr (fun k => m ((c : Thread nD τ).loc main_arg0) (ix2 (y 0) k)) (fun k => m ((c : Thread nD τ).loc main_arg1) (ix2 0 k))
    (fun k => m ((c : Thread nD τ).loc main_arg2) (ix2 k (y 1)))

/-- What a grid point leaves is the result at its place. -/
theorem point_at (t : Fin cfg0.N) (r : Fin 1024) (n : Fin 4352) :
    out0_3 (iblk m c 0 t) (iblk m c 1 t) (iblk m c 2 t) (ix2 r n) = whole m c (((cfg0.win 3).blk t).view.emb (ix2 r n)) := by
  have hN : t.val < 64 := t.isLt
  have hR : t.val * 1024 + r.val < 65536 := by omega
  rw [emb_at t r n ⟨_, hR⟩ rfl]
  refine (out_at _ _ _ r n).trans ?_
  simp only [rows_at m c t r _ ⟨_, hR⟩ rfl, scale_at, weights_at]
  rfl

/-- The output array after the run: every row normed and projected. -/
theorem final : (dats m 0 c).arrAt 3 cfg0.N = whole m c := by
  refine (dats m 0 c).arrAt_eq_of_covers 3 _ (by decide +kernel) fun t hf y => ?_
  blk_simp
  rw [after0_3]
  have h := point_at m c t (y 0) (y 1)
  have e : (ix2 (y 0) (y 1) : S1024x4352.Idx) = y := (eq_ix2 (n0 := 1024) (n1 := 4352) y).symm
  rw [e] at h
  exact h

end Cert.Kernel3Ideal.Hand

namespace Cert.Reference3Ideal.Hand

open Cert.Reference3Ideal Cert.Reference3Ideal.Gen Idealize.ShloMosaic Idealize.ShloMosaic.TcCoe Idealize.SL.Sem
open Cert.Norm

/-- The reference's result, at a row and a column. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = (fun y : S65536x4352.Idx =>
        pr (fun k => m ((c.tc : Thread nD τ).loc main_arg0) (ix2 (y 0) k)) (fun k => m ((c.tc : Thread nD τ).loc main_arg1) (ix2 0 k))
          (fun k => m ((c.tc : Thread nD τ).loc main_arg2) (ix2 k (y 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  funext y
  obtain ⟨r, n, hy⟩ : ∃ (r : Fin 65536) (n : Fin 4352), y = ix2 r n := ⟨_, _, eq_ix2 y⟩
  subst hy
  pointwise
  rfl

end Cert.Reference3Ideal.Hand

end
-- ==== Proof.Part.lean ====
/- Heads turned in part: of a head's 64 columns the first 16 are two halves of eight turned as the two coordinates of points of
   the plane, and the others stay. -/
module

public import proofs.«01_k».proof.Proof.Turn

@[expose] public section

noncomputable section

namespace Cert.Part

open Idealize.ShloMosaic
open Cert.Norm

/-- The angle of position `s` and column `k` of a half of eight. -/
def ang (s k : ℕ) : EReal :=
  FloatOps.sitofp (F := Ideal) FTy.f32 (BitVec.ofNat 32 s) *
    Ideal.exp (-(FloatOps.sitofp (F := Ideal) FTy.f32 (BitVec.ofNat 32 k) * Ideal.ofBits FTy.f32 1040187392#32) * Ideal.ofBits FTy.f32 1095890227#32)

/-- Column `n` of the row `p` at position `s`, turned if it is among the first 16 of its head. -/
def part (p : ℕ → EReal) (s n : ℕ) : EReal :=
  if n % 64 < 8 then p n * Ideal.cos (ang s (n % 64)) - p (n + 8) * Ideal.sin (ang s (n % 64))
  else if n % 64 < 16 then p n * Ideal.cos (ang s (n % 64 - 8)) + p (n - 8) * Ideal.sin (ang s (n % 64 - 8))
  else p n

/-- The three tables, at position `s` and lane `k`. -/
def tabs (s : ℕ) (i : Fin 3) (k : ℕ) : EReal :=
  match i with
  | 0 => if k % 64 < 16 then Ideal.cos (ang s (k % 64 % 8)) else 1
  | 1 => if k % 64 < 8 then -Ideal.sin (ang s (k % 64 % 8)) else 0
  | 2 => if 8 ≤ k % 64 ∧ k % 64 < 16 then Ideal.sin (ang s (k % 64 % 8)) else 0

/-- A lane times its table, and the lanes eight further and eight before, in their group of 128, times theirs. -/
def mix (p : ℕ → EReal) (t : Fin 3 → ℕ → EReal) (n : ℕ) : EReal :=
  p n * t 0 (n % 128) + p (n / 128 * 128 + (n % 128 + 8) % 128) * t 1 (n % 128)
    + p (n / 128 * 128 + (n % 128 + 120) % 128) * t 2 (n % 128)

/-- The tables turn the columns. -/
theorem mix_tabs (p : ℕ → EReal) (s n : ℕ) : mix p (tabs s) n = part p s n := by
  have e : n % 128 % 64 = n % 64 := by omega
  unfold mix part tabs
  dsimp only
  rw [e]
  by_cases h : n % 64 < 8
  · have h1 : n % 64 < 16 := by omega
    have h2 : ¬ (8 ≤ n % 64 ∧ n % 64 < 16) := by omega
    have h3 : n % 64 % 8 = n % 64 := by omega
    have h4 : n / 128 * 128 + (n % 128 + 8) % 128 = n + 8 := by omega
    rw [if_pos h1, if_pos h, if_neg h2, if_pos h, h3, h4, mul_zero, add_zero, mul_neg, sub_eq_add_neg]
  · by_cases h1 : n % 64 < 16
    · have h2 : 8 ≤ n % 64 ∧ n % 64 < 16 := by omega
      have h3 : n % 64 % 8 = n % 64 - 8 := by omega
      have h4 : n / 128 * 128 + (n % 128 + 120) % 128 = n - 8 := by omega
      rw [if_pos h1, if_neg h, if_pos h2, if_neg h, if_pos h1, h3, h4, mul_zero, add_zero]
    · have h2 : ¬ (8 ≤ n % 64 ∧ n % 64 < 16) := by omega
      rw [if_neg h1, if_neg h, if_neg h2, if_neg h, if_neg h1, mul_zero, mul_zero, add_zero, add_zero, mul_one]

/-- Scaled tables scale. -/
theorem mix_scaled (p : ℕ → EReal) (t : Fin 3 → ℕ → EReal) (n : ℕ) (κ : EReal) (h0 : 0 ≤ κ) (h1 : κ ≠ ⊤) :
    mix p (fun i k => t i k * κ) n = mix p t n * κ := by
  unfold mix
  rw [EReal.right_distrib_of_nonneg_of_ne_top h0 h1, EReal.right_distrib_of_nonneg_of_ne_top h0 h1]
  simp only [mul_assoc]

/-- The projected columns of a row, by their numbers. -/
def colsOf (x : Fin 65536 → Fin 1024 → EReal) (g : Fin 1024 → EReal) (w : Fin 1024 → Fin 4608 → EReal) (R : Fin 65536) (j : ℕ) : EReal :=
  pr (x R) g (fun k => w k (Fin.ofNat 4608 j))

/-- One eighth. -/
theorem eighth : Ideal.ofBits FTy.f32 1040187392#32 = ((1 / 8 : ℝ) : EReal) := by
  simp [Ideal.ofBits, Ideal.ieee, -EReal.coe_mul]; norm_num

/-- The logarithm's constant. -/
theorem log2e : Ideal.ofBits FTy.f32 1069066811#32 = ((12102203 / 8388608 : ℝ) : EReal) := by
  simp [Ideal.ofBits, Ideal.ieee, -EReal.coe_mul]; norm_num

/-- The scale of the queries' tables. -/
theorem scale : Ideal.ofBits FTy.f32 1043900987#32 = ((12102203 / 67108864 : ℝ) : EReal) := by
  simp [Ideal.ofBits, Ideal.ieee, -EReal.coe_mul]; norm_num

/-- It is one eighth of the constant. -/
theorem scale_eq (x : EReal) : x * Ideal.ofBits FTy.f32 1043900987#32 = x * Ideal.ofBits FTy.f32 1040187392#32 * Ideal.ofBits FTy.f32 1069066811#32 := by
  rw [mul_assoc, eighth, log2e, scale, ← EReal.coe_mul]
  norm_num

/-- It is not negative. -/
theorem scale_nonneg : (0 : EReal) ≤ Ideal.ofBits FTy.f32 1043900987#32 := by
  rw [scale]; exact_mod_cast (by norm_num : (0 : ℝ) ≤ 12102203 / 67108864)

/-- It is finite. -/
theorem scale_ne_top : Ideal.ofBits FTy.f32 1043900987#32 ≠ ⊤ := by
  rw [scale]; exact EReal.coe_ne_top _

/-- One. -/
theorem one_bits : Ideal.ofBits FTy.f32 1065353216#32 = 1 := by
  have e : Ideal.ofBits FTy.f32 1065353216#32 = ((1 : ℝ) : EReal) := by
    simp [Ideal.ofBits, Ideal.ieee, -EReal.coe_mul]; norm_num
  rw [e, EReal.coe_one]

/-- Zero. -/
theorem zero_bits : Ideal.ofBits FTy.f32 0#32 = 0 := by
  simp [Ideal.ofBits, Ideal.ieee, -EReal.coe_mul]

end Cert.Part

end
-- ==== Proof.TablesA.lean ====
/- The tables of the turned queries and keys, read at a position and a lane. -/
module

public import proofs.«01_k».proof.Proof.Part
public import proofs.«01_k».proof.Proof.Gen.Kernel4Ideal.Value
public import Idealize.ShloMosaic.Lib.Pipeline.ValueKit
public import Idealize.ShloMosaic.Lib.Pointwise
public import Idealize.ShloMosaic.Lib.StableHlo.ReadAt

@[expose] public section

set_option maxRecDepth 16384
noncomputable section

namespace Cert.Kernel4Ideal.Hand

open Cert.Kernel4Ideal Cert.Kernel4Ideal.Gen Idealize.ShloMosaic Cert.Norm Idealize.ShloMosaic.TcCoe Idealize.SL.Sem
open Cert.Part
variable (m : (ℓ : Loc nD τ sig) → Buf (Elt Ideal) ℓ) (c : Dev nD)

/-- The divisor of a remainder, never zero. -/
def divisor (n : BitVec 32) : IVec S_ 32 :=
  select (cmpi CmpIPredicate.eq (id (constantI S_ 32 n)) (constantI S_ 32 0#32)) (constantI S_ 32 1#32) (id (constantI S_ 32 n))

/-- The remainder with the divisor's sign. -/
def remOf (n : BitVec 32) (x : IVec S128 32) : IVec S128 32 :=
  select
    (andi
      (cmpi CmpIPredicate.ne
        (cmpi CmpIPredicate.slt (Host.remsi x (broadcastInDim S128 ![] bcast_S_S128 (divisor n)))
          (broadcastInDim S128 ![] bcast_S_S128 (constantI S_ 32 0#32)))
        (broadcastInDim S128 ![] bcast_S_S128 (cmpi CmpIPredicate.slt (divisor n) (constantI S_ 32 0#32))))
      (cmpi CmpIPredicate.ne (Host.remsi x (broadcastInDim S128 ![] bcast_S_S128 (divisor n)))
        (broadcastInDim S128 ![] bcast_S_S128 (constantI S_ 32 0#32))))
    (addi (Host.remsi x (broadcastInDim S128 ![] bcast_S_S128 (divisor n))) (broadcastInDim S128 ![] bcast_S_S128 (divisor n)))
    (Host.remsi x (broadcastInDim S128 ![] bcast_S_S128 (divisor n)))

/-- A lane's place in its head. -/
def place : IVec S128 32 := remOf 64#32 (iotaInDim S128 32 0)

/-- The column of the angles a lane reads. -/
def column : IVec S128x1 32 :=
  broadcastInDim S128x1 ![0] bcast_S128_S128x1_0
    (select (cmpi CmpIPredicate.slt (remOf 8#32 place) (broadcastInDim S128 ![] bcast_S_S128 (constantI S_ 32 0#32)))
      (addi (remOf 8#32 place) (broadcastInDim S128 ![] bcast_S_S128 (constantI S_ 32 8#32))) (remOf 8#32 place))

/-- The lanes whose place is below a bound. -/
def below (n : BitVec 32) : IVec S1x128 1 :=
  cmpi CmpIPredicate.slt (broadcastInDim S1x128 ![1] bcast_S128_S1x128_1 place) (broadcastInDim S1x128 ![] bcast_S_S1x128 (constantI S_ 32 n))

/-- The lanes whose place is not below a bound. -/
def above (n : BitVec 32) : IVec S1x128 1 :=
  cmpi CmpIPredicate.sge (broadcastInDim S1x128 ![1] bcast_S128_S1x128_1 place) (broadcastInDim S1x128 ![] bcast_S_S1x128 (constantI S_ 32 n))

/-- The angles. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 (Host.exp (mulf (Host.negf (mulf (sitofp .f32 (iotaInDim S8 32 0)) (broadcastInDim S8 ![] bcast_S_S8 (constant S_ .f32 0x3E000000#32)))) (broadcastInDim S8 ![] bcast_S_S8 (constant S_ .f32 0x4151F533#32))))))

/-- One table where a mask holds, a constant elsewhere. -/
def masked (b : IVec S1x128 1) (x : FVec Ideal S2048x128 .f32) (v : BitVec 32) : FVec Ideal S2048x128 .f32 :=
  select (broadcastInDim S2048x128 ![0, 1] bcast_S1x128_S2048x128_0_1 b) x (broadcastInDim S2048x128 ![] bcast_S_S2048x128 (id (constant S_ .f32 v)))

/-- A table of eight columns spread over the lanes. -/
def spread (x : FVec Ideal S2048x8 .f32) : FVec Ideal S2048x128 .f32 :=
  Host.gather gather_S2048x8_S128x1_S2048x128_0_1_n_n_1_1_20481 x column

/-- The three tables. -/
def table (i : Fin 3) : FVec Ideal S2048x128 .f32 :=
  match i with
  | 0 => masked (below 16#32) (spread (Host.cos angles)) 0x3F800000#32
  | 1 => masked (below 8#32) (Host.negf (spread (Host.sin angles))) 0x00000000#32
  | 2 => masked (andi (above 8#32) (below 16#32)) (spread (Host.sin angles)) 0x00000000#32

set_option maxHeartbeats 4000000 in
/-- The six planes the body reads: the three tables scaled, then the three tables. -/
theorem planes (s : Fin 2048) (k : Fin 128) :
    V m c main_v68 (ix3 0 s k) = table 0 (ix2 s k) * Ideal.ofBits FTy.f32 1043900987#32
    ∧ V m c main_v68 (ix3 1 s k) = table 1 (ix2 s k) * Ideal.ofBits FTy.f32 1043900987#32
    ∧ V m c main_v68 (ix3 2 s k) = table 2 (ix2 s k) * Ideal.ofBits FTy.f32 1043900987#32
    ∧ V m c main_v68 (ix3 3 s k) = table 0 (ix2 s k)
    ∧ V m c main_v68 (ix3 4 s k) = table 1 (ix2 s k)
    ∧ V m c main_v68 (ix3 5 s k) = table 2 (ix2 s k) := by
  refine ⟨?_, ?_, ?_, ?_, ?_, ?_⟩
  all_goals
    unfold V hostOps0
    after_reads_at
    rw [StableHlo.unary_result']
    after_reads_at
    rfl

/-- The column a lane reads. -/
theorem column_at : ∀ k : Fin 128, min (column (ix2 k 0)).toInt.toNat 7 = k.val % 64 % 8 := by
  decide +kernel

/-- The lanes of the turned columns. -/
theorem below_at16 : ∀ k : Fin 128, below 16#32 (ix2 0 k) = if k.val % 64 < 16 then 1#1 else 0#1 := by
  decide +kernel

/-- The lanes of the first halves. -/
theorem below_at8 : ∀ k : Fin 128, below 8#32 (ix2 0 k) = if k.val % 64 < 8 then 1#1 else 0#1 := by
  decide +kernel

/-- The lanes of the second halves. -/
theorem above_at : ∀ k : Fin 128, andi (above 8#32) (below 16#32) (ix2 0 k) = if 8 ≤ k.val % 64 ∧ k.val % 64 < 16 then 1#1 else 0#1 := by
  decide +kernel

/-- The gather, read at a position and a lane. -/
theorem spread_at (x : FVec Ideal S2048x8 .f32) (s : Fin 2048) (k : Fin 128) :
    spread x (ix2 s k) = x (ix2 s ⟨k.val % 64 % 8, by omega⟩) := by
  unfold spread Host.gather
  congr 1
  funext a
  refine Fin.ext ?_
  match a with
  | ⟨0, _⟩ =>
    show GatherDims.start _ (ix2 s k) column 0 + GatherDims.batchCoord _ (ix2 s k) 0 + GatherDims.offCoord _ (ix2 s k) 0 = _
    rw [GatherDims.batchCoord_eq_zero _ _ _ List.not_mem_nil]
    unfold GatherDims.start GatherDims.offCoord
    rw [dif_neg (show ¬ (0 : Fin 2) ∈ gather_S2048x8_S128x1_S2048x128_0_1_n_n_1_1_20481.startIndexMap from (by decide : ¬ (0 : Fin 2) ∈ [(1 : Fin 2)])),
      dif_pos ((GatherDims.mem_sKept _ _).mpr ⟨(by decide : ¬ (0 : Fin 2) ∈ [(1 : Fin 2)]), List.not_mem_nil⟩)]
    show 0 + 0 + s.val = s.val
    omega
  | ⟨1, _⟩ =>
    show GatherDims.start _ (ix2 s k) column 1 + GatherDims.batchCoord _ (ix2 s k) 1 + GatherDims.offCoord _ (ix2 s k) 1 = _
    rw [GatherDims.batchCoord_eq_zero _ _ _ List.not_mem_nil,
      GatherDims.offCoord_eq_zero _ _ _ (fun h => ((GatherDims.mem_sKept _ _).mp h).1 (List.mem_singleton.mpr rfl))]
    refine Eq.trans ?_ (column_at k)
    unfold GatherDims.start
    rw [dif_pos (show (1 : Fin 2) ∈ gather_S2048x8_S128x1_S2048x128_0_1_n_n_1_1_20481.startIndexMap from List.mem_singleton.mpr rfl)]
    have hsi : ∀ h, GatherDims.siIdx gather_S2048x8_S128x1_S2048x128_0_1_n_n_1_1_20481 (ix2 s k) ⟨0, h⟩ = ix2 k 0 := by
      intro h
      funext b
      refine Fin.ext ?_
      match b with
      | ⟨0, _⟩ => rfl
      | ⟨1, _⟩ => rfl
    exact congrArg (fun j => min (column j).toInt.toNat 7) (hsi _)

/-- An angle. -/
theorem angles_at (s : Fin 2048) (k : Fin 8) : angles (ix2 s k) = ang s k := by
  unfold angles
  pointwise
  rfl

/-- A masked table at a lane. -/
theorem masked_at (b : IVec S1x128 1) (x : FVec Ideal S2048x128 .f32) (v : BitVec 32) (s : Fin 2048) (k : Fin 128) (q : Prop) [Decidable q]
    (h : b (ix2 0 k) = if q then 1#1 else 0#1) : masked b x v (ix2 s k) = if q then x (ix2 s k) else Ideal.ofBits FTy.f32 v := by
  unfold masked
  pointwise
  rw [h]
  by_cases g : q
  · rw [if_pos g, if_pos g]; rfl
  · rw [if_neg g, if_neg g]; rfl

/-- A table, read at a position and a lane. -/
theorem table_at (i : Fin 3) (s : Fin 2048) (k : Fin 128) : table i (ix2 s k) = tabs s i k := by
  match i with
  | 0 =>
    unfold table tabs
    dsimp only
    rw [masked_at _ _ _ _ _ _ (below_at16 k), one_bits, spread_at]
    exact if_congr Iff.rfl (congrArg Ideal.cos (angles_at s _)) rfl
  | 1 =>
    unfold table tabs
    dsimp only
    rw [masked_at _ _ _ _ _ _ (below_at8 k), zero_bits]
    refine if_congr Iff.rfl (congrArg (fun z : EReal => -z) ?_) rfl
    rw [spread_at]
    exact congrArg Ideal.sin (angles_at s _)
  | 2 =>
    unfold table tabs
    dsimp only
    rw [masked_at _ _ _ _ _ _ (above_at k), zero_bits, spread_at]
    exact if_congr Iff.rfl (congrArg Ideal.sin (angles_at s _)) rfl

/-- The scaled tables, at a position and a lane. -/
theorem scaled_at (i : Fin 3) (s : Fin 2048) (k : Fin 128) :
    V m c main_v68 (ix3 ((![0, 1, 2] : Fin 3 → Fin 6) i) s k) = tabs s i k * Ideal.ofBits FTy.f32 1043900987#32 := by
  obtain ⟨e0, e1, e2, -⟩ := planes m c s k
  match i with
  | 0 => exact e0.trans (congrArg (· * _) (table_at 0 s k))
  | 1 => exact e1.trans (congrArg (· * _) (table_at 1 s k))
  | 2 => exact e2.trans (congrArg (· * _) (table_at 2 s k))

/-- The tables, at a position and a lane. -/
theorem plain_at (i : Fin 3) (s : Fin 2048) (k : Fin 128) :
    V m c main_v68 (ix3 ((![3, 4, 5] : Fin 3 → Fin 6) i) s k) = tabs s i k := by
  obtain ⟨-, -, -, e0, e1, e2⟩ := planes m c s k
  match i with
  | 0 => exact e0.trans (table_at 0 s k)
  | 1 => exact e1.trans (table_at 1 s k)
  | 2 => exact e2.trans (table_at 2 s k)

end Cert.Kernel4Ideal.Hand
-- ==== Proof.OutsA.lean ====
/- What a grid point of the projection leaves: queries, gates, keys and values, at a row and a lane. -/
module

public import proofs.«01_k».proof.Proof.Part
public import proofs.«01_k».proof.Proof.Gen.Kernel4Ideal.Value
public import Idealize.ShloMosaic.Lib.Pipeline.ValueKit
public import Idealize.ShloMosaic.Lib.Pointwise
public import Idealize.ShloMosaic.Lib.StableHlo.ReadAt

@[expose] public section

set_option maxRecDepth 16384
noncomputable section

namespace Cert.Kernel4Ideal.Hand

open Cert.Kernel4Ideal Cert.Kernel4Ideal.Gen Idealize.ShloMosaic Cert.Norm Idealize.ShloMosaic.TcCoe Idealize.SL.Sem
open Cert.Part
variable (m : (ℓ : Loc nD τ sig) → Buf (Elt Ideal) ℓ) (c : Dev nD)

/-- The projected columns of a row, by their numbers. -/
def cols (x : Fin 1024 → EReal) (g : Fin 1024 → EReal) (w : Fin 1024 → Fin 4608 → EReal) (j : ℕ) : EReal :=
  pr x g (fun k => w k (Fin.ofNat 4608 j))

theorem cols_mk (x : Fin 1024 → EReal) (g : Fin 1024 → EReal) (w : Fin 1024 → Fin 4608 → EReal) (j : ℕ) (h : j < 4608) :
    ∑ k, x k * Ideal.rsqrt (Ideal.div (∑ l, x l * x l) (Ideal.ofBits .f32 1149239296#32) + Ideal.ofBits .f32 897988541#32) * g k * w k ⟨j, h⟩
      = cols x g w j := by
  have e : Fin.ofNat 4608 j = ⟨j, h⟩ := Fin.ext (Nat.mod_eq_of_lt h)
  unfold cols
  rw [e]
  rfl

section Out
variable (x0 : Vec Ideal S1024x1024 .f32) (x1 : Vec Ideal S1x1024 .f32) (x2 : Vec Ideal S1024x4608 .bf16) (x3 : Vec Ideal S6x1024x128 .f32)

/-- The projected columns of a row of the block. -/
def row (r : Fin 1024) : ℕ → EReal := cols (fun k => x0 (ix2 r k)) (fun k => x1 (ix2 0 k)) (fun k j => x2 (ix2 k j))

/-- Its columns turned by the three tables from `o` on. -/
def rowTurned (o : Fin 3 → Fin 6) (r : Fin 1024) (n : ℕ) : EReal :=
  mix (row x0 x1 x2 r) (fun i k => x3 (ix3 (o i) r (Fin.ofNat 128 k))) n

/-- A turned column, its lane named. -/
theorem rowTurned_eq (a b d : Fin 6) (r : Fin 1024) (n : ℕ) (k : Fin 128) (hk : k.val = n % 128) :
    rowTurned x0 x1 x2 x3 ![a, b, d] r n = row x0 x1 x2 r n * x3 (ix3 a r k)
      + row x0 x1 x2 r (n / 128 * 128 + (n % 128 + 8) % 128) * x3 (ix3 b r k)
      + row x0 x1 x2 r (n / 128 * 128 + (n % 128 + 120) % 128) * x3 (ix3 d r k) := by
  have ek : k = Fin.ofNat 128 (n % 128) := Fin.ext (by show k.val = n % 128 % 128; omega)
  rw [ek]
  rfl

/-- The projected columns of a row of the block, as the body sums them. -/
theorem row_mk (r : Fin 1024) (n : ℕ) (j : Fin 4608) (e : j.val = n) :
    ∑ l, x0 (ix2 r l) * Ideal.rsqrt (Ideal.div (∑ l, x0 (ix2 r l) * x0 (ix2 r l)) (Ideal.ofBits .f32 1149239296#32) + Ideal.ofBits .f32 897988541#32)
          * x1 (ix2 0 l) * x2 (ix2 l j) = row x0 x1 x2 r n := by
  subst e
  exact cols_mk (fun k => x0 (ix2 r k)) (fun k => x1 (ix2 0 k)) (fun k j => x2 (ix2 k j)) j.val j.isLt

/-- Three sums times the tables. -/
theorem terms {a b d a' b' d' u v w : EReal} (h0 : a = a') (h1 : b = b') (h2 : d = d') : a * u + b * v + d * w = a' * u + b' * v + d' * w := by
  subst h0 h1 h2; rfl

/-- A choice by a lane's side. -/
theorem choose_ge (k : Fin 128) (a b : EReal) :
    Scalar.select (IntOp.cmpi CmpIPredicate.sge (BitVec.ofNat 32 k.val) 64#32) a b = if 64 ≤ k.val then a else b := by
  have h : ∀ k : Fin 128, IntOp.cmpi CmpIPredicate.sge (BitVec.ofNat 32 k.val) 64#32 = if 64 ≤ k.val then 1#1 else 0#1 := by decide +kernel
  rw [h]
  by_cases g : 64 ≤ k.val
  · rw [if_pos g, if_pos g]; rfl
  · rw [if_neg g, if_neg g]; rfl

/-- The same from the other side. -/
theorem choose_lt (k : Fin 128) (a b : EReal) :
    Scalar.select (IntOp.cmpi CmpIPredicate.slt (BitVec.ofNat 32 k.val) 64#32) a b = if k.val < 64 then a else b := by
  have h : ∀ k : Fin 128, IntOp.cmpi CmpIPredicate.slt (BitVec.ofNat 32 k.val) 64#32 = if k.val < 64 then 1#1 else 0#1 := by decide +kernel
  rw [h]
  by_cases g : k.val < 64
  · rw [if_pos g, if_pos g]; rfl
  · rw [if_neg g, if_neg g]; rfl

set_option maxHeartbeats 4000000 in
/-- The values, transposed. -/
theorem out_7 (j : Fin 256) (r : Fin 1024) : out0_7 (F := Ideal) x0 x1 x2 x3 (ix3 0 j r) = row x0 x1 x2 r (4352 + j.val) := by
  unfold_out out0_7
  canon_tiles x h using (cover0_7 (F := Ideal) _ _)
  open_payloads
  obtain ⟨z, a, b, hx⟩ : ∃ z a b, x = ix3 z a b := ⟨_, _, _, eq_ix3 x⟩
  subst hx
  obtain rfl : j = a := Fin.ext h1
  obtain rfl : r = b := Fin.ext h2
  pointwise
  refine (cols_mk (fun k => x0 (ix2 r k)) (fun k => x1 (ix2 0 k)) (fun k j => x2 (ix2 k j)) _ _).trans (congrArg _ ?_)
  omega

set_option maxHeartbeats 4000000 in
/-- The gates, by pairs of heads. -/
theorem out_5 (j : Fin 16) (r : Fin 1024) (k : Fin 128) :
    out0_5 (F := Ideal) x0 x1 x2 x3 (ix3 j r k) = row x0 x1 x2 r (2048 + (128 * j.val + k.val)) := by
  unfold_out out0_5
  canon_tiles x h using (cover0_5 (F := Ideal) _ _ _ _ _ _ _ _ _ _ _ _ _ _ _ _ _)
  all_goals open_payloads
  all_goals
    obtain ⟨z, a, b, hx⟩ : ∃ z a b, x = ix3 z a b := ⟨_, _, _, eq_ix3 x⟩
    subst hx
    obtain rfl : r = a := Fin.ext h1
    obtain rfl : k = b := Fin.ext h2
    have hz := z.isLt
    first | replace h0 : j.val = _ + z.val := h0 | replace h0 : j.val = z.val := h0
    pointwise
    refine (cols_mk (fun k => x0 (ix2 r k)) (fun k => x1 (ix2 0 k)) (fun k j => x2 (ix2 k j)) _ _).trans (congrArg _ ?_)
    omega

set_option maxHeartbeats 1000000 in
/-- The queries, by pairs of heads. -/
theorem out_4 (j : Fin 16) (r : Fin 1024) (k : Fin 128) :
    out0_4 (F := Ideal) x0 x1 x2 x3 (ix3 j r k) = rowTurned x0 x1 x2 x3 ![0, 1, 2] r (128 * j.val + k.val) := by
  unfold_out out0_4
  canon_tiles x h using (cover0_4 (F := Ideal) _ _ _ _ _ _ _ _ _ _ _ _ _ _ _ _ _)
  all_goals open_payloads
  all_goals
    obtain ⟨z, a, b, hx⟩ : ∃ z a b, x = ix3 z a b := ⟨_, _, _, eq_ix3 x⟩
    subst hx
    obtain rfl : r = a := Fin.ext h1
    obtain rfl : k = b := Fin.ext h2
    have hz := z.isLt
    have hk := k.isLt
    first | replace h0 : j.val = _ + z.val := h0 | replace h0 : j.val = z.val := h0
    pointwise
    rw [rowTurned_eq x0 x1 x2 x3 0 1 2 r _ k (by omega)]
    refine terms ?_ ?_ ?_
    all_goals refine row_mk x0 x1 x2 r _ _ ?_; dsimp only; omega

set_option maxHeartbeats 1000000 in
/-- The keys, each head twice side by side. -/
theorem out_6 (j : Fin 4) (r : Fin 1024) (k : Fin 128) :
    out0_6 (F := Ideal) x0 x1 x2 x3 (ix3 j r k) = rowTurned x0 x1 x2 x3 ![3, 4, 5] r (4096 + (64 * j.val + k.val % 64)) := by
  unfold_out out0_6
  canon_tiles x h using (cover0_6 (F := Ideal) _ _ _ _ _)
  all_goals open_payloads
  all_goals
    obtain ⟨z, a, b, hx⟩ : ∃ z a b, x = ix3 z a b := ⟨_, _, _, eq_ix3 x⟩
    subst hx
    obtain rfl : r = a := Fin.ext h1
    obtain rfl : k = b := Fin.ext h2
    have hz := z.isLt
    have hk := k.isLt
    first | replace h0 : j.val = _ + z.val := h0 | replace h0 : j.val = z.val := h0
    pointwise
    first | rw [choose_ge] | rw [choose_lt]
    split
    · rw [rowTurned_eq x0 x1 x2 x3 3 4 5 r _ k (by omega)]
      refine terms ?_ ?_ ?_
      all_goals refine row_mk x0 x1 x2 r _ _ ?_; dsimp only; omega
    · rw [rowTurned_eq x0 x1 x2 x3 3 4 5 r _ ⟨(k.val + 128 - 64) % 128, by omega⟩ (by dsimp only; omega)]
      refine terms ?_ ?_ ?_
      all_goals refine row_mk x0 x1 x2 r _ _ ?_; dsimp only; omega

end Out
end Cert.Kernel4Ideal.Hand
-- ==== Proof.ProjA.lean ====
/- The input projection of the attention block: a norm, one product, the turning of the queries and the keys, and the laying out of
   the four results, 1024 rows to the grid point. -/
module

public import proofs.«01_k».proof.Proof.TablesA
public import proofs.«01_k».proof.Proof.OutsA

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)
open Cert.Norm Cert.Part

variable (m : (ℓ : Loc nD τ sig) → Buf (Elt Ideal) ℓ) (c : Dev nD)

/-- The input windows' block indices. -/
theorem index_eq : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = t.val % 2 ∧ win0_3.index t 2 = 0 :=
  (by decide +kernel : ∀ t : Fin grid0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = t.val % 2 ∧ win0_3.index t 2 = 0)

/-- The output windows' block indices. -/
theorem outdex_eq : ∀ t : Fin cfg0.N, (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = t.val / 2 ∧ win0_7.index t 1 = 0 ∧ win0_7.index t 2 = t.val % 2) :=
  (by decide +kernel : ∀ t : Fin grid0.N, (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = t.val / 2 ∧ win0_7.index t 1 = 0 ∧ win0_7.index t 2 = t.val % 2))

/-- The rows' block of a grid point. -/
theorem rows_at (t : Fin cfg0.N) (r k : Fin 1024) (R : Fin 65536) (hR : R.val = t.val * 1024 + r.val) :
    iblk m c 0 t (ix2 r k) = m ((c : Thread nD τ).loc main_arg0) (ix2 R k) := by
  obtain ⟨e0, e1, -⟩ := index_eq t
  unfold iblk
  rw [View.read_apply]
  show V m c main_arg0 _ = _
  rw [V_main_arg0]
  congr 1
  funext a
  apply Fin.ext
  match a with
  | ⟨0, _⟩ => show win0_0.index t 0 * 1024 + 1 * r.val = R.val; rw [e0, hR]; omega
  | ⟨1, _⟩ => show win0_0.index t 1 * 1024 + 1 * k.val = k.val; rw [e1]; omega

/-- The scale's block is the scale. -/
theorem scale_at (t : Fin cfg0.N) (k : Fin 1024) :
    iblk m c 1 t (ix2 0 k) = m ((c : Thread nD τ).loc main_arg1) (ix2 0 k) := by
  obtain ⟨-, -, e0, e1, -⟩ := index_eq t
  unfold iblk
  rw [View.read_apply]
  show V m c main_arg1 _ = _
  rw [V_main_arg1]
  congr 1
  funext a
  apply Fin.ext
  match a with
  | ⟨0, _⟩ => show win0_1.index t 0 * 1 + 1 * 0 = 0; rw [e0]
  | ⟨1, _⟩ => show win0_1.index t 1 * 1024 + 1 * k.val = k.val; rw [e1]; omega

/-- The weights' block is the weights. -/
theorem weights_at (t : Fin cfg0.N) (k : Fin 1024) (n : Fin 4608) :
    iblk m c 2 t (ix2 k n) = m ((c : Thread nD τ).loc main_arg2) (ix2 k n) := by
  obtain ⟨-, -, -, -, e0, e1, -⟩ := index_eq t
  unfold iblk
  rw [View.read_apply]
  show V m c main_arg2 _ = _
  rw [V_main_arg2]
  congr 1
  funext a
  apply Fin.ext
  match a with
  | ⟨0, _⟩ => show win0_2.index t 0 * 1024 + 1 * k.val = k.val; rw [e0]; omega
  | ⟨1, _⟩ => show win0_2.index t 1 * 4608 + 1 * n.val = n.val; rw [e1]; omega

/-- The tables' block of a grid point. -/
theorem tables_at (t : Fin cfg0.N) (i : Fin 6) (r : Fin 1024) (k : Fin 128) (s : Fin 2048) (hs : s.val = t.val % 2 * 1024 + r.val) :
    iblk m c 3 t (ix3 i r k) = V m c main_v68 (ix3 i s k) := by
  obtain ⟨-, -, -, -, -, -, e0, e1, e2⟩ := index_eq t
  unfold iblk
  rw [View.read_apply]
  show V m c main_v68 _ = _
  congr 1
  funext a
  apply Fin.ext
  match a with
  | ⟨0, _⟩ => show win0_3.index t 0 * 6 + 1 * i.val = i.val; rw [e0]; omega
  | ⟨1, _⟩ => show win0_3.index t 1 * 1024 + 1 * r.val = s.val; rw [e1, hs]; omega
  | ⟨2, _⟩ => show win0_3.index t 2 * 128 + 1 * k.val = k.val; rw [e2]; omega

/-- The columns of a row of the arguments. -/
def colsAt (R : Fin 65536) : ℕ → EReal :=
  colsOf (fun R k => m ((c : Thread nD τ).loc main_arg0) (ix2 R k)) (fun k => m ((c : Thread nD τ).loc main_arg1) (ix2 0 k))
    (fun k j => m ((c : Thread nD τ).loc main_arg2) (ix2 k j)) R

/-- A row of a block has the columns of its row. -/
theorem row_at (t : Fin cfg0.N) (r : Fin 1024) (R : Fin 65536) (hR : R.val = t.val * 1024 + r.val) :
    row (iblk m c 0 t) (iblk m c 1 t) (iblk m c 2 t) r = colsAt m c R := by
  funext n
  unfold row colsAt colsOf cols
  simp only [rows_at m c t r _ R hR, scale_at, weights_at]

/-- Its queries' columns, turned and scaled. -/
theorem turnedq_at (t : Fin cfg0.N) (r : Fin 1024) (R : Fin 65536) (hR : R.val = t.val * 1024 + r.val) (n : ℕ) :
    rowTurned (iblk m c 0 t) (iblk m c 1 t) (iblk m c 2 t) (iblk m c 3 t) ![0, 1, 2] r n
      = part (colsAt m c R) (R.val % 2048) n * Ideal.ofBits FTy.f32 1043900987#32 := by
  have hs : t.val % 2 * 1024 + r.val < 2048 := by omega
  have hs' : R.val % 2048 = t.val % 2 * 1024 + r.val := by omega
  unfold rowTurned
  rw [row_at m c t r R hR, ← mix_tabs, ← mix_scaled _ _ _ _ scale_nonneg scale_ne_top, hs']
  have e : ∀ (i : Fin 3) (k : ℕ), k < 128 → iblk m c 3 t (ix3 ((![0, 1, 2] : Fin 3 → Fin 6) i) r (Fin.ofNat 128 k))
      = tabs (t.val % 2 * 1024 + r.val) i k * Ideal.ofBits FTy.f32 1043900987#32 := fun i k hk => by
    rw [tables_at m c t _ r _ ⟨_, hs⟩ rfl, scaled_at]
    have ek : (Fin.ofNat 128 k).val = k := Nat.mod_eq_of_lt hk
    rw [ek]
  have hn : n % 128 < 128 := by omega
  unfold mix
  dsimp only
  rw [e 0 _ hn, e 1 _ hn, e 2 _ hn]

/-- Its keys' columns, turned. -/
theorem turnedk_at (t : Fin cfg0.N) (r : Fin 1024) (R : Fin 65536) (hR : R.val = t.val * 1024 + r.val) (n : ℕ) :
    rowTurned (iblk m c 0 t) (iblk m c 1 t) (iblk m c 2 t) (iblk m c 3 t) ![3, 4, 5] r n
      = part (colsAt m c R) (R.val % 2048) n := by
  have hs : t.val % 2 * 1024 + r.val < 2048 := by omega
  have hs' : R.val % 2048 = t.val % 2 * 1024 + r.val := by omega
  unfold rowTurned
  rw [row_at m c t r R hR, ← mix_tabs, hs']
  have e : ∀ (i : Fin 3) (k : ℕ), k < 128 → iblk m c 3 t (ix3 ((![3, 4, 5] : Fin 3 → Fin 6) i) r (Fin.ofNat 128 k))
      = tabs (t.val % 2 * 1024 + r.val) i k := fun i k hk => by
    rw [tables_at m c t _ r _ ⟨_, hs⟩ rfl, plain_at]
    have ek : (Fin.ofNat 128 k).val = k := Nat.mod_eq_of_lt hk
    rw [ek]
  have hn : n % 128 < 128 := by omega
  unfold mix
  dsimp only
  rw [e 0 _ hn, e 1 _ hn, e 2 _ hn]

/-- The queries. -/
def queries (y : S16x65536x128.Idx) : EReal :=
  part (colsAt m c (y 1)) ((y 1).val % 2048) (128 * (y 0).val + (y 2).val) * Ideal.ofBits FTy.f32 1043900987#32

/-- The gates. -/
def gates (y : S16x65536x128.Idx) : EReal := colsAt m c (y 1) (2048 + (128 * (y 0).val + (y 2).val))

/-- The keys. -/
def keys (y : S4x65536x128.Idx) : EReal :=
  part (colsAt m c (y 1)) ((y 1).val % 2048) (4096 + (64 * (y 0).val + (y 2).val % 64))

/-- The values. -/
def vals (y : S32x256x2048.Idx) : EReal :=
  colsAt m c ⟨(y 0).val * 2048 + (y 2).val, by
    have h0 : (y 0).val < 32 := (y 0).isLt
    have h2 : (y 2).val < 2048 := (y 2).isLt
    omega⟩ (4352 + (y 1).val)

/-- The queries after the run. -/
theorem final4 : (dats m 0 c).arrAt 4 cfg0.N = queries m c := by
  refine (dats m 0 c).arrAt_eq_of_covers 4 _ (by decide +kernel) fun t hf y => ?_
  blk_simp
  rw [after0_4]
  have h : ∀ (j : Fin 16) (r : Fin 1024) (k : Fin 128), out0_4 (iblk m c 0 t) (iblk m c 1 t) (iblk m c 2 t) (iblk m c 3 t) (ix3 j r k)
      = queries m c (((cfg0.win 4).blk t).view.emb (ix3 j r k)) := fun j r k => by
    have hN : t.val < 64 := t.isLt
    have hR : t.val * 1024 + r.val < 65536 := by omega
    have eb : ((cfg0.win 4).blk t).view.emb (ix3 j r k) = (ix3 j ⟨_, hR⟩ k : S16x65536x128.Idx) := by
      obtain ⟨⟨e0, e1, e2⟩, -⟩ := outdex_eq t
      funext a
      apply Fin.ext
      match a with
      | ⟨0, _⟩ => show win0_4.index t 0 * 16 + 1 * j.val = j.val; rw [e0]; omega
      | ⟨1, _⟩ => show win0_4.index t 1 * 1024 + 1 * r.val = t.val * 1024 + r.val; rw [e1]; omega
      | ⟨2, _⟩ => show win0_4.index t 2 * 128 + 1 * k.val = k.val; rw [e2]; omega
    rw [eb, out_4, turnedq_at m c t r ⟨_, hR⟩ rfl]
    rfl
  have h := h (y 0) (y 1) (y 2)
  have e : (ix3 (y 0) (y 1) (y 2) : S16x1024x128.Idx) = y := (eq_ix3 (n0 := 16) (n1 := 1024) (n2 := 128) y).symm
  rw [e] at h
  exact h

/-- The gates after the run. -/
theorem final5 : (dats m 0 c).arrAt 5 cfg0.N = gates m c := by
  refine (dats m 0 c).arrAt_eq_of_covers 5 _ (by decide +kernel) fun t hf y => ?_
  blk_simp
  rw [after0_5]
  have h : ∀ (j : Fin 16) (r : Fin 1024) (k : Fin 128), out0_5 (iblk m c 0 t) (iblk m c 1 t) (iblk m c 2 t) (iblk m c 3 t) (ix3 j r k)
      = gates m c (((cfg0.win 5).blk t).view.emb (ix3 j r k)) := fun j r k => by
    have hN : t.val < 64 := t.isLt
    have hR : t.val * 1024 + r.val < 65536 := by omega
    have eb : ((cfg0.win 5).blk t).view.emb (ix3 j r k) = (ix3 j ⟨_, hR⟩ k : S16x65536x128.Idx) := by
      obtain ⟨-, ⟨e0, e1, e2⟩, -⟩ := outdex_eq t
      funext a
      apply Fin.ext
      match a with
      | ⟨0, _⟩ => show win0_5.index t 0 * 16 + 1 * j.val = j.val; rw [e0]; omega
      | ⟨1, _⟩ => show win0_5.index t 1 * 1024 + 1 * r.val = t.val * 1024 + r.val; rw [e1]; omega
      | ⟨2, _⟩ => show win0_5.index t 2 * 128 + 1 * k.val = k.val; rw [e2]; omega
    rw [eb, out_5, row_at m c t r ⟨_, hR⟩ rfl]
    rfl
  have h := h (y 0) (y 1) (y 2)
  have e : (ix3 (y 0) (y 1) (y 2) : S16x1024x128.Idx) = y := (eq_ix3 (n0 := 16) (n1 := 1024) (n2 := 128) y).symm
  rw [e] at h
  exact h

/-- The keys after the run. -/
theorem final6 : (dats m 0 c).arrAt 6 cfg0.N = keys m c := by
  refine (dats m 0 c).arrAt_eq_of_covers 6 _ (by decide +kernel) fun t hf y => ?_
  blk_simp
  rw [after0_6]
  have h : ∀ (j : Fin 4) (r : Fin 1024) (k : Fin 128), out0_6 (iblk m c 0 t) (iblk m c 1 t) (iblk m c 2 t) (iblk m c 3 t) (ix3 j r k)
      = keys m c (((cfg0.win 6).blk t).view.emb (ix3 j r k)) := fun j r k => by
    have hN : t.val < 64 := t.isLt
    have hR : t.val * 1024 + r.val < 65536 := by omega
    have eb : ((cfg0.win 6).blk t).view.emb (ix3 j r k) = (ix3 j ⟨_, hR⟩ k : S4x65536x128.Idx) := by
      obtain ⟨-, -, ⟨e0, e1, e2⟩, -⟩ := outdex_eq t
      funext a
      apply Fin.ext
      match a with
      | ⟨0, _⟩ => show win0_6.index t 0 * 4 + 1 * j.val = j.val; rw [e0]; omega
      | ⟨1, _⟩ => show win0_6.index t 1 * 1024 + 1 * r.val = t.val * 1024 + r.val; rw [e1]; omega
      | ⟨2, _⟩ => show win0_6.index t 2 * 128 + 1 * k.val = k.val; rw [e2]; omega
    rw [eb, out_6, turnedk_at m c t r ⟨_, hR⟩ rfl]
    rfl
  have h := h (y 0) (y 1) (y 2)
  have e : (ix3 (y 0) (y 1) (y 2) : S4x1024x128.Idx) = y := (eq_ix3 (n0 := 4) (n1 := 1024) (n2 := 128) y).symm
  rw [e] at h
  exact h

/-- The values after the run. -/
theorem final7 : (dats m 0 c).arrAt 7 cfg0.N = vals m c := by
  refine (dats m 0 c).arrAt_eq_of_covers 7 _ (by decide +kernel) fun t hf y => ?_
  blk_simp
  rw [after0_7]
  have h : ∀ (z : Fin 1) (j : Fin 256) (r : Fin 1024), out0_7 (iblk m c 0 t) (iblk m c 1 t) (iblk m c 2 t) (iblk m c 3 t) (ix3 z j r)
      = vals m c (((cfg0.win 7).blk t).view.emb (ix3 z j r)) := fun z j r => by
    have hz : z = 0 := Subsingleton.elim _ _
    subst hz
    have hN : t.val < 64 := t.isLt
    have hR : t.val * 1024 + r.val < 65536 := by omega
    have hb : t.val / 2 < 32 := by omega
    have hs : t.val % 2 * 1024 + r.val < 2048 := by omega
    have eb : ((cfg0.win 7).blk t).view.emb (ix3 0 j r) = (ix3 ⟨_, hb⟩ j ⟨_, hs⟩ : S32x256x2048.Idx) := by
      obtain ⟨-, -, -, e0, e1, e2⟩ := outdex_eq t
      funext a
      apply Fin.ext
      match a with
      | ⟨0, _⟩ => show win0_7.index t 0 * 1 + 1 * 0 = t.val / 2; rw [e0]; omega
      | ⟨1, _⟩ => show win0_7.index t 1 * 256 + 1 * j.val = j.val; rw [e1]; omega
      | ⟨2, _⟩ => show win0_7.index t 2 * 1024 + 1 * r.val = t.val % 2 * 1024 + r.val; rw [e2]; omega
    rw [eb, out_7, row_at m c t r ⟨_, hR⟩ rfl]
    show _ = colsAt m c ⟨t.val / 2 * 2048 + (t.val % 2 * 1024 + r.val), _⟩ (4352 + j.val)
    congr 2
    dsimp only
    omega
  have h := h (y 0) (y 1) (y 2)
  have e : (ix3 (y 0) (y 1) (y 2) : S1x256x1024.Idx) = y := (eq_ix3 (n0 := 1) (n1 := 256) (n2 := 1024) y).symm
  rw [e] at h
  exact h

end Cert.Kernel4Ideal.Hand

end
-- ==== Proof.ProjARef.lean ====
/- The reference of the input projection of the attention block. -/
module

public import proofs.«01_k».proof.Proof.Part
public import proofs.«01_k».proof.Proof.Gen.Reference4Ideal.Run
public import Idealize.ShloMosaic.Lib.Pointwise

@[expose] public section

set_option maxRecDepth 16384

noncomputable section

namespace Cert.Reference4Ideal.Hand

open Cert.Reference4Ideal Cert.Reference4Ideal.Gen Idealize.ShloMosaic Idealize.ShloMosaic.TcCoe Idealize.SL.Sem
open Cert.Norm Cert.Part

/-- The normed rows times the weights. -/
def proj (x : FVec Ideal S65536x1024 .f32) (g : FVec Ideal S1x1024 .f32) (w : FVec Ideal S1024x4608 .bf16) : FVec Ideal S32x2048x4608 .f32 :=
  Host.dotGeneral dot_S32x2048x1024_S1024x4608_S32x2048x4608_2_0_01_1_n_n none (mulf (mulf (shapeCast _ (x) shapeCasts_S65536x1024_S32x2048x1024) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (shapeCast _ (x) shapeCasts_S65536x1024_S32x2048x1024) (shapeCast _ (x) shapeCasts_S65536x1024_S32x2048x1024)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ (g) shapeCasts_S1x1024_S1024)))) (extf .f32 (w) bitsLt_bf16_f32)

/-- The angles. -/
def angles : FVec Ideal S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.exp (mulf (Host.negf (mulf (sitofp .f32 (iotaInDim S8 32 0)) (broadcastInDim S8 ![] bcast_S_S8 (constant S_ .f32 0x3E000000#32)))) (broadcastInDim S8 ![] bcast_S_S8 (constant S_ .f32 0x4151F533#32))))))

/-- The queries' heads, turned in part. -/
def rotq (q : FVec Ideal S32x2048x32x64 .f32) (co si : FVec Ideal S2048x8 .f32) : FVec Ideal S32x2048x32x64 .f32 :=
  concatenate S32x2048x32x64 3 [⟨S32x2048x32x16, (concatenate S32x2048x32x16 3 [⟨S32x2048x32x8, (subf (mulf (extractStridedSlice S32x2048x32x8 ![0, 0, 0, 0] (extractStridedSlice S32x2048x32x16 ![0, 0, 0, 0] q slices_S32x2048x32x64_S32x2048x32x16_0_0_0_0) slices_S32x2048x32x16_S32x2048x32x8_0_0_0_0) (broadcastInDim S32x2048x32x8 ![0, 1, 2, 3] bcast_S1x2048x1x8_S32x2048x32x8_0_1_2_3 (broadcastInDim S1x2048x1x8 ![1, 3] bcast_S2048x8_S1x2048x1x8_1_3 co))) (mulf (extractStridedSlice S32x2048x32x8 ![0, 0, 0, 8] (extractStridedSlice S32x2048x32x16 ![0, 0, 0, 0] q slices_S32x2048x32x64_S32x2048x32x16_0_0_0_0) slices_S32x2048x32x16_S32x2048x32x8_0_0_0_8) (broadcastInDim S32x2048x32x8 ![0, 1, 2, 3] bcast_S1x2048x1x8_S32x2048x32x8_0_1_2_3 (broadcastInDim S1x2048x1x8 ![1, 3] bcast_S2048x8_S1x2048x1x8_1_3 si))))⟩, ⟨S32x2048x32x8, (addf (mulf (extractStridedSlice S32x2048x32x8 ![0, 0, 0, 8] (extractStridedSlice S32x2048x32x16 ![0, 0, 0, 0] q slices_S32x2048x32x64_S32x2048x32x16_0_0_0_0) slices_S32x2048x32x16_S32x2048x32x8_0_0_0_8) (broadcastInDim S32x2048x32x8 ![0, 1, 2, 3] bcast_S1x2048x1x8_S32x2048x32x8_0_1_2_3 (broadcastInDim S1x2048x1x8 ![1, 3] bcast_S2048x8_S1x2048x1x8_1_3 co))) (mulf (extractStridedSlice S32x2048x32x8 ![0, 0, 0, 0] (extractStridedSlice S32x2048x32x16 ![0, 0, 0, 0] q slices_S32x2048x32x64_S32x2048x32x16_0_0_0_0) slices_S32x2048x32x16_S32x2048x32x8_0_0_0_0) (broadcastInDim S32x2048x32x8 ![0, 1, 2, 3] bcast_S1x2048x1x8_S32x2048x32x8_0_1_2_3 (broadcastInDim S1x2048x1x8 ![1, 3] bcast_S2048x8_S1x2048x1x8_1_3 si))))⟩] concatenates_S32x2048x32x8_S32x2048x32x8_S32x2048x32x16_d3)⟩, ⟨S32x2048x32x48, (extractStridedSlice S32x2048x32x48 ![0, 0, 0, 16] q slices_S32x2048x32x64_S32x2048x32x48_0_0_0_16)⟩] concatenates_S32x2048x32x16_S32x2048x32x48_S32x2048x32x64_d3

/-- The keys' heads, turned in part. -/
def rotk (q : FVec Ideal S32x2048x4x64 .f32) (co si : FVec Ideal S2048x8 .f32) : FVec Ideal S32x2048x4x64 .f32 :=
  concatenate S32x2048x4x64 3 [⟨S32x2048x4x16, (concatenate S32x2048x4x16 3 [⟨S32x2048x4x8, (subf (mulf (extractStridedSlice S32x2048x4x8 ![0, 0, 0, 0] (extractStridedSlice S32x2048x4x16 ![0, 0, 0, 0] q slices_S32x2048x4x64_S32x2048x4x16_0_0_0_0) slices_S32x2048x4x16_S32x2048x4x8_0_0_0_0) (broadcastInDim S32x2048x4x8 ![0, 1, 2, 3] bcast_S1x2048x1x8_S32x2048x4x8_0_1_2_3 (broadcastInDim S1x2048x1x8 ![1, 3] bcast_S2048x8_S1x2048x1x8_1_3 co))) (mulf (extractStridedSlice S32x2048x4x8 ![0, 0, 0, 8] (extractStridedSlice S32x2048x4x16 ![0, 0, 0, 0] q slices_S32x2048x4x64_S32x2048x4x16_0_0_0_0) slices_S32x2048x4x16_S32x2048x4x8_0_0_0_8) (broadcastInDim S32x2048x4x8 ![0, 1, 2, 3] bcast_S1x2048x1x8_S32x2048x4x8_0_1_2_3 (broadcastInDim S1x2048x1x8 ![1, 3] bcast_S2048x8_S1x2048x1x8_1_3 si))))⟩, ⟨S32x2048x4x8, (addf (mulf (extractStridedSlice S32x2048x4x8 ![0, 0, 0, 8] (extractStridedSlice S32x2048x4x16 ![0, 0, 0, 0] q slices_S32x2048x4x64_S32x2048x4x16_0_0_0_0) slices_S32x2048x4x16_S32x2048x4x8_0_0_0_8) (broadcastInDim S32x2048x4x8 ![0, 1, 2, 3] bcast_S1x2048x1x8_S32x2048x4x8_0_1_2_3 (broadcastInDim S1x2048x1x8 ![1, 3] bcast_S2048x8_S1x2048x1x8_1_3 co))) (mulf (extractStridedSlice S32x2048x4x8 ![0, 0, 0, 0] (extractStridedSlice S32x2048x4x16 ![0, 0, 0, 0] q slices_S32x2048x4x64_S32x2048x4x16_0_0_0_0) slices_S32x2048x4x16_S32x2048x4x8_0_0_0_0) (broadcastInDim S32x2048x4x8 ![0, 1, 2, 3] bcast_S1x2048x1x8_S32x2048x4x8_0_1_2_3 (broadcastInDim S1x2048x1x8 ![1, 3] bcast_S2048x8_S1x2048x1x8_1_3 si))))⟩] concatenates_S32x2048x4x8_S32x2048x4x8_S32x2048x4x16_d3)⟩, ⟨S32x2048x4x48, (extractStridedSlice S32x2048x4x48 ![0, 0, 0, 16] q slices_S32x2048x4x64_S32x2048x4x48_0_0_0_16)⟩] concatenates_S32x2048x4x16_S32x2048x4x48_S32x2048x4x64_d3

/-- The queries' columns by heads. -/
def queries (p : FVec Ideal S32x2048x4608 .f32) : FVec Ideal S32x2048x32x64 .f32 :=
  shapeCast _ (extractStridedSlice S32x2048x2048 ![0, 0, 0] p slices_S32x2048x4608_S32x2048x2048_0_0_0) shapeCasts_S32x2048x2048_S32x2048x32x64

/-- The keys' columns by heads. -/
def keys (p : FVec Ideal S32x2048x4608 .f32) : FVec Ideal S32x2048x4x64 .f32 :=
  shapeCast _ (extractStridedSlice S32x2048x256 ![0, 0, 4096] p slices_S32x2048x4608_S32x2048x256_0_0_4096) shapeCasts_S32x2048x256_S32x2048x4x64

/-- The queries laid out. -/
def outq (q : FVec Ideal S32x2048x32x64 .f32) : FVec Ideal S16x65536x128 .bf16 :=
  truncf .bf16 (transpose S16x65536x128 [1, 0, 2] (shapeCast _ (mulf (mulf q (broadcastInDim S32x2048x32x64 ![] bcast_S_S32x2048x32x64 (constant S_ .f32 0x3E000000#32))) (broadcastInDim S32x2048x32x64 ![] bcast_S_S32x2048x32x64 (constant S_ .f32 0x3FB8AA3B#32))) shapeCasts_S32x2048x32x64_S65536x16x128) transposes_S65536x16x128_S16x65536x128_1_0_2) bitsLt_bf16_f32

/-- The keys laid out. -/
def outk (q : FVec Ideal S32x2048x4x64 .f32) : FVec Ideal S4x65536x128 .bf16 :=
  truncf .bf16 (transpose S4x65536x128 [1, 0, 2] (shapeCast _ (concatenate S32x2048x4x128 3 [⟨S32x2048x4x64, q⟩, ⟨S32x2048x4x64, q⟩] concatenates_S32x2048x4x64_S32x2048x4x64_S32x2048x4x128_d3) shapeCasts_S32x2048x4x128_S65536x4x128) transposes_S65536x4x128_S4x65536x128_1_0_2) bitsLt_bf16_f32

/-- The gates laid out. -/
def outg (p : FVec Ideal S32x2048x4608 .f32) : FVec Ideal S16x65536x128 .bf16 :=
  truncf .bf16 (transpose S16x65536x128 [1, 0, 2] (shapeCast _ (extractStridedSlice S32x2048x2048 ![0, 0, 2048] p slices_S32x2048x4608_S32x2048x2048_0_0_2048) shapeCasts_S32x2048x2048_S65536x16x128) transposes_S65536x16x128_S16x65536x128_1_0_2) bitsLt_bf16_f32

/-- The values laid out. -/
def outv (p : FVec Ideal S32x2048x4608 .f32) : FVec Ideal S32x256x2048 .bf16 :=
  truncf .bf16 (transpose S32x256x2048 [0, 2, 1] (extractStridedSlice S32x2048x256 ![0, 0, 4352] p slices_S32x2048x4608_S32x2048x256_0_0_4352) transposes_S32x2048x256_S32x256x2048_0_2_1) bitsLt_bf16_f32

/-- The first result is the queries'. -/
theorem resultq_eq (m : (ℓ : Loc nD τ sig) → Buf (Elt Ideal) ℓ) (c : Dev nD) (p : FVec Ideal S32x2048x4608 .f32)
    (hp : p = proj (m ((c.tc : Thread nD τ).loc main_arg0)) (m ((c.tc : Thread nD τ).loc main_arg1)) (m ((c.tc : Thread nD τ).loc main_arg2))) :
    Value.res_main_v98 m c = outq (rotq (queries p) (Host.cos angles) (Host.sin angles)) := by
  subst hp
  rfl

/-- The third result is the keys'. -/
theorem resultk_eq (m : (ℓ : Loc nD τ sig) → Buf (Elt Ideal) ℓ) (c : Dev nD) (p : FVec Ideal S32x2048x4608 .f32)
    (hp : p = proj (m ((c.tc : Thread nD τ).loc main_arg0)) (m ((c.tc : Thread nD τ).loc main_arg1)) (m ((c.tc : Thread nD τ).loc main_arg2))) :
    Value.res_main_v102 m c = outk (rotk (keys p) (Host.cos angles) (Host.sin angles)) := by
  subst hp
  rfl

theorem angles_at (s : Fin 2048) (k : Fin 8) : angles (ix2 s k) = ang s k := by
  unfold angles
  pointwise
  rfl

theorem proj_at (x : FVec Ideal S65536x1024 .f32) (g : FVec Ideal S1x1024 .f32) (w : FVec Ideal S1024x4608 .bf16)
    (b : Fin 32) (s : Fin 2048) (n : Fin 4608) :
    proj x g w (ix3 b s n) = pr (fun k => x (ix2 ⟨b * 2048 + s, by omega⟩ k)) (fun k => g (ix2 0 k)) (fun k => w (ix2 k n)) := by
  unfold proj
  pointwise
  rfl

/-- The columns of the row of a batch and a position. -/
theorem proj_cols (x : FVec Ideal S65536x1024 .f32) (g : FVec Ideal S1x1024 .f32) (w : FVec Ideal S1024x4608 .bf16)
    (b : Fin 32) (s : Fin 2048) (R : Fin 65536) (hR : R.val = b.val * 2048 + s.val) (n : Fin 4608) (n' : ℕ) (hn : n.val = n') :
    proj x g w (ix3 b s n) = colsOf (fun R k => x (ix2 R k)) (fun k => g (ix2 0 k)) (fun k j => w (ix2 k j)) R n' := by
  have eR : R = ⟨b * 2048 + s, by omega⟩ := Fin.ext hR
  have en : Fin.ofNat 4608 n' = n := Fin.ext (by rw [← hn]; exact Nat.mod_eq_of_lt n.isLt)
  unfold colsOf
  rw [proj_at, eR, en]

/-- A head's column by cases is the head turned in part. -/
theorem part_split (f : Fin 64 → EReal) (co si : Fin 8 → EReal) (s : ℕ) (j : Fin 64) (p : ℕ → EReal) (o : ℕ) (ho : o % 64 = 0)
    (hp : ∀ j' : Fin 64, f j' = p (o + j'.val)) (hc : ∀ k : Fin 8, co k = Ideal.cos (ang s k)) (hs : ∀ k : Fin 8, si k = Ideal.sin (ang s k)) :
    (if h1 : j.val < 16 then
      if h2 : j.val < 8 then f j * co ⟨j.val, h2⟩ - f ⟨8 + j.val, by omega⟩ * si ⟨j.val, h2⟩
      else f ⟨8 + (j.val - 8), by omega⟩ * co ⟨j.val - 8, by omega⟩ + f ⟨j.val - 8, by omega⟩ * si ⟨j.val - 8, by omega⟩
    else f ⟨16 + (j.val - 16), by omega⟩) = part p s (o + j.val) := by
  have hm : (o + j.val) % 64 = j.val := by omega
  unfold part
  rw [hm]
  simp only [hp, hc, hs]
  by_cases g : j.val < 16
  · rw [dif_pos g]
    by_cases g' : j.val < 8
    · rw [dif_pos g', if_pos g']
      have e : o + (8 + j.val) = o + j.val + 8 := by omega
      rw [e]
    · rw [dif_neg g', if_neg g', if_pos g]
      have e : o + (8 + (j.val - 8)) = o + j.val := by omega
      have e' : o + (j.val - 8) = o + j.val - 8 := by omega
      rw [e, e']
  · have g' : ¬ j.val < 8 := by omega
    have e : o + (16 + (j.val - 16)) = o + j.val := by omega
    rw [dif_neg g, if_neg g', if_neg g, e]

theorem rotq_at (q : FVec Ideal S32x2048x32x64 .f32) (b : Fin 32) (s : Fin 2048) (h : Fin 32) (j : Fin 64)
    (p : ℕ → EReal) (o : ℕ) (ho : o % 64 = 0) (hp : ∀ j' : Fin 64, q (ix4 b s h j') = p (o + j'.val)) :
    rotq q (Host.cos angles) (Host.sin angles) (ix4 b s h j) = part p s (o + j.val) := by
  have hc : ∀ k : Fin 8, (Host.cos angles : FVec Ideal S2048x8 .f32) (ix2 s k) = Ideal.cos (ang s k) := fun k => congrArg Ideal.cos (angles_at s k)
  have hs : ∀ k : Fin 8, (Host.sin angles : FVec Ideal S2048x8 .f32) (ix2 s k) = Ideal.sin (ang s k) := fun k => congrArg Ideal.sin (angles_at s k)
  generalize (Host.cos angles : FVec Ideal S2048x8 .f32) = co at *
  generalize (Host.sin angles : FVec Ideal S2048x8 .f32) = si at *
  rw [← part_split (fun j => q (ix4 b s h j)) (fun k => co (ix2 s k)) (fun k => si (ix2 s k)) s j p o ho hp hc hs]
  unfold rotq
  pointwise

theorem rotk_at (q : FVec Ideal S32x2048x4x64 .f32) (b : Fin 32) (s : Fin 2048) (h : Fin 4) (j : Fin 64)
    (p : ℕ → EReal) (o : ℕ) (ho : o % 64 = 0) (hp : ∀ j' : Fin 64, q (ix4 b s h j') = p (o + j'.val)) :
    rotk q (Host.cos angles) (Host.sin angles) (ix4 b s h j) = part p s (o + j.val) := by
  have hc : ∀ k : Fin 8, (Host.cos angles : FVec Ideal S2048x8 .f32) (ix2 s k) = Ideal.cos (ang s k) := fun k => congrArg Ideal.cos (angles_at s k)
  have hs : ∀ k : Fin 8, (Host.sin angles : FVec Ideal S2048x8 .f32) (ix2 s k) = Ideal.sin (ang s k) := fun k => congrArg Ideal.sin (angles_at s k)
  generalize (Host.cos angles : FVec Ideal S2048x8 .f32) = co at *
  generalize (Host.sin angles : FVec Ideal S2048x8 .f32) = si at *
  rw [← part_split (fun j => q (ix4 b s h j)) (fun k => co (ix2 s k)) (fun k => si (ix2 s k)) s j p o ho hp hc hs]
  unfold rotk
  pointwise

theorem queries_at (p : FVec Ideal S32x2048x4608 .f32) (b : Fin 32) (s : Fin 2048) (h : Fin 32) (j : Fin 64) :
    queries p (ix4 b s h j) = p (ix3 b s ⟨h.val * 64 + j.val, by omega⟩) := by
  unfold queries
  pointwise

theorem keys_at (p : FVec Ideal S32x2048x4608 .f32) (b : Fin 32) (s : Fin 2048) (h : Fin 4) (j : Fin 64) :
    keys p (ix4 b s h j) = p (ix3 b s ⟨4096 + (h.val * 64 + j.val), by omega⟩) := by
  unfold keys
  pointwise

theorem outq_at (q : FVec Ideal S32x2048x32x64 .f32) (h : Fin 16) (R : Fin 65536) (k : Fin 128) :
    outq q (ix3 h R k) = q (ix4 ⟨R.val / 2048, by omega⟩ ⟨R.val % 2048, by omega⟩ ⟨h.val * 2 + k.val / 64, by omega⟩ ⟨k.val % 64, by omega⟩)
      * Ideal.ofBits FTy.f32 1040187392#32 * Ideal.ofBits FTy.f32 1069066811#32 := by
  unfold outq
  pointwise

theorem outk_at (q : FVec Ideal S32x2048x4x64 .f32) (h : Fin 4) (R : Fin 65536) (k : Fin 128) :
    outk q (ix3 h R k) = q (ix4 ⟨R.val / 2048, by omega⟩ ⟨R.val % 2048, by omega⟩ h ⟨k.val % 64, by omega⟩) := by
  have e : outk q (ix3 h R k) = if g : k.val < 64 then q (ix4 ⟨R.val / 2048, by omega⟩ ⟨R.val % 2048, by omega⟩ h ⟨k.val, g⟩)
      else q (ix4 ⟨R.val / 2048, by omega⟩ ⟨R.val % 2048, by omega⟩ h ⟨k.val - 64, by omega⟩) := by
    unfold outk
    pointwise
  rw [e]
  by_cases g : k.val < 64
  · have ek : (⟨k.val, g⟩ : Fin 64) = ⟨k.val % 64, by omega⟩ := Fin.ext (by dsimp only; omega)
    rw [dif_pos g, ek]
  · have ek : (⟨k.val - 64, by omega⟩ : Fin 64) = ⟨k.val % 64, by omega⟩ := Fin.ext (by dsimp only; omega)
    rw [dif_neg g, ek]

theorem outg_at (p : FVec Ideal S32x2048x4608 .f32) (h : Fin 16) (R : Fin 65536) (k : Fin 128) :
    outg p (ix3 h R k) = p (ix3 ⟨R.val / 2048, by omega⟩ ⟨R.val % 2048, by omega⟩ ⟨2048 + (h.val * 128 + k.val), by omega⟩) := by
  unfold outg
  pointwise

theorem outv_at (p : FVec Ideal S32x2048x4608 .f32) (b : Fin 32) (j : Fin 256) (s : Fin 2048) :
    outv p (ix3 b j s) = p (ix3 b s ⟨4352 + j.val, by omega⟩) := by
  unfold outv
  pointwise

variable (m : (ℓ : Loc nD τ sig) → Buf (Elt Ideal) ℓ) (c : Dev nD)

/-- The columns of a row of the arguments. -/
def colsAt (R : Fin 65536) : ℕ → EReal :=
  colsOf (fun R k => m ((c.tc : Thread nD τ).loc main_arg0) (ix2 R k)) (fun k => m ((c.tc : Thread nD τ).loc main_arg1) (ix2 0 k))
    (fun k j => m ((c.tc : Thread nD τ).loc main_arg2) (ix2 k j)) R

/-- The projection of the arguments. -/
def projAt : FVec Ideal S32x2048x4608 .f32 :=
  proj (m ((c.tc : Thread nD τ).loc main_arg0)) (m ((c.tc : Thread nD τ).loc main_arg1)) (m ((c.tc : Thread nD τ).loc main_arg2))

theorem projAt_at (b : Fin 32) (s : Fin 2048) (R : Fin 65536) (hR : R.val = b.val * 2048 + s.val) (n : Fin 4608) (n' : ℕ) (hn : n.val = n') :
    projAt m c (ix3 b s n) = colsAt m c R n' :=
  proj_cols _ _ _ b s R hR n n' hn

/-- The first result, at a pair of heads, a row and a lane. -/
theorem resultq_at (h : Fin 16) (R : Fin 65536) (k : Fin 128) :
    Value.res_main_v98 m c (ix3 h R k)
      = part (colsAt m c R) (R.val % 2048) (128 * h.val + k.val) * Ideal.ofBits FTy.f32 1043900987#32 := by
  rw [resultq_eq m c (projAt m c) rfl, outq_at, scale_eq]
  congr 2
  rw [rotq_at _ _ _ _ _ (colsAt m c R) (64 * (h.val * 2 + k.val / 64)) (by omega) fun j' => by
    rw [queries_at]
    exact projAt_at m c _ _ R (by dsimp only; omega) _ _ (by dsimp only; omega)]
  congr 1
  dsimp only
  omega

/-- The third result, at a head, a row and a lane. -/
theorem resultk_at (h : Fin 4) (R : Fin 65536) (k : Fin 128) :
    Value.res_main_v102 m c (ix3 h R k) = part (colsAt m c R) (R.val % 2048) (4096 + (64 * h.val + k.val % 64)) := by
  rw [resultk_eq m c (projAt m c) rfl, outk_at]
  rw [rotk_at _ _ _ _ _ (colsAt m c R) (4096 + 64 * h.val) (by omega) fun j' => by
    rw [keys_at]
    exact projAt_at m c _ _ R (by dsimp only; omega) _ _ (by dsimp only; omega)]
  congr 1
  dsimp only
  omega

/-- The second result, at a head, a row and a lane. -/
theorem resultg_at (h : Fin 16) (R : Fin 65536) (k : Fin 128) :
    outg (projAt m c) (ix3 h R k) = colsAt m c R (2048 + (128 * h.val + k.val)) := by
  rw [outg_at]
  exact projAt_at m c _ _ R (by dsimp only; omega) _ _ (by dsimp only; omega)

/-- The fourth result, at a batch, a column and a position. -/
theorem resultv_at (b : Fin 32) (j : Fin 256) (s : Fin 2048) :
    outv (projAt m c) (ix3 b j s) = colsAt m c ⟨b.val * 2048 + s.val, by omega⟩ (4352 + j.val) := by
  rw [outv_at]
  exact projAt_at m c _ _ _ rfl _ _ rfl

/-- The reference's run. -/
theorem run_at (ρ : Dev nD → PrngReg) :
    θ_run defs (onTc (τ := τ) (main (F := Ideal))) ⟨m, fun _ => 0, ρ⟩ fun r => ∀ c : Dev nD,
      r.2.mem ((c.tc : Thread nD τ).loc main_v98) = (fun y : S16x65536x128.Idx =>
        part (colsAt m c (y 1)) ((y 1).val % 2048) (128 * (y 0).val + (y 2).val) * Ideal.ofBits FTy.f32 1043900987#32)
      ∧ r.2.mem ((c.tc : Thread nD τ).loc main_v101) = (fun y : S16x65536x128.Idx => colsAt m c (y 1) (2048 + (128 * (y 0).val + (y 2).val)))
      ∧ r.2.mem ((c.tc : Thread nD τ).loc main_v102) = (fun y : S4x65536x128.Idx =>
        part (colsAt m c (y 1)) ((y 1).val % 2048) (4096 + (64 * (y 0).val + (y 2).val % 64)))
      ∧ r.2.mem ((c.tc : Thread nD τ).loc main_v104) = (fun y : S32x256x2048.Idx => colsAt m c ⟨(y 0).val * 2048 + (y 2).val, by
          have h0 : (y 0).val < 32 := (y 0).isLt
          have h2 : (y 2).val < 2048 := (y 2).isLt
          omega⟩ (4352 + (y 1).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans (?_ : outg (projAt m c) = _), (h c).2.2.1.trans ?_,
    (h c).2.2.2.1.trans (?_ : outv (projAt m c) = _), (h c).2.2.2.2⟩) (Value.run (F := Ideal) m ρ)
  · funext y
    obtain ⟨h, R, k, hy⟩ : ∃ (h : Fin 16) (R : Fin 65536) (k : Fin 128), y = ix3 h R k := ⟨_, _, _, eq_ix3 y⟩
    subst hy
    exact resultq_at m c h R k
  · funext y
    obtain ⟨h, R, k, hy⟩ : ∃ (h : Fin 16) (R : Fin 65536) (k : Fin 128), y = ix3 h R k := ⟨_, _, _, eq_ix3 y⟩
    subst hy
    exact resultg_at m c h R k
  · funext y
    obtain ⟨h, R, k, hy⟩ : ∃ (h : Fin 4) (R : Fin 65536) (k : Fin 128), y = ix3 h R k := ⟨_, _, _, eq_ix3 y⟩
    subst hy
    exact resultk_at m c h R k
  · funext y
    obtain ⟨b, j, s, hy⟩ : ∃ (b : Fin 32) (j : Fin 256) (s : Fin 2048), y = ix3 b j s := ⟨_, _, _, eq_ix3 y⟩
    subst hy
    exact resultv_at m c b j s

end Cert.Reference4Ideal.Hand

end
-- ==== Proof.ProjD.lean ====
/- The output projection of the mixing layer: three products added to the residual, 512 rows to the grid point. -/
module

public import Idealize.ShloMosaic.PureOps.Ideal
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Mix

open Idealize.ShloMosaic

/-- A row of three parts times a column of three parts, added to the residual. -/
def mixed (x : EReal) (a b : Fin 1024 → EReal) (c : Fin 128 → EReal) (w : Fin 2176 → EReal) : EReal :=
  x + (∑ k, a k * w ⟨k.val, by omega⟩ + ∑ k, b k * w ⟨1024 + k.val, by omega⟩ + ∑ k, c k * w ⟨2048 + k.val, by omega⟩)

/-- The parts side by side times the column is the sum of the parts' products. -/
theorem mixed_eq (x : EReal) (a b : Fin 1024 → EReal) (c : Fin 128 → EReal) (w : Fin 2176 → EReal) :
    x + ∑ k : Fin 2176, (if h : k.val < 1024 then a ⟨k.val, h⟩ else if h' : k.val - 1024 < 1024 then b ⟨k.val - 1024, h'⟩
      else c ⟨k.val - 1024 - 1024, by omega⟩) * w k = mixed x a b c w := by
  unfold mixed
  congr 1
  refine (Fin.sum_univ_add (a := 2048) (b := 128) _).trans (congrArg₂ _ ((Fin.sum_univ_add (a := 1024) (b := 1024) _).trans (congrArg₂ _ ?_ ?_)) ?_)
  · refine Finset.sum_congr rfl fun k _ => ?_
    have h : k.val < 1024 := k.isLt
    show (if h : k.val < 1024 then _ else _) * _ = _
    rw [dif_pos h]
    rfl
  · refine Finset.sum_congr rfl fun k _ => ?_
    have h : ¬ 1024 + k.val < 1024 := by omega
    have h' : 1024 + k.val - 1024 < 1024 := by omega
    show (if h : 1024 + k.val < 1024 then _ else if h' : 1024 + k.val - 1024 < 1024 then _ else _) * _ = _
    rw [dif_neg h, dif_pos h']
    refine congrArg₂ _ (congrArg b (Fin.ext ?_)) rfl
    show 1024 + k.val - 1024 = k.val
    omega
  · refine Finset.sum_congr rfl fun k _ => ?_
    have h : ¬ 2048 + k.val < 1024 := by omega
    have h' : ¬ 2048 + k.val - 1024 < 1024 := by omega
    show (if h : 2048 + k.val < 1024 then _ else if h' : 2048 + k.val - 1024 < 1024 then _ else _) * _ = _
    rw [dif_neg h, dif_neg h']
    refine congrArg₂ _ (congrArg c (Fin.ext ?_)) rfl
    show 2048 + k.val - 1024 - 1024 = k.val
    omega

end Cert.Mix

namespace Cert.Kernel5Ideal.Hand

open Cert.Kernel5Ideal Cert.Kernel5Ideal.Gen Idealize.ShloMosaic Idealize.ShloMosaic.TcCoe Idealize.SL.Sem
open Idealize.ShloMosaic.Pipeline (Dat)
open Cert.Mix

/-- What the body leaves, at a row and a column of its block. -/
theorem out_at (x0 x1 : Vec Ideal S512x1024 .bf16) (x2 : Vec Ideal S512x128 .bf16) (x3 : Vec Ideal S512x1024 .f32) (x4 : Vec Ideal S2176x1024 .bf16)
    (r : Fin 512) (n : Fin 1024) :
    out0_5 (F := Ideal) x0 x1 x2 x3 x4 (ix2 r n) = mixed (x3 (ix2 r n)) (fun k => x0 (ix2 r k)) (fun k => x1 (ix2 r k)) (fun k => x2 (ix2 r k))
      (fun k => x4 (ix2 k n)) := by
  unfold out0_5 k0_pay1
  canon_tiles x h using (cover0_5 (F := Ideal) _ _)
  all_goals open_payloads
  all_goals
    obtain ⟨a, b, hx⟩ : ∃ a b, x = ix2 a b := ⟨_, _, eq_ix2 x⟩
    subst hx
    obtain rfl : r = a := Fin.ext h0
    obtain rfl : n = b := Fin.ext h1
    pointwise
    rfl

variable (m : (ℓ : Loc nD τ sig) → Buf (Elt Ideal) ℓ) (c : Dev nD)

theorem index_0 : ∀ t : Fin cfg0.N, win0_0.index t 0 = t.val ∧ win0_0.index t 1 = 0 :=
  (by decide +kernel : ∀ t : Fin grid0.N, win0_0.index t 0 = t.val ∧ win0_0.index t 1 = 0)

theorem index_1 : ∀ t : Fin cfg0.N, win0_1.index t 0 = t.val ∧ win0_1.index t 1 = 0 :=
  (by decide +kernel : ∀ t : Fin grid0.N, win0_1.index t 0 = t.val ∧ win0_1.index t 1 = 0)

theorem index_2 : ∀ t : Fin cfg0.N, win0_2.index t 0 = t.val ∧ win0_2.index t 1 = 0 :=
  (by decide +kernel : ∀ t : Fin grid0.N, win0_2.index t 0 = t.val ∧ win0_2.index t 1 = 0)

theorem index_3 : ∀ t : Fin cfg0.N, win0_3.index t 0 = t.val ∧ win0_3.index t 1 = 0 :=
  (by decide +kernel : ∀ t : Fin grid0.N, win0_3.index t 0 = t.val ∧ win0_3.index t 1 = 0)

theorem index_4 : ∀ t : Fin cfg0.N, win0_4.index t 0 = 0 ∧ win0_4.index t 1 = 0 :=
  (by decide +kernel : ∀ t : Fin grid0.N, win0_4.index t 0 = 0 ∧ win0_4.index t 1 = 0)

theorem index_5 : ∀ t : Fin cfg0.N, win0_5.index t 0 = t.val ∧ win0_5.index t 1 = 0 :=
  (by decide +kernel : ∀ t : Fin grid0.N, win0_5.index t 0 = t.val ∧ win0_5.index t 1 = 0)

/-- The first part's block of a grid point. -/
theorem first_at (t : Fin cfg0.N) (r : Fin 512) (k : Fin 1024) (R : Fin 65536) (hR : R.val = t.val * 512 + r.val) :
    iblk m c 0 t (ix2 r k) = m ((c : Thread nD τ).loc main_arg0) (ix2 R k) := by
  obtain ⟨e0, e1⟩ := index_0 t
  unfold iblk
  rw [View.read_apply]
  show V m c main_arg0 _ = _
  rw [V_main_arg0]
  congr 1
  funext a
  apply Fin.ext
  match a with
  | ⟨0, _⟩ => show win0_0.index t 0 * 512 + 1 * r.val = R.val; rw [e0, hR]; omega
  | ⟨1, _⟩ => show win0_0.index t 1 * 1024 + 1 * k.val = k.val; rw [e1]; omega

/-- The second part's block of a grid point. -/
theorem second_at (t : Fin cfg0.N) (r : Fin 512) (k : Fin 1024) (R : Fin 65536) (hR : R.val = t.val * 512 + r.val) :
    iblk m c 1 t (ix2 r k) = m ((c : Thread nD τ).loc main_arg1) (ix2 R k) := by
  obtain ⟨e0, e1⟩ := index_1 t
  unfold iblk
  rw [View.read_apply]
  show V m c main_arg1 _ = _
  rw [V_main_arg1]
  congr 1
  funext a
  apply Fin.ext
  match a with
  | ⟨0, _⟩ => show win0_1.index t 0 * 512 + 1 * r.val = R.val; rw [e0, hR]; omega
  | ⟨1, _⟩ => show win0_1.index t 1 * 1024 + 1 * k.val = k.val; rw [e1]; omega

/-- The third part's block of a grid point. -/
theorem third_at (t : Fin cfg0.N) (r : Fin 512) (k : Fin 128) (R : Fin 65536) (hR : R.val = t.val * 512 + r.val) :
    iblk m c 2 t (ix2 r k) = m ((c : Thread nD τ).loc main_arg2) (ix2 R k) := by
  obtain ⟨e0, e1⟩ := index_2 t
  unfold iblk
  rw [View.read_apply]
  show V m c main_arg2 _ = _
  rw [V_main_arg2]
  congr 1
  funext a
  apply Fin.ext
  match a with
  | ⟨0, _⟩ => show win0_2.index t 0 * 512 + 1 * r.val = R.val; rw [e0, hR]; omega
  | ⟨1, _⟩ => show win0_2.index t 1 * 128 + 1 * k.val = k.val; rw [e1]; omega

/-- The residual's block of a grid point. -/
theorem rows_at (t : Fin cfg0.N) (r : Fin 512) (k : Fin 1024) (R : Fin 65536) (hR : R.val = t.val * 512 + r.val) :
    iblk m c 3 t (ix2 r k) = m ((c : Thread nD τ).loc main_arg3) (ix2 R k) := by
  obtain ⟨e0, e1⟩ := index_3 t
  unfold iblk
  rw [View.read_apply]
  show V m c main_arg3 _ = _
  rw [V_main_arg3]
  congr 1
  funext a
  apply Fin.ext
  match a with
  | ⟨0, _⟩ => show win0_3.index t 0 * 512 + 1 * r.val = R.val; rw [e0, hR]; omega
  | ⟨1, _⟩ => show win0_3.index t 1 * 1024 + 1 * k.val = k.val; rw [e1]; omega

/-- The weights' block is the weights. -/
theorem weights_at (t : Fin cfg0.N) (r : Fin 2176) (k : Fin 1024) :
    iblk m c 4 t (ix2 r k) = m ((c : Thread nD τ).loc main_arg4) (ix2 r k) := by
  obtain ⟨e0, e1⟩ := index_4 t
  unfold iblk
  rw [View.read_apply]
  show V m c main_arg4 _ = _
  rw [V_main_arg4]
  congr 1
  funext a
  apply Fin.ext
  match a with
  | ⟨0, _⟩ => show win0_4.index t 0 * 2176 + 1 * r.val = r.val; rw [e0]; omega
  | ⟨1, _⟩ => show win0_4.index t 1 * 1024 + 1 * k.val = k.val; rw [e1]; omega

/-- Where a block of the output sits. -/
theorem emb_at (t : Fin cfg0.N) (r : Fin 512) (n : Fin 1024) (R : Fin 65536) (hR : R.val = t.val * 512 + r.val) :
    ((cfg0.win 5).blk t).view.emb (ix2 r n) = (ix2 R n : S65536x1024.Idx) := by
  obtain ⟨e0, e1⟩ := index_5 t
  funext a
  apply Fin.ext
  match a with
  | ⟨0, _⟩ => show win0_5.index t 0 * 512 + 1 * r.val = R.val; rw [e0, hR]; omega
  | ⟨1, _⟩ => show win0_5.index t 1 * 1024 + 1 * n.val = n.val; rw [e1]; omega

/-- The three parts projected and added to the residual. -/
def whole (y : S65536x1024.Idx) : EReal :=
  mixed (m ((c : Thread nD τ).loc main_arg3) (ix2 (y 0) (y 1))) (fun k => m ((c : Thread nD τ).loc main_arg0) (ix2 (y 0) k))
    (fun k => m ((c : Thread nD τ).loc main_arg1) (ix2 (y 0) k)) (fun k => m ((c : Thread nD τ).loc main_arg2) (ix2 (y 0) k))
    (fun k => m ((c : Thread nD τ).loc main_arg4) (ix2 k (y 1)))

/-- What a grid point leaves is the result at its place. -/
theorem point_at (t : Fin cfg0.N) (r : Fin 512) (n : Fin 1024) :
    out0_5 (iblk m c 0 t) (iblk m c 1 t) (iblk m c 2 t) (iblk m c 3 t) (iblk m c 4 t) (ix2 r n)
      = whole m c (((cfg0.win 5).blk t).view.emb (ix2 r n)) := by
  have hN : t.val < 128 := t.isLt
  have hR : t.val * 512 + r.val < 65536 := by omega
  rw [emb_at t r n ⟨_, hR⟩ rfl]
  refine (out_at _ _ _ _ _ r n).trans ?_
  simp only [first_at m c t r _ ⟨_, hR⟩ rfl, second_at m c t r _ ⟨_, hR⟩ rfl, third_at m c t r _ ⟨_, hR⟩ rfl,
    rows_at m c t r _ ⟨_, hR⟩ rfl, weights_at]
  rfl

/-- The output array after the run. -/
theorem final : (dats m 0 c).arrAt 5 cfg0.N = whole m c := by
  refine (dats m 0 c).arrAt_eq_of_covers 5 _ (by decide +kernel) fun t hf y => ?_
  blk_simp
  rw [after0_5]
  have h := point_at m c t (y 0) (y 1)
  have e : (ix2 (y 0) (y 1) : S512x1024.Idx) = y := (eq_ix2 (n0 := 512) (n1 := 1024) y).symm
  rw [e] at h
  exact h

end Cert.Kernel5Ideal.Hand

namespace Cert.Reference5Ideal.Hand

open Cert.Reference5Ideal Cert.Reference5Ideal.Gen Idealize.ShloMosaic Idealize.ShloMosaic.TcCoe Idealize.SL.Sem

/-- The reference's result, at a row and a column. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun y : S65536x1024.Idx =>
        Cert.Mix.mixed (m ((c.tc : Thread nD τ).loc main_arg3) (ix2 (y 0) (y 1))) (fun k => m ((c.tc : Thread nD τ).loc main_arg0) (ix2 (y 0) k))
          (fun k => m ((c.tc : Thread nD τ).loc main_arg1) (ix2 (y 0) k)) (fun k => m ((c.tc : Thread nD τ).loc main_arg2) (ix2 (y 0) k))
          (fun k => m ((c.tc : Thread nD τ).loc main_arg4) (ix2 k (y 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  funext y
  obtain ⟨r, n, hy⟩ : ∃ (r : Fin 65536) (n : Fin 1024), y = ix2 r n := ⟨_, _, eq_ix2 y⟩
  subst hy
  pointwise
  exact Cert.Mix.mixed_eq (m ((c.tc : Thread nD τ).loc main_arg3) (ix2 r n)) (fun k => m ((c.tc : Thread nD τ).loc main_arg0) (ix2 r k))
    (fun k => m ((c.tc : Thread nD τ).loc main_arg1) (ix2 r k)) (fun k => m ((c.tc : Thread nD τ).loc main_arg2) (ix2 r k))
    (fun k => m ((c.tc : Thread nD τ).loc main_arg4) (ix2 k n))

end Cert.Reference5Ideal.Hand

end
-- ==== Proof.Chunk.lean ====
/-
  The chunked form of one-directional retention, over the real numbers, for one output column: what a run of
  positions adds to the state, and what a position reads from its own chunk and from the state.
-/
module

public import Idealize.ShloMosaic.Lib.Pointwise

@[expose] public section

noncomputable section

namespace Cert.Chunk

open Finset

variable {dk : ℕ} (q k : ℕ → Fin dk → ℝ) (v : ℕ → ℝ) (g : ℝ)

/-- The state after the first `m` positions: every key times its value, each decayed by its distance to position
    `m - 1`. -/
def st (m : ℕ) (d : Fin dk) : ℝ :=
  ∑ j ∈ range m, Real.exp (((m : ℝ) - 1 - j) * g) * k j d * v j

/-- The dot product of the query at `i` and the key at `j`. -/
def dotp (i j : ℕ) : ℝ := ∑ d, q i d * k j d

/-- The retention's result at position `i`, over the positions before it, and position `i` itself when `inc` is
    true. -/
def ret (inc : Bool) (i : ℕ) : ℝ :=
  ∑ j ∈ range (i + inc.toNat), Real.exp (((i : ℝ) - j) * g) * dotp q k i j * v j

/-- The decay between two places of one chunk: zero where the second is not before the first. -/
def mask (inc : Bool) (r r' : ℕ) : ℝ :=
  if r' < r + inc.toNat then Real.exp (((r : ℝ) - r') * g) else 0

theorem st_zero (d : Fin dk) : st k v g 0 d = 0 := by simp [st]

/-- The state after one more chunk. -/
theorem st_step (b n : ℕ) (d : Fin dk) :
    st k v g (b + n) d
      = st k v g b d * Real.exp (n * g)
        + ∑ r ∈ range n, k (b + r) d * Real.exp (((n : ℝ) - 1 - r) * g) * v (b + r) := by
  unfold st
  rw [sum_range_add, sum_mul]
  congr 1
  · refine sum_congr rfl fun j _ => ?_
    rw [show ((↑(b + n) : ℝ) - 1 - j) * g = ((b : ℝ) - 1 - j) * g + n * g by push_cast; ring, Real.exp_add]
    ring
  · refine sum_congr rfl fun r _ => ?_
    rw [show ((↑(b + n) : ℝ) - 1 - ↑(b + r)) * g = ((n : ℝ) - 1 - r) * g by push_cast; ring]
    ring

/-- The result at place `r` of the chunk that starts at `b`: the chunk's own earlier places, and the state. -/
theorem ret_chunk (inc : Bool) (b n r : ℕ) (hr : r < n) :
    ret q k v g inc (b + r)
      = (∑ r' ∈ range n, dotp q k (b + r) (b + r') * mask g inc r r' * v (b + r'))
        + (∑ d, q (b + r) d * st k v g b d) * Real.exp (((r : ℝ) + 1) * g) := by
  have hle : r + inc.toNat ≤ n := by cases inc <;> simp <;> omega
  have h1 : ∑ r' ∈ range n, dotp q k (b + r) (b + r') * mask g inc r r' * v (b + r')
      = ∑ r' ∈ range (r + inc.toNat), Real.exp (((r : ℝ) - r') * g) * dotp q k (b + r) (b + r') * v (b + r') := by
    rw [← sum_subset (range_subset_range.2 hle)]
    · refine sum_congr rfl fun r' h => ?_
      rw [mask, if_pos (mem_range.1 h)]
      ring
    · intro r' _ h
      rw [mask, if_neg (by simpa using h)]
      ring
  rw [h1]
  unfold ret
  rw [add_assoc, sum_range_add, add_comm]
  congr 1
  · refine sum_congr rfl fun r' _ => ?_
    rw [show ((↑(b + r) : ℝ) - ↑(b + r')) = (r : ℝ) - r' by push_cast; ring]
  · unfold st dotp
    simp only [mul_sum, sum_mul]
    rw [sum_comm]
    refine sum_congr rfl fun d _ => sum_congr rfl fun j _ => ?_
    rw [show ((↑(b + r) : ℝ) - j) * g = ((b : ℝ) - 1 - j) * g + ((r : ℝ) + 1) * g by push_cast; ring, Real.exp_add]
    ring

/-- A finite sum of reals, read as an extended real, is the sum of the terms read so. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An entry of an array of real numbers at equal places. -/
theorem coe_congr (p : ℕ → ℕ → ℕ → ℝ) {a a' b b' n n' : ℕ} (ha : a = a') (hb : b = b') (hn : n = n') :
    (p a b n : EReal) = (p a' b' n' : EReal) := by
  rw [ha, hb, hn]

/-- The queries of a row and a head, in the order of the recurrence: from the last position to the first. -/
def qRev (p : ℕ → ℕ → ℕ → ℝ) (b h i : ℕ) (d : Fin 256) : ℝ := p b (2047 - i) (h * 256 + d.val)

/-- The keys. -/
def kRev (p : ℕ → ℕ → ℕ → ℝ) (b h i : ℕ) (d : Fin 256) : ℝ := p b (2047 - i) (1024 + h * 256 + d.val)

/-- The values at one column. -/
def vRev (p : ℕ → ℕ → ℕ → ℝ) (b h e i : ℕ) : ℝ := p b (2047 - i) (2048 + h * 512 + e)

/-- The backward retention of the projected array `p` with the decay exponents `g`, at a row, a position and a
    column. -/
def bwd (p : ℕ → ℕ → ℕ → ℝ) (g : ℕ → ℝ) (b s n : ℕ) : ℝ :=
  ret (qRev p b (n / 512)) (kRev p b (n / 512)) (vRev p b (n / 512) (n % 512)) (g (n / 512)) false (2047 - s)

end Cert.Chunk

end
-- ==== Proof.Gated.lean ====
/-
  What follows a forward retention: the backward part is added, each head is divided by its root mean square and
  gated, and the heads together go through a product. Also the forward retention of a projected array.
-/
module

public import Idealize.ShloMosaic.PureOps.Ideal
public import proofs.«01_k».proof.Proof.Chunk

@[expose] public section

noncomputable section

namespace Cert.Gated

open Idealize.ShloMosaic Cert.Chunk

/-- One column of a head, divided by the root of the head's mean square and a small number. -/
def norm (o : ℕ → EReal) (e : ℕ) : EReal :=
  o e * Ideal.rsqrt (Ideal.div (∑ x : Fin 512, o x * o x) (Ideal.ofBits FTy.f32 1140850688#32) + Ideal.ofBits FTy.f32 897988541#32)

/-- The gate by the hyperbolic tangent. -/
def gateT (x : EReal) : EReal :=
  Ideal.ofBits FTy.f32 1056964608#32 * x
    + Ideal.ofBits FTy.f32 1056964608#32 * x * Ideal.tanh (Ideal.ofBits FTy.f32 1056964608#32 * x)

/-- The gate by the exponential. -/
def gateE (x : EReal) : EReal :=
  x * Ideal.div 1 (1 + Ideal.exp (-x))

theorem half32 : Ideal.ofBits FTy.f32 1056964608#32 = ((1 / 2 : ℝ) : EReal) := by
  simp [Ideal.ofBits, Ideal.ieee, -EReal.coe_mul]; norm_num

/-- The two gates agree on the real numbers. -/
theorem gateT_eq (x : ℝ) : gateT (x : EReal) = gateE (x : EReal) := by
  unfold gateT gateE
  rw [half32, ← EReal.coe_one, ← EReal.coe_neg, Ideal.exp_coe, ← EReal.coe_add, ← EReal.coe_mul, Ideal.tanh_coe]
  rw [Ideal.div_coe (by positivity), ← EReal.coe_mul, ← EReal.coe_mul, ← EReal.coe_mul, ← EReal.coe_add]
  congr 1
  have ha := Real.exp_pos (1 / 2 * x)
  rw [Real.tanh_eq_sinh_div_cosh, Real.sinh_eq, Real.cosh_eq, show -x = -(1 / 2 * x) + -(1 / 2 * x) by ring, Real.exp_add,
    Real.exp_neg]
  generalize Real.exp (1 / 2 * x) = a at ha
  have : a ^ 2 + 1 ≠ 0 := by positivity
  field_simp
  ring

/-- The result at a place, of the retention `R`, the part `O` that is added to it, the gates `G`, the residual `X` and
    the weights `W`. -/
def whole (gate : EReal → EReal) (R O G X : ℕ → ℕ → ℕ → EReal) (W : ℕ → ℕ → EReal) (b s m : ℕ) : EReal :=
  X b s m + ∑ n : Fin 2048, norm (fun e => R b s (n.val / 512 * 512 + e) + O b s (n.val / 512 * 512 + e)) (n.val % 512)
    * gate (G b s n) * W n m

/-- The queries of a row and a head. -/
def qFwd (p : ℕ → ℕ → ℕ → ℝ) (b h i : ℕ) (d : Fin 256) : ℝ := p b i (h * 256 + d.val)

/-- The keys. -/
def kFwd (p : ℕ → ℕ → ℕ → ℝ) (b h i : ℕ) (d : Fin 256) : ℝ := p b i (1024 + h * 256 + d.val)

/-- The values at one column. -/
def vFwd (p : ℕ → ℕ → ℕ → ℝ) (b h e i : ℕ) : ℝ := p b i (2048 + h * 512 + e)

/-- The forward retention of the projected array `p` with the decay exponents `g`, at a row, a position and a column. -/
def fwd (p : ℕ → ℕ → ℕ → ℝ) (g : ℕ → ℝ) (b s n : ℕ) : ℝ :=
  ret (qFwd p b (n / 512)) (kFwd p b (n / 512)) (vFwd p b (n / 512) (n % 512)) (g (n / 512)) true s

end Cert.Gated

end
-- ==== Proof.FwdUnit.lean ====
module

public import proofs.«01_k».proof.Proof.Gen.Kernel6Ideal.Value
public import Idealize.ShloMosaic.Lib.Pointwise
public import proofs.«01_k».proof.Proof.Gated
public import Idealize.ShloMosaic.Lib.Pipeline.ReadBack

@[expose] public section

set_option maxRecDepth 16384

noncomputable section

namespace Cert.Kernel6Ideal.Hand

open Cert.Kernel6Ideal Cert.Kernel6Ideal.Gen Idealize.ShloMosaic Idealize.ShloMosaic.TcCoe Idealize.SL.Sem

/-- One (row, head) unit's retention. -/
def uRet (q k : Vec Ideal S1x256x256 .bf16) (v : Vec Ideal S1x256x512 .bf16) (dec : Vec Ideal S1x1x256x128 .f32)
    (s : Vec Ideal S1x1x256x512 .f32) (intra : Vec Ideal S1x256x256 .f32) : FVec Ideal S256x512 .f32 :=
  k0_pay63 (k0_pay24 q) (k0_pay32 v) (k0_pay36 (k0_pay24 q) (k0_pay28 k)) dec s intra

/-- A unit's retention with the backward part added, normed and gated. -/
def uPart (acc : FVec Ideal S256x512 .f32) (ob gate : Vec Ideal S1x256x512 .bf16) : FVec Ideal S256x512 .bf16 :=
  k0_pay65 acc ob gate

/-- The output block of a row, of its four units. -/
def uRow (p0 p1 p2 p3 : FVec Ideal S256x512 .bf16) (x : Vec Ideal S1x256x1024 .f32) (w : Vec Ideal S2048x1024 .bf16) :
    FVec Ideal S1x256x1024 .f32 :=
  k0_pay2 (concatenate S256x2048 1 [⟨S256x512, p0⟩, ⟨S256x512, p1⟩, ⟨S256x512, p2⟩, ⟨S256x512, p3⟩]
    concatenates_S256x512_S256x512_S256x512_S256x512_S256x2048_d1) x w

/-- One unit's new state. -/
def uState (k : Vec Ideal S1x256x256 .bf16) (v : Vec Ideal S1x256x512 .bf16) (dec : Vec Ideal S1x1x256x128 .f32)
    (lg : Elt Ideal .f32) (s : Vec Ideal S1x1x256x512 .f32) : Vec Ideal S1x1x256x512 .f32 :=
  k0_pay64 (k0_pay28 k) (k0_pay32 v) dec lg s

theorem c256 : Ideal.ofBits .f32 0x43800000#32 = ((256 : ℝ) : EReal) := by
  simp [Ideal.ofBits, Ideal.ieee, -EReal.coe_mul]
  norm_num

/-- The retention of a unit whose operands are real numbers. -/
theorem uRet_real (q k : Vec Ideal S1x256x256 .bf16) (v : Vec Ideal S1x256x512 .bf16) (dec : Vec Ideal S1x1x256x128 .f32)
    (s : Vec Ideal S1x1x256x512 .f32) (intra : Vec Ideal S1x256x256 .f32)
    (Q K M : Fin 256 → Fin 256 → ℝ) (V S : Fin 256 → Fin 512 → ℝ) (D : Fin 256 → ℝ)
    (hq : ∀ r d, q (ix3 0 r d) = (Q r d : EReal)) (hk : ∀ r d, k (ix3 0 r d) = (K r d : EReal))
    (hv : ∀ r e, v (ix3 0 r e) = (V r e : EReal)) (hd : ∀ r e, dec (ix4 0 0 r e) = (D r : EReal))
    (hs : ∀ d e, s (ix4 0 0 d e) = (S d e : EReal)) (hi : ∀ r j, intra (ix3 0 r j) = (M r j : EReal))
    (r : Fin 256) (e : Fin 512) :
    uRet q k v dec s intra (ix2 r e)
      = (((∑ j, (∑ d, Q r d * K j d) * M r j * V j e) + ∑ d, Q r d * D r * S d e : ℝ) : EReal) := by
  unfold uRet
  unfold_payloads
  pointwise
  rw [Fin.sum_univ_two_halves 256 256 rfl]
  simp only [Fin.is_lt, dite_true, not_lt, Nat.le_add_right, Nat.not_lt.2 (Nat.le_add_right _ _), dite_false, Nat.add_sub_cancel_left, Fin.eta, hq, hk, hv, hd, hs, hi,
    dite_eq_ite, ite_self]
  simp only [EReal.coe_add, EReal.coe_mul, Chunk.coe_sum]

/-- The new state of a unit whose operands are real numbers. -/
theorem uState_real (k : Vec Ideal S1x256x256 .bf16) (v : Vec Ideal S1x256x512 .bf16) (dec : Vec Ideal S1x1x256x128 .f32)
    (lg : Elt Ideal .f32) (s : Vec Ideal S1x1x256x512 .f32) (K : Fin 256 → Fin 256 → ℝ) (V S : Fin 256 → Fin 512 → ℝ)
    (D : Fin 256 → ℝ) (g : ℝ) (hk : ∀ r d, k (ix3 0 r d) = (K r d : EReal))
    (hv : ∀ r e, v (ix3 0 r e) = (V r e : EReal)) (hd : ∀ r e, dec (ix4 0 0 r e) = (D r : EReal))
    (hs : ∀ d e, s (ix4 0 0 d e) = (S d e : EReal)) (hg : lg = (g : EReal))
    (a b : Fin 1) (d : Fin 256) (e : Fin 512) :
    uState k v dec lg s (ix4 a b d e)
      = ((S d e * Real.exp (256 * g) + ∑ r, K r d * D r * V r e : ℝ) : EReal) := by
  unfold uState
  unfold_payloads
  pointwise
  simp only [hk, hv, hd, hs, hg, dite_eq_ite, ite_self, c256, ← EReal.coe_mul, Ideal.exp_coe]
  simp only [EReal.coe_add, EReal.coe_mul, Chunk.coe_sum]

/-- The gated part at a place. -/
theorem uPart_apply (acc : FVec Ideal S256x512 .f32) (ob gate : Vec Ideal S1x256x512 .bf16) (R O : ℕ → EReal) (r : Fin 256)
    (hR : ∀ e : Fin 512, acc (ix2 r e) = R e) (hO : ∀ e : Fin 512, ob (ix3 0 r e) = O e) (e : Fin 512) :
    uPart acc ob gate (ix2 r e) = Gated.norm (fun e => R e + O e) e * Gated.gateT (gate (ix3 0 r e)) := by
  unfold uPart
  unfold_payloads
  pointwise
  simp only [hR, hO]
  rfl

/-- The output of a row at a place. -/
theorem uRow_apply (p0 p1 p2 p3 : FVec Ideal S256x512 .bf16) (x : Vec Ideal S1x256x1024 .f32) (w : Vec Ideal S2048x1024 .bf16)
    (P : ℕ → ℕ → EReal) (r : Fin 256) (h0 : ∀ e : Fin 512, p0 (ix2 r e) = P 0 e) (h1 : ∀ e : Fin 512, p1 (ix2 r e) = P 1 e)
    (h2 : ∀ e : Fin 512, p2 (ix2 r e) = P 2 e) (h3 : ∀ e : Fin 512, p3 (ix2 r e) = P 3 e) (a : Fin 1) (n : Fin 1024) :
    uRow p0 p1 p2 p3 x w (ix3 a r n) = x (ix3 0 r n) + ∑ j : Fin 2048, P (j.val / 512) (j.val % 512) * w (ix2 j n) := by
  unfold uRow
  unfold_payloads
  pointwise
  congr 1
  refine Finset.sum_congr rfl fun j _ => ?_
  congr 1
  have hj := j.isLt
  simp only [h0, h1, h2, h3]
  split
  · rw [show j.val / 512 = 0 by omega, show j.val % 512 = j.val by omega]
  split
  · rw [show j.val / 512 = 1 by omega, show j.val % 512 = j.val - 512 by omega]
  split
  · rw [show j.val / 512 = 2 by omega, show j.val % 512 = j.val - 512 - 512 by omega]
  · rw [show j.val / 512 = 3 by omega, show j.val % 512 = j.val - 512 - 512 - 512 by omega]

end Cert.Kernel6Ideal.Hand

end
-- ==== Proof.FwdBlock.lean ====
module

public import proofs.«01_k».proof.Proof.FwdUnit

@[expose] public section

set_option maxRecDepth 16384

noncomputable section

namespace Cert.Kernel6Ideal.Hand

open Cert.Kernel6Ideal Cert.Kernel6Ideal.Gen Idealize.ShloMosaic Idealize.ShloMosaic.TcCoe Idealize.SL.Sem

/-- The real numbers that a grid point's blocks hold: for each of its two rows and four heads the queries, keys,
    values and carried state, for each head the decay's exponent; and the gates, the backward part, the residual
    and the weights, which may be infinite. -/
structure Reals where
  Q : ℕ → ℕ → ℕ → ℕ → ℝ
  K : ℕ → ℕ → ℕ → ℕ → ℝ
  V : ℕ → ℕ → ℕ → ℕ → ℝ
  S : ℕ → ℕ → ℕ → ℕ → ℝ
  g : ℕ → ℝ
  G : ℕ → ℕ → ℕ → EReal
  O : ℕ → ℕ → ℕ → EReal
  X : ℕ → ℕ → ℕ → EReal
  W : ℕ → ℕ → EReal

variable (X : Reals)

/-- The decay between places `r` and `j` of a block. -/
def Reals.M (h r j : ℕ) : ℝ := if j ≤ r then Real.exp (((r : ℝ) - j) * X.g h) else 0

/-- The decays of a place to the two ends of its block. -/
def Reals.D (h c r : ℕ) : ℝ := Real.exp ((if c = 0 then (r : ℝ) + 1 else 255 - r) * X.g h)

/-- A unit's retention at a place and a column. -/
def Reals.out (b h r e : ℕ) : ℝ :=
  (∑ j : Fin 256, (∑ d : Fin 256, X.Q b h r d * X.K b h j d) * X.M h r j * X.V b h j e)
    + ∑ d : Fin 256, X.Q b h r d * X.D h 0 r * X.S b h d e

/-- A unit's new state. -/
def Reals.next (b h d e : ℕ) : ℝ :=
  X.S b h d e * Real.exp (256 * X.g h) + ∑ r : Fin 256, X.K b h r d * X.D h 1 r * X.V b h r e

/-- A unit's gated part at a place and a column. -/
def Reals.part (b h r e : ℕ) : EReal :=
  Gated.norm (fun e => (X.out b h r e : EReal) + X.O b r (h * 512 + e)) e * Gated.gateT (X.G b r (h * 512 + e))

/-- A unit's gated part. -/
def Reals.partV (b h : ℕ) : FVec Ideal S256x512 .bf16 := fun y => X.part b h (y 0).val (y 1).val

/-- The output block. -/
def Reals.outV : Vec Ideal S2x256x1024 .f32 := fun y =>
  X.X (y 0).val (y 1).val (y 2).val
    + ∑ n : Fin 2048, X.part (y 0).val (n.val / 512) (y 1).val (n.val % 512) * X.W n (y 2).val

/-- The state after the point. -/
def Reals.nextV : Vec Ideal S2x4x256x512 .f32 := fun y => (X.next (y 0).val (y 1).val (y 2).val (y 3).val : EReal)

/-- The state before the point. -/
def Reals.stV : Vec Ideal S2x4x256x512 .f32 := fun y => (X.S (y 0).val (y 1).val (y 2).val (y 3).val : EReal)

/-- The decays inside a block. -/
def Reals.intraV : Vec Ideal S4x256x256 .f32 := fun y => (X.M (y 0).val (y 1).val (y 2).val : EReal)

/-- The decays of every place to the two ends of its block, replicated. -/
def Reals.decV : Vec Ideal S4x2x256x128 .f32 := fun y => (X.D (y 0).val (y 1).val (y 2).val : EReal)

/-- The input blocks hold these numbers. -/
structure Reals.Ins (x0 : Vec Ideal S2x4 .f32) (x1 x2 : Vec Ideal S2x256x1024 .bf16) (x3 x4 x5 : Vec Ideal S2x256x2048 .bf16)
    (x6 : Vec Ideal S2x256x1024 .f32) (x7 : Vec Ideal S2048x1024 .bf16) : Prop where
  h0 : ∀ h : Fin 4, x0 (ix2 0 h) = (X.g h : EReal)
  h1 : ∀ y, x1 y = (X.Q (y 0).val ((y 2).val / 256) (y 1).val ((y 2).val % 256) : EReal)
  h2 : ∀ y, x2 y = (X.K (y 0).val ((y 2).val / 256) (y 1).val ((y 2).val % 256) : EReal)
  h3 : ∀ y, x3 y = (X.V (y 0).val ((y 2).val / 512) (y 1).val ((y 2).val % 512) : EReal)
  h4 : ∀ y, x4 y = X.G (y 0).val (y 1).val (y 2).val
  h5 : ∀ y, x5 y = X.O (y 0).val (y 1).val (y 2).val
  h6 : ∀ y, x6 y = X.X (y 0).val (y 1).val (y 2).val
  h7 : ∀ y, x7 y = X.W (y 0).val (y 1).val

variable {X} {x0 : Vec Ideal S2x4 .f32} {x1 x2 : Vec Ideal S2x256x1024 .bf16} {x3 x4 x5 : Vec Ideal S2x256x2048 .bf16}
  {x6 : Vec Ideal S2x256x1024 .f32} {x7 : Vec Ideal S2048x1024 .bf16}

/-- A head's columns of a row of a query or key block. -/
theorem ldQ (x : Vec Ideal S2x256x1024 .bf16) (Q : ℕ → ℕ → ℕ → ℕ → ℝ)
    (hx : ∀ y, x y = (Q (y 0).val ((y 2).val / 256) (y 1).val ((y 2).val % 256) : EReal)) (b h : ℕ) (hh : h < 4)
    (i : ∀ a, ![b, 0, h * 256] a + ![1, 256, 256] a ≤ S2x256x1024.size a) (r d : Fin 256) :
    View.ld x (Rect.unit ![b, 0, h * 256] ![1, 256, 256] i) (ix3 0 r d) = (Q b h r d : EReal) := by
  refine (hx _).trans ?_
  show ((Q (b + 1 * 0) ((h * 256 + 1 * d.val) / 256) (0 + 1 * r.val) ((h * 256 + 1 * d.val) % 256) : ℝ) : EReal) = _
  have := d.isLt
  rw [show (h * 256 + 1 * d.val) / 256 = h by omega, show 0 + 1 * r.val = r.val by omega,
    show (h * 256 + 1 * d.val) % 256 = d.val by omega]
  rfl

/-- A head's columns of a row of a value block. -/
theorem ldV (x : Vec Ideal S2x256x2048 .bf16) (Q : ℕ → ℕ → ℕ → ℕ → ℝ)
    (hx : ∀ y, x y = (Q (y 0).val ((y 2).val / 512) (y 1).val ((y 2).val % 512) : EReal)) (b h : ℕ) (hh : h < 4)
    (i : ∀ a, ![b, 0, h * 512] a + ![1, 256, 512] a ≤ S2x256x2048.size a) (r : Fin 256) (d : Fin 512) :
    View.ld x (Rect.unit ![b, 0, h * 512] ![1, 256, 512] i) (ix3 0 r d) = (Q b h r d : EReal) := by
  refine (hx _).trans ?_
  show ((Q (b + 1 * 0) ((h * 512 + 1 * d.val) / 512) (0 + 1 * r.val) ((h * 512 + 1 * d.val) % 512) : ℝ) : EReal) = _
  have := d.isLt
  rw [show (h * 512 + 1 * d.val) / 512 = h by omega, show 0 + 1 * r.val = r.val by omega,
    show (h * 512 + 1 * d.val) % 512 = d.val by omega]
  rfl

/-- A unit of the state. -/
theorem ldS (b h : ℕ) (i : ∀ a, ![b, h, 0, 0] a + ![1, 1, 256, 512] a ≤ S2x4x256x512.size a) (d : Fin 256) (e : Fin 512) :
    View.ld X.stV (Rect.unit ![b, h, 0, 0] ![1, 1, 256, 512] i) (ix4 0 0 d e) = (X.S b h d e : EReal) := by
  show ((X.S (b + 1 * 0) (h + 1 * 0) (0 + 1 * d.val) (0 + 1 * e.val) : ℝ) : EReal) = _
  rw [show 0 + 1 * d.val = d.val by omega, show 0 + 1 * e.val = e.val by omega]
  rfl

/-- A head of the decays inside a block. -/
theorem ldM (h : ℕ) (i : ∀ a, ![h, 0, 0] a + ![1, 256, 256] a ≤ S4x256x256.size a) (r j : Fin 256) :
    View.ld X.intraV (Rect.unit ![h, 0, 0] ![1, 256, 256] i) (ix3 0 r j) = (X.M h r j : EReal) := by
  show ((X.M (h + 1 * 0) (0 + 1 * r.val) (0 + 1 * j.val) : ℝ) : EReal) = _
  rw [show 0 + 1 * r.val = r.val by omega, show 0 + 1 * j.val = j.val by omega]
  rfl

/-- A head's decays to one of a block's ends. -/
theorem ldDec (h c : ℕ) (i : ∀ a, ![h, c, 0, 0] a + ![1, 1, 256, 128] a ≤ S4x2x256x128.size a) (r : Fin 256) (e : Fin 128) :
    View.ld X.decV (Rect.unit ![h, c, 0, 0] ![1, 1, 256, 128] i) (ix4 0 0 r e) = (X.D h c r : EReal) := by
  show ((X.D (h + 1 * 0) (c + 1 * 0) (0 + 1 * r.val) : ℝ) : EReal) = _
  rw [show 0 + 1 * r.val = r.val by omega]
  rfl

/-- A head's exponent. -/
theorem ldG (H : X.Ins x0 x1 x2 x3 x4 x5 x6 x7) (h : ℕ) (hh : h < 4) (i : ∀ a, ![0, h] a + ![1, 1] a ≤ S2x4.size a) (p : Shape.Idx S1x1) :
    View.ld x0 (Rect.unit ![0, h] ![1, 1] i) p = (X.g h : EReal) := by
  obtain ⟨a, b, rfl⟩ : ∃ (a b : Fin 1), p = ix2 a b := ⟨p 0, p 1, eq_ix2 p⟩
  refine Eq.trans (congrArg x0 ?_) (H.h0 ⟨h, hh⟩)
  funext k
  apply Fin.ext
  fin_cases k
  · show 0 + 1 * a.val = 0
    omega
  · show h + 1 * b.val = h
    omega

/-- A head's columns of a row of a block of numbers that may be infinite. -/
theorem ldE (x : Vec Ideal S2x256x2048 .bf16) (Q : ℕ → ℕ → ℕ → EReal)
    (hx : ∀ y, x y = Q (y 0).val (y 1).val (y 2).val) (b h : ℕ)
    (i : ∀ a, ![b, 0, h * 512] a + ![1, 256, 512] a ≤ S2x256x2048.size a) (r : Fin 256) (d : Fin 512) :
    View.ld x (Rect.unit ![b, 0, h * 512] ![1, 256, 512] i) (ix3 0 r d) = Q b r (h * 512 + d) := by
  refine (hx _).trans ?_
  show Q (b + 1 * 0) (0 + 1 * r.val) (h * 512 + 1 * d.val) = _
  rw [show 0 + 1 * r.val = r.val by omega, show h * 512 + 1 * d.val = h * 512 + d.val by omega]
  rfl

/-- A unit's gated part is its part of the whole. -/
theorem part_eq (H : X.Ins x0 x1 x2 x3 x4 x5 x6 x7) (b h : ℕ) (hb : b < 2) (hh : h < 4)
    (i1 : ∀ a, ![b, 0, h * 256] a + ![1, 256, 256] a ≤ S2x256x1024.size a)
    (i2 : ∀ a, ![b, 0, h * 256] a + ![1, 256, 256] a ≤ S2x256x1024.size a)
    (i3 : ∀ a, ![b, 0, h * 512] a + ![1, 256, 512] a ≤ S2x256x2048.size a)
    (i7 : ∀ a, ![b, 0, h * 512] a + ![1, 256, 512] a ≤ S2x256x2048.size a)
    (i8 : ∀ a, ![b, 0, h * 512] a + ![1, 256, 512] a ≤ S2x256x2048.size a)
    (i4 : ∀ a, ![h, 0, 0, 0] a + ![1, 1, 256, 128] a ≤ S4x2x256x128.size a)
    (i5 : ∀ a, ![b, h, 0, 0] a + ![1, 1, 256, 512] a ≤ S2x4x256x512.size a)
    (i6 : ∀ a, ![h, 0, 0] a + ![1, 256, 256] a ≤ S4x256x256.size a)
    {wD : Vec Ideal S1x1x256x128 .f32} {wS : Vec Ideal S1x1x256x512 .f32} {wM : Vec Ideal S1x256x256 .f32}
    (hD : wD = View.ld X.decV (Rect.unit ![h, 0, 0, 0] ![1, 1, 256, 128] i4))
    (hS : wS = View.ld X.stV (Rect.unit ![b, h, 0, 0] ![1, 1, 256, 512] i5))
    (hM : wM = View.ld X.intraV (Rect.unit ![h, 0, 0] ![1, 256, 256] i6)) :
    uPart (uRet (View.ld x1 (Rect.unit ![b, 0, h * 256] ![1, 256, 256] i1)) (View.ld x2 (Rect.unit ![b, 0, h * 256] ![1, 256, 256] i2))
        (View.ld x3 (Rect.unit ![b, 0, h * 512] ![1, 256, 512] i3)) wD wS wM)
        (View.ld x5 (Rect.unit ![b, 0, h * 512] ![1, 256, 512] i7)) (View.ld x4 (Rect.unit ![b, 0, h * 512] ![1, 256, 512] i8))
      = X.partV b h := by
  subst hD hS hM
  funext y
  obtain ⟨r, e, rfl⟩ : ∃ (r : Fin 256) (e : Fin 512), y = ix2 r e := ⟨y 0, y 1, eq_ix2 y⟩
  rw [uPart_apply _ _ _ (fun e => (X.out b h r e : EReal)) (fun e => X.O b r (h * 512 + e)) r ?_ ?_ e, ldE x4 X.G H.h4 b h i8 r e]
  · rfl
  · intro e
    rw [uRet_real _ _ _ _ _ _ (fun r d => X.Q b h r d) (fun r d => X.K b h r d) (fun r j => X.M h r j) (fun r e => X.V b h r e)
      (fun d e => X.S b h d e) (fun r => X.D h 0 r)]
    · rfl
    · exact fun r d => ldQ x1 X.Q H.h1 b h hh i1 r d
    · exact fun r d => ldQ x2 X.K H.h2 b h hh i2 r d
    · exact fun r e => ldV x3 X.V H.h3 b h hh i3 r e
    · exact fun r e => ldDec h 0 i4 r e
    · exact fun d e => ldS b h i5 d e
    · exact fun r j => ldM h i6 r j
  · exact fun e => ldE x5 X.O H.h5 b h i7 r e

/-- A row's stored output is its part of the output block. -/
theorem piece_out (H : X.Ins x0 x1 x2 x3 x4 x5 x6 x7) (b : ℕ) (hb : b < 2)
    (i6 : ∀ a, ![b, 0, 0] a + ![1, 256, 1024] a ≤ S2x256x1024.size a)
    (i7 : ∀ a, ![0, 0] a + ![2048, 1024] a ≤ S2048x1024.size a)
    {p0 p1 p2 p3 : FVec Ideal S256x512 .bf16} (h0 : p0 = X.partV b 0) (h1 : p1 = X.partV b 1) (h2 : p2 = X.partV b 2)
    (h3 : p3 = X.partV b 3) (x : S1x256x1024.Idx) :
    uRow p0 p1 p2 p3 (View.ld x6 (Rect.unit ![b, 0, 0] ![1, 256, 1024] i6)) (View.ld x7 (Rect.unit ![0, 0] ![2048, 1024] i7)) x
      = X.outV ((Rect.unit (s := S2x256x1024) ![b, 0, 0] ![1, 256, 1024] i6).emb x) := by
  subst h0 h1 h2 h3
  obtain ⟨a, r, n, rfl⟩ : ∃ (a : Fin 1) (r : Fin 256) (n : Fin 1024), x = ix3 a r n := ⟨x 0, x 1, x 2, eq_ix3 x⟩
  have ha : a.val = 0 := by omega
  rw [uRow_apply _ _ _ _ _ _ (fun h e => X.part b h r e) r (fun _ => rfl) (fun _ => rfl) (fun _ => rfl) (fun _ => rfl)]
  show _ = X.X (b + 1 * a.val) (0 + 1 * r.val) (0 + 1 * n.val)
    + ∑ j : Fin 2048, X.part (b + 1 * a.val) (j.val / 512) (0 + 1 * r.val) (j.val % 512) * X.W j (0 + 1 * n.val)
  rw [show b + 1 * a.val = b by omega, show 0 + 1 * r.val = r.val by omega, show 0 + 1 * n.val = n.val by omega]
  congr 1
  · refine (H.h6 _).trans ?_
    show X.X (b + 1 * 0) (0 + 1 * r.val) (0 + 1 * n.val) = _
    rw [show 0 + 1 * r.val = r.val by omega, show 0 + 1 * n.val = n.val by omega]
    rfl
  · refine Finset.sum_congr rfl fun j _ => ?_
    congr 1
    refine (H.h7 _).trans ?_
    show X.W (0 + 1 * j.val) (0 + 1 * n.val) = _
    rw [show 0 + 1 * j.val = j.val by omega, show 0 + 1 * n.val = n.val by omega]

/-- A unit's stored state is its part of the state after the point. -/
theorem piece_state (H : X.Ins x0 x1 x2 x3 x4 x5 x6 x7) (b h : ℕ) (hb : b < 2) (hh : h < 4)
    (i0 : ∀ a, ![0, h] a + ![1, 1] a ≤ S2x4.size a)
    (i2 : ∀ a, ![b, 0, h * 256] a + ![1, 256, 256] a ≤ S2x256x1024.size a)
    (i3 : ∀ a, ![b, 0, h * 512] a + ![1, 256, 512] a ≤ S2x256x2048.size a)
    (i4 : ∀ a, ![h, 1, 0, 0] a + ![1, 1, 256, 128] a ≤ S4x2x256x128.size a)
    (i5 : ∀ a, ![b, h, 0, 0] a + ![1, 1, 256, 512] a ≤ S2x4x256x512.size a)
    {wD : Vec Ideal S1x1x256x128 .f32} {wS : Vec Ideal S1x1x256x512 .f32}
    (hD : wD = View.ld X.decV (Rect.unit ![h, 1, 0, 0] ![1, 1, 256, 128] i4))
    (hS : wS = View.ld X.stV (Rect.unit ![b, h, 0, 0] ![1, 1, 256, 512] i5))
    (x : S1x1x256x512.Idx) (p : Shape.Idx S1x1) :
    uState (View.ld x2 (Rect.unit ![b, 0, h * 256] ![1, 256, 256] i2))
        (View.ld x3 (Rect.unit ![b, 0, h * 512] ![1, 256, 512] i3)) wD
        (View.ld x0 (Rect.unit ![0, h] ![1, 1] i0) p) wS x
      = X.nextV ((Rect.unit (s := S2x4x256x512) ![b, h, 0, 0] ![1, 1, 256, 512] i5).emb x) := by
  subst hD hS
  obtain ⟨a, a', d, e, rfl⟩ : ∃ (a a' : Fin 1) (r : Fin 256) (e : Fin 512), x = ix4 a a' r e := ⟨x 0, x 1, x 2, x 3, eq_ix4 x⟩
  have ha : a.val = 0 := by omega
  have ha' : a'.val = 0 := by omega
  rw [uState_real _ _ _ _ _ (fun r d => X.K b h r d) (fun r e => X.V b h r e)
    (fun d e => X.S b h d e) (fun r => X.D h 1 r) (X.g h)]
  · show _ = ((X.next (b + 1 * a.val) (h + 1 * a'.val) (0 + 1 * d.val) (0 + 1 * e.val) : ℝ) : EReal)
    rw [show b + 1 * a.val = b by omega, show h + 1 * a'.val = h by omega, show 0 + 1 * d.val = d.val by omega,
      show 0 + 1 * e.val = e.val by omega]
    rfl
  · exact fun r d => ldQ x2 X.K H.h2 b h hh i2 r d
  · exact fun r e => ldV x3 X.V H.h3 b h hh i3 r e
  · exact fun r e => ldDec h 1 i4 r e
  · exact fun d e => ldS b h i5 d e
  · exact ldG H h hh i0 p

end Cert.Kernel6Ideal.Hand

end
-- ==== Proof.FwdFirst.lean ====
module

public import proofs.«01_k».proof.Proof.FwdBlock

@[expose] public section

set_option maxRecDepth 16384

noncomputable section

namespace Cert.Kernel6Ideal.Hand

open Cert.Kernel6Ideal Cert.Kernel6Ideal.Gen Idealize.ShloMosaic Idealize.ShloMosaic.TcCoe Idealize.SL.Sem

/-- A word that a small natural number makes is that number, read signed. -/
theorem toInt_ofNat (n : ℕ) (h : n < 2 ^ 31) : (BitVec.ofNat 32 n).toInt = n := by
  rw [BitVec.toInt_eq_toNat_of_lt] <;> simp only [BitVec.toNat_ofNat] <;> omega

/-- Two small words compared. -/
theorem sge_ofNat (j r : ℕ) (hj : j < 2 ^ 31) (hr : r < 2 ^ 31) :
    (IntOp.cmpi CmpIPredicate.sge (BitVec.ofNat 32 j) (BitVec.ofNat 32 r) = 1) ↔ r ≤ j := by
  show IntOp.cmpi CmpIPredicate.sge (BitVec.ofNat 32 j) (BitVec.ofNat 32 r) = 1#1 ↔ _
  rw [IntOp.cmpi_sge, toInt_ofNat j hj, toInt_ofNat r hr]
  omega

/-- The difference of two small words. -/
theorem sub_ofNat (j r : ℕ) (hj : j < 2 ^ 31) (h : r ≤ j) :
    IntOp.subi (BitVec.ofNat 32 j) (BitVec.ofNat 32 r) = BitVec.ofNat 32 (j - r) := by
  show BitVec.ofNat 32 j - BitVec.ofNat 32 r = _
  apply BitVec.eq_of_toNat_eq
  simp only [BitVec.toNat_sub, BitVec.toNat_ofNat]
  omega

/-- The stored decay inside a block. -/
theorem intra_real (g : ℝ) (a : Fin 1) (r j : Fin 256) :
    k0_pay8 (F := Ideal) (k0_pay7 (g : EReal)) (ix3 a r j)
      = ((if j.val ≤ r.val then Real.exp (((r : ℝ) - j) * g) else 0 : ℝ) : EReal) := by
  unfold_payloads
  pointwise
  have hj : j.val < 2 ^ 31 := j.isLt.trans (by norm_num)
  have hr : r.val < 2 ^ 31 := r.isLt.trans (by norm_num)
  unfold Scalar.select
  simp only [sge_ofNat r j hr hj]
  by_cases h : j.val ≤ r.val
  · rw [if_pos h, if_pos h, if_pos h, sub_ofNat r j hr h]
    show Ideal.exp ((((BitVec.ofNat 32 (r.val - j.val)).toInt : ℝ) : EReal) * (g : EReal)) = _
    rw [toInt_ofNat _ (by omega), ← EReal.coe_mul, Ideal.exp_coe, Int.cast_natCast, Nat.cast_sub h]
  · rw [if_neg h, if_neg h]
    rfl

/-- The stored decay to a block's start. -/
theorem dec0_real (g : ℝ) (a b : Fin 1) (r : Fin 256) (e : Fin 128) :
    k0_pay5 (F := Ideal) (g : EReal) (ix4 a b r e) = ((Real.exp (((r : ℝ) + 1) * g) : ℝ) : EReal) := by
  unfold_payloads
  pointwise
  have hr : r.val < 2 ^ 31 := r.isLt.trans (by norm_num)
  show Ideal.exp (((((BitVec.ofNat 32 r.val).toInt : ℝ) : EReal) + 1) * (g : EReal)) = _
  rw [toInt_ofNat _ hr, ← EReal.coe_one, ← EReal.coe_add, ← EReal.coe_mul, Ideal.exp_coe, Int.cast_natCast]

theorem c255 : Ideal.ofBits FTy.f32 1132396544#32 = ((255 : ℝ) : EReal) := by
  simp [Ideal.ofBits, Ideal.ieee, -EReal.coe_mul]
  norm_num

/-- The stored decay to a block's end. -/
theorem dec1_real (g : ℝ) (a b : Fin 1) (r : Fin 256) (e : Fin 128) :
    k0_pay6 (F := Ideal) (g : EReal) (ix4 a b r e) = ((Real.exp ((255 - (r : ℝ)) * g) : ℝ) : EReal) := by
  unfold_payloads
  pointwise
  have hr : r.val < 2 ^ 31 := r.isLt.trans (by norm_num)
  show Ideal.exp ((Ideal.ofBits FTy.f32 1132396544#32 - (((BitVec.ofNat 32 r.val).toInt : ℝ) : EReal)) * (g : EReal)) = _
  rw [toInt_ofNat _ hr, c255, ← EReal.coe_sub, ← EReal.coe_mul, Ideal.exp_coe, Int.cast_natCast]

/-- The state that a row pair starts from. -/
theorem zero_real {X : Reals} (hS : ∀ b h d e, X.S b h d e = 0) : k0_pay4 (F := Ideal) = X.stV := by
  funext y
  unfold Reals.stV
  rw [hS]
  unfold_payloads
  pointwise
  exact EReal.coe_zero.symm

variable {X : Reals} {x0 : Vec Ideal S2x4 .f32} {x1 x2 : Vec Ideal S2x256x1024 .bf16} {x3 x4 x5 : Vec Ideal S2x256x2048 .bf16}
  {x6 : Vec Ideal S2x256x1024 .f32} {x7 : Vec Ideal S2048x1024 .bf16}

/-- A head's stored decays inside a block are its part of the whole. -/
theorem piece_intra (H : X.Ins x0 x1 x2 x3 x4 x5 x6 x7) (h : ℕ) (hh : h < 4) (i0 : ∀ a, ![0, h] a + ![1, 1] a ≤ S2x4.size a)
    (i6 : ∀ a, ![h, 0, 0] a + ![1, 256, 256] a ≤ S4x256x256.size a) (p : Shape.Idx S1x1) (x : S1x256x256.Idx) :
    k0_pay8 (F := Ideal) (k0_pay7 (View.ld x0 (Rect.unit ![0, h] ![1, 1] i0) p)) x
      = X.intraV ((Rect.unit (s := S4x256x256) ![h, 0, 0] ![1, 256, 256] i6).emb x) := by
  obtain ⟨a, r, j, rfl⟩ : ∃ (a : Fin 1) (r j : Fin 256), x = ix3 a r j := ⟨x 0, x 1, x 2, eq_ix3 x⟩
  rw [ldG H h hh i0 p, intra_real]
  have ha : a.val = 0 := by omega
  show _ = ((X.M (h + 1 * a.val) (0 + 1 * r.val) (0 + 1 * j.val) : ℝ) : EReal)
  rw [show h + 1 * a.val = h by omega, show 0 + 1 * r.val = r.val by omega, show 0 + 1 * j.val = j.val by omega]
  rfl

/-- A head's stored decays to one of a block's ends are its part of the whole. -/
theorem piece_dec (H : X.Ins x0 x1 x2 x3 x4 x5 x6 x7) (h c : ℕ) (hh : h < 4) (i0 : ∀ a, ![0, h] a + ![1, 1] a ≤ S2x4.size a)
    (i6 : ∀ a, ![h, c, 0, 0] a + ![1, 1, 256, 128] a ≤ S4x2x256x128.size a) (p : Shape.Idx S1x1) (x : S1x1x256x128.Idx) :
    (if c = 0 then k0_pay5 (F := Ideal) (View.ld x0 (Rect.unit ![0, h] ![1, 1] i0) p) x
        else k0_pay6 (F := Ideal) (View.ld x0 (Rect.unit ![0, h] ![1, 1] i0) p) x)
      = X.decV ((Rect.unit (s := S4x2x256x128) ![h, c, 0, 0] ![1, 1, 256, 128] i6).emb x) := by
  obtain ⟨a, a', r, j, rfl⟩ : ∃ (a a' : Fin 1) (r : Fin 256) (j : Fin 128), x = ix4 a a' r j := ⟨x 0, x 1, x 2, x 3, eq_ix4 x⟩
  rw [ldG H h hh i0 p, dec0_real, dec1_real]
  have ha : a.val = 0 := by omega
  have ha' : a'.val = 0 := by omega
  show _ = ((X.D (h + 1 * a.val) (c + 1 * a'.val) (0 + 1 * r.val) : ℝ) : EReal)
  rw [show h + 1 * a.val = h by omega, show c + 1 * a'.val = c by omega, show 0 + 1 * r.val = r.val by omega]
  unfold Reals.D
  split <;> rfl

variable (c : Dev nD) (i : grid0.Coords) (arg2 : Memref sig .tc .smem S2x4 .f32) (harg2 : arg2.IsWhole)
  (arg3 : Memref sig .tc .vmem S2x256x1024 .bf16) (harg3 : arg3.IsWhole) (arg4 : Memref sig .tc .vmem S2x256x1024 .bf16) (harg4 : arg4.IsWhole)
  (arg5 : Memref sig .tc .vmem S2x256x2048 .bf16) (harg5 : arg5.IsWhole) (arg6 : Memref sig .tc .vmem S2x256x2048 .bf16) (harg6 : arg6.IsWhole)
  (arg7 : Memref sig .tc .vmem S2x256x2048 .bf16) (harg7 : arg7.IsWhole) (arg8 : Memref sig .tc .vmem S2x256x1024 .f32) (harg8 : arg8.IsWhole)
  (arg9 : Memref sig .tc .vmem S2048x1024 .bf16) (harg9 : arg9.IsWhole) (arg10 : Memref sig .tc .vmem S2x256x1024 .f32) (harg10 : arg10.IsWhole)
  (arg11 : Memref sig .tc .vmem S2x4x256x512 .f32) (harg11 : arg11.IsWhole) (arg12 : Memref sig .tc .vmem S4x256x256 .f32) (harg12 : arg12.IsWhole)
  (arg13 : Memref sig .tc .vmem S4x2x256x128 .f32) (harg13 : arg13.IsWhole)

/-- The first point of a row pair: the decays it stores inside a block. -/
theorem intraA (hc0 : cond0_0 i) (H : X.Ins x0 x1 x2 x3 x4 x5 x6 x7) : sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = X.intraV := by
  unfold sout0_A_1
  rw [View.read_writes_junk_eq_canon]
  funext y
  refine View.canon_apply_of_pieces X.intraV _ (View.PiecesOf.mem ?_) y (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread,
    harg9.read_unread, harg11.read_unread, harg12.read_unread, harg13.read_unread]
  exact ⟨fun x => piece_intra H 3 (by omega) _ (by decide) _ x, fun x => piece_intra H 2 (by omega) _ (by decide) _ x, fun x => piece_intra H 1 (by omega) _ (by decide) _ x,
    fun x => piece_intra H 0 (by omega) _ (by decide) _ x, trivial⟩

/-- … and to a block's two ends. -/
theorem decA (hc0 : cond0_0 i) (H : X.Ins x0 x1 x2 x3 x4 x5 x6 x7) : sout0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = X.decV := by
  unfold sout0_A_2
  rw [View.read_writes_junk_eq_canon]
  funext y
  refine View.canon_apply_of_pieces X.decV _ (View.PiecesOf.mem ?_) y (scover0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread,
    harg9.read_unread, harg11.read_unread, harg12.read_unread, harg13.read_unread]
  exact ⟨fun x => piece_dec H 3 1 (by omega) _ (by decide) _ x, fun x => piece_dec H 3 0 (by omega) _ (by decide) _ x,
    fun x => piece_dec H 2 1 (by omega) _ (by decide) _ x, fun x => piece_dec H 2 0 (by omega) _ (by decide) _ x,
    fun x => piece_dec H 1 1 (by omega) _ (by decide) _ x, fun x => piece_dec H 1 0 (by omega) _ (by decide) _ x,
    fun x => piece_dec H 0 1 (by omega) _ (by decide) _ x, fun x => piece_dec H 0 0 (by omega) _ (by decide) _ x, trivial⟩

/-- An array written piece by piece, where the pieces after the first one written cover it. -/
theorem canon_dropLast {s : Shape} {e : EltTy} (G : s.Idx → Elt Ideal e) (L : List (View.Piece (Elt Ideal) s e)) (hL : L ≠ [])
    (h : View.PiecesOf G L.dropLast) (y : s.Idx) (hc : ∃ p ∈ L.dropLast, y ∈ p.1.set) : View.canon L y = G y := by
  rw [← List.dropLast_append_getLast hL]
  exact View.canon_append_of_piecesOf G _ _ h y hc

/-- The places of a unit of the state. -/
theorem mem_unit (b h : ℕ) (i : ∀ a, ![b, h, 0, 0] a + ![1, 1, 256, 512] a ≤ S2x4x256x512.size a) (y : S2x4x256x512.Idx) :
    y ∈ (Rect.unit (s := S2x4x256x512) ![b, h, 0, 0] ![1, 1, 256, 512] i).set ↔ (y 0).val = b ∧ (y 1).val = h := by
  rw [Rect.mem_set_unit]
  have h2 : (y 2).val < 256 := (y 2).isLt
  have h3 : (y 3).val < 512 := (y 3).isLt
  constructor
  · intro H
    have a0 : b ≤ (y 0).val ∧ (y 0).val < b + 1 := H 0
    have a1 : h ≤ (y 1).val ∧ (y 1).val < h + 1 := H 1
    omega
  · rintro ⟨H0, H1⟩ a
    fin_cases a
    · show b ≤ (y 0).val ∧ (y 0).val < b + 1
      omega
    · show h ≤ (y 1).val ∧ (y 1).val < h + 1
      omega
    · show 0 ≤ (y 2).val ∧ (y 2).val < 0 + 256
      omega
    · show 0 ≤ (y 3).val ∧ (y 3).val < 0 + 512
      omega

/-- The first point of a row pair: what it writes to the output block. -/
theorem outA (hc0 : cond0_0 i) (H : X.Ins x0 x1 x2 x3 x4 x5 x6 x7) (hS : ∀ b h d e, X.S b h d e = 0) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = X.outV := by
  have hZ := zero_real hS
  unfold out0_A_8
  rw [View.read_writes_junk_eq_canon]
  funext y
  refine View.canon_apply_of_pieces X.outV _ (View.PiecesOf.mem ?_) y (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y)
  unfold kernelRun0_A
  dsimp only
  sl_unfold_words
  simp only [View.readAt_eq_ld, harg2.read_unread, harg3.read_unread, harg4.read_unread, harg5.read_unread, harg6.read_unread, harg7.read_unread, harg8.read_unread,
    harg9.read_unread, harg11.read_unread, harg12.read_unread, harg13.read_unread]
  simp (disch := first | decide | (intro a; fin_cases a <;> rfl)) only [↓View.readCov_cons_toLoadRect, ↓View.readCov_skip, ↓View.readCov_fill, hZ]
  exact ⟨piece_out H 1 (by omega) _ (by decide)
      (part_eq H 1 0 (by omega) (by omega) _ _ _ _ _ (by decide) _ (by decide) (funext fun x => piece_dec H 0 0 (by omega) _ _ _ x) rfl (funext fun x => piece_intra H 0 (by omega) _ _ _ x))
      (part_eq H 1 1 (by omega) (by omega) _ _ _ _ _ (by decide) _ (by decide) (funext fun x => piece_dec H 1 0 (by omega) _ _ _ x) rfl (funext fun x => piece_intra H 1 (by omega) _ _ _ x))
      (part_eq H 1 2 (by omega) (by omega) _ _ _ _ _ (by decide) _ (by decide) (funext fun x => piece_dec H 2 0 (by omega) _ _ _ x) rfl (funext fun x => piece_intra H 2 (by omega) _ _ _ x))
      (part_eq H 1 3 (by omega) (by omega) _ _ _ _ _ (by decide) _ (by decide) (funext fun x => piece_dec H 3 0 (by omega) _ _ _ x) rfl (funext fun x => piece_intra H 3 (by omega) _ _ _ x)),
    piece_out H 0 (by omega) _ (by decide)
      (part_eq H 0 0 (by omega) (by omega) _ _ _ _ _ (by decide) _ (by decide) (funext fun x => piece_dec H 0 0 (by omega) _ _ _ x) rfl (funext fun x => piece_intra H 0 (by omega) _ _ _ x))
      (part_eq H 0 1 (by omega) (by omega) _ _ _ _ _ (by decide) _ (by decide) (funext fun x => piece_dec H 1 0 (by omega) _ _ _ x) rfl (funext fun x => piece_intra H 1 (by omega) _ _ _ x))
      (part_eq H 0 2 (by omega) (by omega) _ _ _ _ _ (by decide) _ (by decide) (funext fun x => piece_dec H 2 0 (by omega) _ _ _ x) rfl (funext fun x => piece_intra H 2 (by omega) _ _ _ x))
      (part_eq H 0 3 (by omega) (by omega) _ _ _ _ _ (by decide) _ (by decide) (funext fun x => piece_dec H 3 0 (by omega) _ _ _ x) rfl (funext fun x => piece_intra H 3 (by omega) _ _ _ x)), trivial⟩

/-- … and the state it leaves. -/
theorem stateA (hc0 : cond0_0 i) (H : X.Ins x0 x1 x2 x3 x4 x5 x6 x7) (hS : ∀ b h d e, X.S b h d e = 0) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = X.nextV := by
  have hZ := zero_real hS
  unfold sout0_A_0
  rw [View.read_writes_junk_eq_canon]
  funext y
  unfold kernelRun0_A
  dsimp only
  sl_unfold_words
  simp only [View.readAt_eq_ld, harg2.read_unread, harg3.read_unread, harg4.read_unread, harg5.read_unread, harg6.read_unread, harg7.read_unread, harg8.read_unread,
    harg9.read_unread, harg11.read_unread, harg12.read_unread, harg13.read_unread]
  simp (disch := first | decide | (intro a; fin_cases a <;> rfl)) only [↓View.readCov_cons_toLoadRect, ↓View.readCov_skip, ↓View.readCov_fill, hZ]
  refine canon_dropLast X.nextV _ (List.cons_ne_nil _ _) ?_ y ?_ <;> simp only [List.dropLast_cons₂, List.dropLast_singleton]
  · exact ⟨fun x => piece_state H 1 3 (by omega) (by omega) _ _ _ (by decide) _ (funext fun x => piece_dec H 3 1 (by omega) _ _ _ x) rfl x _,
    fun x => piece_state H 1 2 (by omega) (by omega) _ _ _ (by decide) _ (funext fun x => piece_dec H 2 1 (by omega) _ _ _ x) rfl x _,
    fun x => piece_state H 1 1 (by omega) (by omega) _ _ _ (by decide) _ (funext fun x => piece_dec H 1 1 (by omega) _ _ _ x) rfl x _,
    fun x => piece_state H 1 0 (by omega) (by omega) _ _ _ (by decide) _ (funext fun x => piece_dec H 0 1 (by omega) _ _ _ x) rfl x _,
    fun x => piece_state H 0 3 (by omega) (by omega) _ _ _ (by decide) _ (funext fun x => piece_dec H 3 1 (by omega) _ _ _ x) rfl x _,
    fun x => piece_state H 0 2 (by omega) (by omega) _ _ _ (by decide) _ (funext fun x => piece_dec H 2 1 (by omega) _ _ _ x) rfl x _,
    fun x => piece_state H 0 1 (by omega) (by omega) _ _ _ (by decide) _ (funext fun x => piece_dec H 1 1 (by omega) _ _ _ x) rfl x _,
    fun x => piece_state H 0 0 (by omega) (by omega) _ _ _ (by decide) _ (funext fun x => piece_dec H 0 1 (by omega) _ _ _ x) rfl x _, trivial⟩
  · have h0 : (y 0).val < 2 := (y 0).isLt
    have h1 : (y 1).val < 4 := (y 1).isLt
    simp only [List.mem_cons, exists_eq_or_imp, List.not_mem_nil, List.mem_singleton, exists_eq_left, mem_unit]
    omega

end Cert.Kernel6Ideal.Hand

end
-- ==== Proof.FwdChunk.lean ====
module

public import proofs.«01_k».proof.Proof.FwdBlock
public import proofs.«01_k».proof.Proof.Gated

@[expose] public section

noncomputable section

namespace Cert.Kernel6Ideal.Hand

open Finset Cert.Chunk

variable (X : Reals) {b h e base : ℕ} {q k : ℕ → Fin 256 → ℝ} {v : ℕ → ℝ}

/-- A block is one chunk of the recurrence: its output is the retention's result. -/
theorem Reals.out_eq (hq : ∀ r < 256, ∀ d : Fin 256, X.Q b h r d = q (base + r) d)
    (hk : ∀ r < 256, ∀ d : Fin 256, X.K b h r d = k (base + r) d) (hv : ∀ r < 256, X.V b h r e = v (base + r))
    (hs : ∀ d : Fin 256, X.S b h d e = st k v (X.g h) base d) (r : ℕ) (hr : r < 256) :
    X.out b h r e = ret q k v (X.g h) true (base + r) := by
  rw [ret_chunk q k v (X.g h) true base 256 r hr, Finset.sum_range, Finset.sum_mul]
  unfold Reals.out
  congr 1
  · refine Finset.sum_congr rfl fun j _ => ?_
    have hj := j.isLt
    rw [hv j hj]
    congr 2
    · unfold dotp
      exact Finset.sum_congr rfl fun d _ => by rw [hq r hr d, hk j hj d]
    · unfold Reals.M mask
      simp only [Bool.toNat_true, Nat.lt_succ_iff]
  · refine Finset.sum_congr rfl fun d _ => ?_
    rw [hq r hr d, hs d]
    unfold Reals.D
    rw [if_pos rfl]
    ring

/-- … and its new state is the state one chunk further on. -/
theorem Reals.next_eq (hk : ∀ r < 256, ∀ d : Fin 256, X.K b h r d = k (base + r) d)
    (hv : ∀ r < 256, X.V b h r e = v (base + r))
    (hs : ∀ d : Fin 256, X.S b h d e = st k v (X.g h) base d) (d : Fin 256) :
    X.next b h d e = st k v (X.g h) (base + 256) d := by
  rw [st_step, Finset.sum_range]
  unfold Reals.next
  rw [hs d]
  congr 1
  refine Finset.sum_congr rfl fun r _ => ?_
  have hr := r.isLt
  rw [hk r hr d, hv r hr]
  unfold Reals.D
  rw [if_neg (by decide)]
  push_cast
  rw [show (256 : ℝ) - 1 - (r.val : ℝ) = 255 - r.val by ring]

end Cert.Kernel6Ideal.Hand

end
-- ==== Proof.FwdOuts.lean ====
module

public import proofs.«01_k».proof.Proof.FwdBlock

@[expose] public section

set_option maxRecDepth 16384

noncomputable section

namespace Cert.Kernel6Ideal.Hand

open Cert.Kernel6Ideal Cert.Kernel6Ideal.Gen Idealize.ShloMosaic Idealize.ShloMosaic.TcCoe Idealize.SL.Sem

variable {X : Reals} {x0 : Vec Ideal S2x4 .f32} {x1 x2 : Vec Ideal S2x256x1024 .bf16} {x3 x4 x5 : Vec Ideal S2x256x2048 .bf16}
  {x6 : Vec Ideal S2x256x1024 .f32} {x7 : Vec Ideal S2048x1024 .bf16}

variable (c : Dev nD) (i : grid0.Coords) (arg2 : Memref sig .tc .smem S2x4 .f32) (harg2 : arg2.IsWhole)
  (arg3 : Memref sig .tc .vmem S2x256x1024 .bf16) (harg3 : arg3.IsWhole) (arg4 : Memref sig .tc .vmem S2x256x1024 .bf16) (harg4 : arg4.IsWhole)
  (arg5 : Memref sig .tc .vmem S2x256x2048 .bf16) (harg5 : arg5.IsWhole) (arg6 : Memref sig .tc .vmem S2x256x2048 .bf16) (harg6 : arg6.IsWhole)
  (arg7 : Memref sig .tc .vmem S2x256x2048 .bf16) (harg7 : arg7.IsWhole) (arg8 : Memref sig .tc .vmem S2x256x1024 .f32) (harg8 : arg8.IsWhole)
  (arg9 : Memref sig .tc .vmem S2048x1024 .bf16) (harg9 : arg9.IsWhole) (arg10 : Memref sig .tc .vmem S2x256x1024 .f32) (harg10 : arg10.IsWhole)
  (arg11 : Memref sig .tc .vmem S2x4x256x512 .f32) (harg11 : arg11.IsWhole) (arg12 : Memref sig .tc .vmem S4x256x256 .f32) (harg12 : arg12.IsWhole)
  (arg13 : Memref sig .tc .vmem S4x2x256x128 .f32) (harg13 : arg13.IsWhole)

/-- A later point of a row pair: what it writes to the output block. -/
theorem outB (hc0 : ¬cond0_0 i) (H : X.Ins x0 x1 x2 x3 x4 x5 x6 x7) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 X.stV X.intraV X.decV
      = X.outV := by
  unfold out0_B_8
  rw [View.read_writes_junk_eq_canon]
  funext y
  refine View.canon_apply_of_pieces X.outV _ (View.PiecesOf.mem ?_) y (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 X.stV X.intraV X.decV y)
  unfold kernelRun0_B
  dsimp only
  sl_unfold_words
  simp only [View.readAt_eq_ld, harg2.read_unread, harg3.read_unread, harg4.read_unread, harg5.read_unread, harg6.read_unread, harg7.read_unread, harg8.read_unread,
    harg9.read_unread, harg11.read_unread, harg12.read_unread, harg13.read_unread]
  exact ⟨piece_out H 1 (by omega) _ (by decide)
      (part_eq H 1 0 (by omega) (by omega) _ _ _ _ _ _ _ _ rfl rfl rfl)
      (part_eq H 1 1 (by omega) (by omega) _ _ _ _ _ _ _ _ rfl rfl rfl)
      (part_eq H 1 2 (by omega) (by omega) _ _ _ _ _ _ _ _ rfl rfl rfl)
      (part_eq H 1 3 (by omega) (by omega) _ _ _ _ _ _ _ _ rfl rfl rfl),
    piece_out H 0 (by omega) _ (by decide)
      (part_eq H 0 0 (by omega) (by omega) _ _ _ _ _ _ _ _ rfl rfl rfl)
      (part_eq H 0 1 (by omega) (by omega) _ _ _ _ _ _ _ _ rfl rfl rfl)
      (part_eq H 0 2 (by omega) (by omega) _ _ _ _ _ _ _ _ rfl rfl rfl)
      (part_eq H 0 3 (by omega) (by omega) _ _ _ _ _ _ _ _ rfl rfl rfl), trivial⟩

/-- … and the state it leaves. -/
theorem stateB (hc0 : ¬cond0_0 i) (H : X.Ins x0 x1 x2 x3 x4 x5 x6 x7) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 X.stV X.intraV X.decV
      = X.nextV := by
  unfold sout0_B_0
  rw [View.read_writes_junk_eq_canon]
  funext y
  refine View.canon_apply_of_pieces X.nextV _ (View.PiecesOf.mem ?_) y (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 X.stV X.intraV X.decV y)
  unfold kernelRun0_B
  dsimp only
  sl_unfold_words
  simp only [View.readAt_eq_ld, harg2.read_unread, harg3.read_unread, harg4.read_unread, harg5.read_unread, harg6.read_unread, harg7.read_unread, harg8.read_unread,
    harg9.read_unread, harg11.read_unread, harg12.read_unread, harg13.read_unread]
  exact ⟨fun x => piece_state H 1 3 (by omega) (by omega) _ _ _ _ _ rfl rfl x _, fun x => piece_state H 1 2 (by omega) (by omega) _ _ _ _ _ rfl rfl x _,
    fun x => piece_state H 1 1 (by omega) (by omega) _ _ _ _ _ rfl rfl x _, fun x => piece_state H 1 0 (by omega) (by omega) _ _ _ _ _ rfl rfl x _,
    fun x => piece_state H 0 3 (by omega) (by omega) _ _ _ _ _ rfl rfl x _, fun x => piece_state H 0 2 (by omega) (by omega) _ _ _ _ _ rfl rfl x _,
    fun x => piece_state H 0 1 (by omega) (by omega) _ _ _ _ _ rfl rfl x _, fun x => piece_state H 0 0 (by omega) (by omega) _ _ _ _ _ rfl rfl x _, trivial⟩

end Cert.Kernel6Ideal.Hand

end
-- ==== Proof.FwdGrid.lean ====
module

public import proofs.«01_k».proof.Proof.FwdFirst
public import proofs.«01_k».proof.Proof.FwdChunk
public import proofs.«01_k».proof.Proof.FwdOuts
public import proofs.«01_k».proof.Proof.Gen.Kernel6Ideal.Value
public import Idealize.ShloMosaic.Lib.Pipeline.ValueKit

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)
open Cert.Chunk Cert.Gated

/-- What the blocks of grid point `t` hold. -/
def at' (p : ℕ → ℕ → ℕ → ℝ) (g : ℕ → ℝ) (O X : ℕ → ℕ → ℕ → EReal) (W : ℕ → ℕ → EReal) (t : ℕ) : Reals where
  Q b h r d := p (t / 8 * 2 + b) (t % 8 * 256 + r) (h * 256 + d)
  K b h r d := p (t / 8 * 2 + b) (t % 8 * 256 + r) (1024 + h * 256 + d)
  V b h r e := p (t / 8 * 2 + b) (t % 8 * 256 + r) (2048 + h * 512 + e)
  S b h d e := st (kFwd p (t / 8 * 2 + b) h) (vFwd p (t / 8 * 2 + b) h e) (g h) (t % 8 * 256) (Fin.ofNat 256 d)
  g := g
  G b r n := (p (t / 8 * 2 + b) (t % 8 * 256 + r) (4096 + n) : EReal)
  O b r n := O (t / 8 * 2 + b) (t % 8 * 256 + r) n
  X b r n := X (t / 8 * 2 + b) (t % 8 * 256 + r) n
  W := W

variable (p : ℕ → ℕ → ℕ → ℝ) (g : ℕ → ℝ) (O X : ℕ → ℕ → ℕ → EReal) (W : ℕ → ℕ → EReal)

/-- A grid point's retention is the forward retention at its rows and positions. -/
theorem out_at (t b h r e : ℕ) (hr : r < 256) (he : e < 512) :
    (at' p g O X W t).out b h r e = fwd p g (t / 8 * 2 + b) (t % 8 * 256 + r) (h * 512 + e) := by
  rw [Reals.out_eq (at' p g O X W t) (base := t % 8 * 256) (q := qFwd p (t / 8 * 2 + b) h) (k := kFwd p (t / 8 * 2 + b) h)
    (v := vFwd p (t / 8 * 2 + b) h e) (fun _ _ _ => rfl) (fun _ _ _ => rfl) (fun _ _ => rfl) ?_ r hr]
  · unfold fwd
    rw [show (h * 512 + e) / 512 = h by omega, show (h * 512 + e) % 512 = e by omega]
    rfl
  · intro d
    show st _ _ _ _ (Fin.ofNat 256 d.val) = _
    rw [Fin.ofNat_val_eq_self]
    rfl

/-- The state a grid point leaves is the state the next one starts from. -/
theorem next_at (t b h d e : ℕ) (hd : d < 256) (ht : (t + 1) % 8 ≠ 0) : (at' p g O X W t).next b h d e = (at' p g O X W (t + 1)).S b h d e := by
  have := Reals.next_eq (at' p g O X W t) (b := b) (h := h) (e := e) (base := t % 8 * 256) (k := kFwd p (t / 8 * 2 + b) h)
    (v := vFwd p (t / 8 * 2 + b) h e) (fun _ _ _ => rfl) (fun _ _ => rfl) ?_ ⟨d, hd⟩
  · rw [this]
    show st _ _ _ _ _ = st _ _ _ _ (Fin.ofNat 256 d)
    rw [show (t + 1) / 8 = t / 8 by omega, show (t + 1) % 8 * 256 = t % 8 * 256 + 256 by omega]
    congr 1
    exact Fin.ext (Nat.mod_eq_of_lt hd).symm
  · intro d
    show st _ _ _ _ (Fin.ofNat 256 d.val) = _
    rw [Fin.ofNat_val_eq_self]
    rfl

/-- The windows' block indices. -/
theorem index_eq : ∀ t : Fin cfg0.N, win0_0.index t 0 = 0 ∧ win0_0.index t 1 = 0
    ∧ win0_1.index t 0 = t.val / 8 ∧ win0_1.index t 1 = t.val % 8 ∧ win0_1.index t 2 = 0
    ∧ win0_2.index t 0 = t.val / 8 ∧ win0_2.index t 1 = t.val % 8 ∧ win0_2.index t 2 = 1
    ∧ win0_3.index t 0 = t.val / 8 ∧ win0_3.index t 1 = t.val % 8 ∧ win0_3.index t 2 = 1
    ∧ win0_4.index t 0 = t.val / 8 ∧ win0_4.index t 1 = t.val % 8 ∧ win0_4.index t 2 = 2
    ∧ win0_5.index t 0 = t.val / 8 ∧ win0_5.index t 1 = t.val % 8 ∧ win0_5.index t 2 = 0
    ∧ win0_6.index t 0 = t.val / 8 ∧ win0_6.index t 1 = t.val % 8 ∧ win0_6.index t 2 = 0
    ∧ win0_7.index t 0 = 0 ∧ win0_7.index t 1 = 0
    ∧ win0_8.index t 0 = t.val / 8 ∧ win0_8.index t 1 = t.val % 8 ∧ win0_8.index t 2 = 0 :=
  (by decide +kernel : ∀ t : Fin grid0.N, win0_0.index t 0 = 0 ∧ win0_0.index t 1 = 0
    ∧ win0_1.index t 0 = t.val / 8 ∧ win0_1.index t 1 = t.val % 8 ∧ win0_1.index t 2 = 0
    ∧ win0_2.index t 0 = t.val / 8 ∧ win0_2.index t 1 = t.val % 8 ∧ win0_2.index t 2 = 1
    ∧ win0_3.index t 0 = t.val / 8 ∧ win0_3.index t 1 = t.val % 8 ∧ win0_3.index t 2 = 1
    ∧ win0_4.index t 0 = t.val / 8 ∧ win0_4.index t 1 = t.val % 8 ∧ win0_4.index t 2 = 2
    ∧ win0_5.index t 0 = t.val / 8 ∧ win0_5.index t 1 = t.val % 8 ∧ win0_5.index t 2 = 0
    ∧ win0_6.index t 0 = t.val / 8 ∧ win0_6.index t 1 = t.val % 8 ∧ win0_6.index t 2 = 0
    ∧ win0_7.index t 0 = 0 ∧ win0_7.index t 1 = 0
    ∧ win0_8.index t 0 = t.val / 8 ∧ win0_8.index t 1 = t.val % 8 ∧ win0_8.index t 2 = 0)

variable (m : (ℓ : Loc nD τ sig) → Buf (Elt Ideal) ℓ) (c : Dev nD)

/-- The arguments hold real numbers. -/
structure Args : Prop where
  hp : ∀ y, m ((c : Thread nD τ).loc main_arg1) y = (p (y 0).val (y 1).val (y 2).val : EReal)
  hg : ∀ h : Fin 4, m ((c : Thread nD τ).loc main_arg0) (ix2 0 h) = (g h : EReal)
  hO : ∀ y, m ((c : Thread nD τ).loc main_arg2) y = O (y 0).val (y 1).val (y 2).val
  hX : ∀ y, m ((c : Thread nD τ).loc main_arg3) y = X (y 0).val (y 1).val (y 2).val
  hW : ∀ y, m ((c : Thread nD τ).loc main_arg4) y = W (y 0).val (y 1).val

variable {p g O X W m c}

/-- Every grid point's input blocks hold what the arguments hold there. -/
theorem ins_at (A : Args p g O X W m c) (t : Fin cfg0.N) :
    (at' p g O X W t.val).Ins (iblk m c 0 t) (iblk m c 1 t) (iblk m c 2 t) (iblk m c 3 t)
      (iblk m c 4 t) (iblk m c 5 t) (iblk m c 6 t) (iblk m c 7 t) := by
  obtain ⟨e00, e01, e10, e11, e12, e20, e21, e22, e30, e31, e32, e40, e41, e42, e50, e51, e52,
    e60, e61, e62, e70, e71, -⟩ := index_eq t
  constructor
  · intro h
    unfold iblk
    rw [View.read_apply]
    refine Eq.trans ?_ (A.hg h)
    show V m c main_arg0 _ = _
    rw [V_main_arg0]
    congr 1
    funext a
    apply Fin.ext
    match a with
    | ⟨0, _⟩ => show win0_0.index t 0 * 2 + 1 * 0 = 0; rw [e00]
    | ⟨1, _⟩ => show win0_0.index t 1 * 4 + 1 * h.val = h.val; rw [e01]; omega
  · intro y
    unfold iblk
    rw [View.read_apply]
    show V m c main_arg1 _ = _
    rw [V_main_arg1]
    refine (A.hp _).trans ?_
    show ((p (win0_1.index t 0 * 2 + 1 * (y 0).val) (win0_1.index t 1 * 256 + 1 * (y 1).val) (win0_1.index t 2 * 1024 + 1 * (y 2).val) : ℝ) : EReal) = _
    rw [e10, e11, e12]
    unfold at'
    dsimp only
    exact coe_congr p (by omega) (by omega) (by omega)
  · intro y
    unfold iblk
    rw [View.read_apply]
    show V m c main_arg1 _ = _
    rw [V_main_arg1]
    refine (A.hp _).trans ?_
    show ((p (win0_2.index t 0 * 2 + 1 * (y 0).val) (win0_2.index t 1 * 256 + 1 * (y 1).val) (win0_2.index t 2 * 1024 + 1 * (y 2).val) : ℝ) : EReal) = _
    rw [e20, e21, e22]
    unfold at'
    dsimp only
    exact coe_congr p (by omega) (by omega) (by omega)
  · intro y
    unfold iblk
    rw [View.read_apply]
    show V m c main_arg1 _ = _
    rw [V_main_arg1]
    refine (A.hp _).trans ?_
    show ((p (win0_3.index t 0 * 2 + 1 * (y 0).val) (win0_3.index t 1 * 256 + 1 * (y 1).val) (win0_3.index t 2 * 2048 + 1 * (y 2).val) : ℝ) : EReal) = _
    rw [e30, e31, e32]
    unfold at'
    dsimp only
    exact coe_congr p (by omega) (by omega) (by omega)
  · intro y
    unfold iblk
    rw [View.read_apply]
    show V m c main_arg1 _ = _
    rw [V_main_arg1]
    refine (A.hp _).trans ?_
    show ((p (win0_4.index t 0 * 2 + 1 * (y 0).val) (win0_4.index t 1 * 256 + 1 * (y 1).val) (win0_4.index t 2 * 2048 + 1 * (y 2).val) : ℝ) : EReal) = _
    rw [e40, e41, e42]
    unfold at'
    dsimp only
    exact coe_congr p (by omega) (by omega) (by omega)
  · intro y
    unfold iblk
    rw [View.read_apply]
    show V m c main_arg2 _ = _
    rw [V_main_arg2]
    refine (A.hO _).trans ?_
    show O (win0_5.index t 0 * 2 + 1 * (y 0).val) (win0_5.index t 1 * 256 + 1 * (y 1).val) (win0_5.index t 2 * 2048 + 1 * (y 2).val) = _
    rw [e50, e51, e52]
    unfold at'
    dsimp only
    congr 1 <;> omega
  · intro y
    unfold iblk
    rw [View.read_apply]
    show V m c main_arg3 _ = _
    rw [V_main_arg3]
    refine (A.hX _).trans ?_
    show X (win0_6.index t 0 * 2 + 1 * (y 0).val) (win0_6.index t 1 * 256 + 1 * (y 1).val) (win0_6.index t 2 * 1024 + 1 * (y 2).val) = _
    rw [e60, e61, e62]
    unfold at'
    dsimp only
    congr 1 <;> omega
  · intro y
    unfold iblk
    rw [View.read_apply]
    show V m c main_arg4 _ = _
    rw [V_main_arg4]
    refine (A.hW _).trans ?_
    show W (win0_7.index t 0 * 2048 + 1 * (y 0).val) (win0_7.index t 1 * 1024 + 1 * (y 1).val) = _
    rw [e70, e71]
    unfold at'
    dsimp only
    congr 1 <;> omega

/-- What every grid point leaves: by induction on the point. -/
theorem outs_at (A : Args p g O X W m c) : ∀ (n : ℕ) (hn : n < cfg0.N),
    outsAt0 m c n hn = ((at' p g O X W n).outV, (at' p g O X W n).nextV, (at' p g O X W n).intraV, (at' p g O X W n).decV) := by
  intro n
  induction n using Nat.strong_induction_on with
  | _ n ih =>
    intro hn
    have hI := ins_at A ⟨n, hn⟩
    by_cases h0 : n % 8 = 0
    · have hS : ∀ b h d e, (at' p g O X W n).S b h d e = 0 := by
        intro b h d e
        show st _ _ _ (n % 8 * 256) _ = 0
        rw [h0]
        exact st_zero _ _ _ _
      rw [outsAt0_A m c ⟨n, hn⟩ h0]
      rw [outA _ _ _ _ _ _ _ _ _ _ _ _ _ _ _ _ _ _ _ _ _ _ _ _ _ _ _ hI hS, stateA _ _ _ _ _ _ _ _ _ _ _ _ _ _ _ _ _ _ _ _ _ _ _ _ _ _ _ hI hS,
        intraA _ _ _ _ _ _ _ _ _ _ _ _ _ _ _ _ _ _ _ _ _ _ _ _ _ _ _ hI, decA _ _ _ _ _ _ _ _ _ _ _ _ _ _ _ _ _ _ _ _ _ _ _ _ _ _ _ hI]
    · obtain ⟨n, rfl⟩ : ∃ k, n = k + 1 := ⟨n - 1, by omega⟩
      have hS : (at' p g O X W n).nextV = (at' p g O X W (n + 1)).stV := by
        funext y
        unfold Reals.nextV Reals.stV
        rw [next_at p g O X W n _ _ _ _ (y 2).isLt h0]
      rw [outsAt0_B m c ⟨n + 1, hn⟩ h0]
      simp only [Nat.add_sub_cancel]
      rw [ih n (by omega) (by omega)]
      dsimp only
      rw [hS, show (at' p g O X W n).intraV = (at' p g O X W (n + 1)).intraV from rfl, show (at' p g O X W n).decV = (at' p g O X W (n + 1)).decV from rfl]
      rw [outB _ _ _ _ _ _ _ _ _ _ _ _ _ _ _ _ _ _ _ _ _ _ _ _ _ _ _ hI, stateB _ _ _ _ _ _ _ _ _ _ _ _ _ _ _ _ _ _ _ _ _ _ _ _ _ _ _ hI]
      rfl

/-- The output array after the run: the forward retention with the backward part added, normed, gated and projected. -/
theorem final (A : Args p g O X W m c) :
    (dats m 0 c).arrAt 8 cfg0.N = fun y : S32x2048x1024.Idx =>
      whole gateT (fun b s n => (fwd p g b s n : EReal)) O (fun b s n => (p b s (4096 + n) : EReal)) X W (y 0).val (y 1).val (y 2).val := by
  refine (dats m 0 c).arrAt_eq_of_covers 8 _ (by decide +kernel) fun t hf y => ?_
  obtain ⟨-, -, -, -, -, -, -, -, -, -, -, -, -, -, -, -, -, -, -, -, -, -, e0, e1, e2⟩ := index_eq t
  rw [after0_8, outs_at A]
  show (at' p g O X W t.val).outV y = whole _ _ _ _ _ _ (win0_8.index t 0 * 2 + 1 * (y 0).val) (win0_8.index t 1 * 256 + 1 * (y 1).val)
    (win0_8.index t 2 * 1024 + 1 * (y 2).val)
  rw [e0, e1, e2, show t.val / 8 * 2 + 1 * (y 0).val = t.val / 8 * 2 + (y 0).val by omega,
    show t.val % 8 * 256 + 1 * (y 1).val = t.val % 8 * 256 + (y 1).val by omega, show 0 * 1024 + 1 * (y 2).val = (y 2).val by omega]
  unfold Reals.outV whole
  refine congrArg (_ + ·) (Finset.sum_congr rfl fun n _ => ?_)
  unfold Reals.part Gated.norm
  have hn : n.val % 512 < 512 := Nat.mod_lt _ (by norm_num)
  simp only [out_at p g O X W _ _ _ _ _ (y 1).isLt hn, out_at p g O X W _ _ _ _ _ (y 1).isLt (Fin.isLt _), Nat.div_add_mod']
  rfl

end Cert.Kernel6Ideal.Hand

end
-- ==== Proof.FwdTrips.lean ====
module

public import Idealize.ShloMosaic.PureOps.Ideal
public import proofs.«01_k».proof.Proof.Gen.Reference6Ideal.Run
public import proofs.«01_k».proof.Proof.Gen.Reference6Ideal.Step

@[expose] public section

set_option maxRecDepth 16384

noncomputable section

namespace Cert.Reference6Ideal.Hand

open Idealize.ShloMosaic Idealize.ShloMosaic.TcCoe Idealize.SL.Sem Idealize.ShloMosaic.StableHlo
open Cert.Reference6Ideal Cert.Reference6Ideal.Gen Cert.Reference6Ideal.Value
open Cert.Reference6Ideal.Step (State step init b33 b40 R_main_v79)

/-- The valuation `V` is the loop's before trip `n`, with the carried arrays and the constants in the record `s`. -/
structure Before (V : Valuation τ sig (Elt Ideal)) (s : State Ideal) (n : ℕ) : Prop where
  num : V (Proc.devRef .tc main_v56_7) = constantI S_ 32 (BitVec.ofNat 32 n)
  state : V (Proc.devRef .tc main_v56_8) = s.main_v56_8
  outs : V (Proc.devRef .tc main_v56_9) = s.main_v56_9
  qs : V (Proc.devRef .tc main_v56_0) = s.main_v56_0
  ks : V (Proc.devRef .tc main_v56_1) = s.main_v56_1
  vs : V (Proc.devRef .tc main_v56_2) = s.main_v56_2
  intra : V (Proc.devRef .tc main_v56_3) = s.main_v56_3
  qd : V (Proc.devRef .tc main_v56_4) = s.main_v56_4
  cd : V (Proc.devRef .tc main_v56_5) = s.main_v56_5
  kd : V (Proc.devRef .tc main_v56_6) = s.main_v56_6

variable {V : Valuation τ sig (Elt Ideal)} {s : State Ideal} {n : ℕ}

/-- What a trip makes of the carried state. -/
theorem Before.next_state (h : Before V s n) : step_main_v56_8 V = b33 n s := by
  unfold step_main_v56_8 res_main_while0b_v81 res_main_while0b_v82
  rw [h.num, h.state, h.ks, h.vs, h.cd, h.kd]
  rfl

/-- What a trip makes of the array of outputs. -/
theorem Before.next_outs (h : Before V s n) : step_main_v56_9 V = b40 n s := by
  unfold step_main_v56_9 res_main_while0b_v80 res_main_while0b_v81 res_main_while0b_v82
  rw [h.num, h.state, h.outs, h.qs, h.ks, h.vs, h.intra, h.qd]
  rfl

/-- One trip. -/
theorem Before.next (h : Before V s n) : Before (STEP V) (step n s) (n + 1) where
  num := by
    refine (STEP_main_v56_7 V).trans ?_
    unfold step_main_v56_7
    rw [h.num]
    funext i
    exact (BitVec.ofNat_add n 1).symm
  state := (STEP_main_v56_8 V).trans h.next_state
  outs := (STEP_main_v56_9 V).trans h.next_outs
  qs := (STEP_main_v56_0 V).trans h.qs
  ks := (STEP_main_v56_1 V).trans h.ks
  vs := (STEP_main_v56_2 V).trans h.vs
  intra := (STEP_main_v56_3 V).trans h.intra
  qd := (STEP_main_v56_4 V).trans h.qd
  cd := (STEP_main_v56_5 V).trans h.cd
  kd := (STEP_main_v56_6 V).trans h.kd

variable (m : (ℓ : Loc nD τ sig) → Buf (Elt Ideal) ℓ) (c : Dev nD)

set_option maxRecDepth 65536 in
set_option maxHeartbeats 600000 in
/-- What the program holds when the loop begins. -/
theorem entry : Before (entryContents preI m c)
    (init (m ((c.tc : Thread nD τ).loc main_arg0)) (m ((c.tc : Thread nD τ).loc main_arg1))) 0 := by
  constructor <;> (simp only [entryContents, afterL_cons, afterL_nil]; after_reads_simp) <;> rfl

/-- The record that the loop carries before trip `n`. -/
def carried (a0 : (⟨S2x4, .f32⟩ : BufTy).Contents (Elt Ideal)) (a1 : (⟨S32x2048x6144, .bf16⟩ : BufTy).Contents (Elt Ideal)) :
    ℕ → State Ideal
  | 0 => init a0 a1
  | n + 1 => step n (carried a0 a1 n)

/-- The loop's contents before trip `n` are that record's. -/
theorem before (n : ℕ) : Before (STEP^[n] (entryContents preI m c))
    (carried (m ((c.tc : Thread nD τ).loc main_arg0)) (m ((c.tc : Thread nD τ).loc main_arg1)) n) n := by
  induction n with
  | zero => exact entry m c
  | succ n ih =>
    rw [Function.iterate_succ_apply']
    exact ih.next

/-- The result, of the record after all trips. -/
theorem result : out_main_v79 (STEP^[16] (entryContents preI m c))
    = R_main_v79 (carried (m ((c.tc : Thread nD τ).loc main_arg0)) (m ((c.tc : Thread nD τ).loc main_arg1)) 16)
      (m ((c.tc : Thread nD τ).loc main_arg1)) (m ((c.tc : Thread nD τ).loc main_arg2)) (m ((c.tc : Thread nD τ).loc main_arg3))
      (m ((c.tc : Thread nD τ).loc main_arg4)) := by
  unfold out_main_v79 R_main_v79
  rw [(before m c 16).outs]
  rfl

end Cert.Reference6Ideal.Hand

end
-- ==== Proof.FwdRefStep.lean ====
module

public import proofs.«01_k».proof.Proof.Gated
public import proofs.«01_k».proof.Proof.FwdTrips
public import Idealize.ShloMosaic.Lib.Pointwise

@[expose] public section

set_option maxRecDepth 16384

noncomputable section

namespace Cert.Reference6Ideal.Hand

open Cert.Reference6Ideal Cert.Reference6Ideal.Gen Cert.Reference6Ideal.Step Idealize.ShloMosaic Cert.Chunk Cert.Gated

variable (p : ℕ → ℕ → ℕ → ℝ) (g : ℕ → ℝ) (a0 : (⟨S2x4, .f32⟩ : BufTy).Contents (Elt Ideal)) (a1 : (⟨S32x2048x6144, .bf16⟩ : BufTy).Contents (Elt Ideal))

theorem q_at (hp : ∀ y, a1 y = (p (y 0).val (y 1).val (y 2).val : EReal)) (c : Fin 16) (b : Fin 32) (r : Fin 128) (h : Fin 4) (d : Fin 256) :
    A_main_v50 (F := Ideal) a0 a1 (ix5 c b r h d) = (qFwd p b h (c * 128 + r) d : EReal) := by
  unfold A_main_v50 A_main_v49 A_main_v2 A_main_v1 A_main_v0
  pointwise
  simp only [hp]
  exact coe_congr p rfl (by simp) rfl

theorem k_at (hp : ∀ y, a1 y = (p (y 0).val (y 1).val (y 2).val : EReal)) (c : Fin 16) (b : Fin 32) (r : Fin 128) (h : Fin 4) (d : Fin 256) :
    A_main_v52 (F := Ideal) a0 a1 (ix5 c b r h d) = (kFwd p b h (c * 128 + r) d : EReal) := by
  unfold A_main_v52 A_main_v51 A_main_v4 A_main_v3 A_main_v0
  pointwise
  simp only [hp]
  exact coe_congr p rfl (by simp) (by simp; omega)

theorem v_at (hp : ∀ y, a1 y = (p (y 0).val (y 1).val (y 2).val : EReal)) (c : Fin 16) (b : Fin 32) (r : Fin 128) (h : Fin 4) (d : Fin 512) :
    A_main_v54 (F := Ideal) a0 a1 (ix5 c b r h d) = (vFwd p b h d (c * 128 + r) : EReal) := by
  unfold A_main_v54 A_main_v53 A_main_v6 A_main_v5 A_main_v0
  pointwise
  simp only [hp]
  exact coe_congr p rfl (by simp) (by simp; omega)

/-- A word of a number below 2^31 as a float. -/
theorem coe_word (n : ℕ) (h : n < 2048) : (FloatOps.sitofp (F := Ideal) FTy.f32 (BitVec.ofNat 32 n)) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem cst_zero : (constant (F := Ideal) S_ FTy.f32 0#32) = fun _ => ((0 : ℝ) : EReal) := by
  funext _
  simp [constant, FloatOps.ofBits, Ideal.ofBits, Ideal.ieee]

theorem intra_at (hg : ∀ h : Fin 4, a0 (ix2 0 h) = (g h : EReal)) (h : Fin 4) (r j : Fin 128) :
    A_main_v25 (F := Ideal) a0 a1 (ix3 h r j) = (mask (g h) true r j : EReal) := by
  unfold A_main_v25 A_main_v24 A_main_v23 A_main_v22 A_main_v20 A_main_v8 A_main_v7 K_main_call1_v1 K_main_call1_v2 K_main_call1_v0 K_main_cst_1 K_main_v21 K_main_v19 K_main_v18 K_main_v17 K_main_v16 K_main_v15 K_main_v14 K_main_v13 K_main_v12 K_main_v11 K_main_v10 K_main_v9 K_main_cst K_main_call0_v1 K_main_call0_v0 K_main_cst_0
  pointwise
  simp only [coe_word _ (show r.val < 2048 by omega), coe_word _ (show j.val < 2048 by omega), cst_zero, hg, id]
  unfold mask
  have hle : ((0 : EReal) ≤ ((r.val : ℝ) : EReal) - ((j.val : ℝ) : EReal)) ↔ j.val < r.val + true.toNat := by
    rw [← EReal.coe_sub, ← EReal.coe_zero, EReal.coe_le_coe_iff, sub_nonneg, Nat.cast_le, Bool.toNat_true]
    omega
  by_cases hr : j.val < r.val + true.toNat
  · rw [if_pos (hle.2 hr), if_pos (hle.2 hr), if_pos hr, ← EReal.coe_sub, ← EReal.coe_mul, Ideal.exp_coe]
  · rw [if_neg (mt hle.1 hr), if_neg hr]

theorem lit_one : Ideal.ofBits FTy.f32 1065353216#32 = ((1 : ℝ) : EReal) := by
  simp [Ideal.ofBits, Ideal.ieee, -EReal.coe_mul]; norm_num
theorem lit_127 : Ideal.ofBits FTy.f32 1123942400#32 = ((127 : ℝ) : EReal) := by
  simp [Ideal.ofBits, Ideal.ieee, -EReal.coe_mul]; norm_num
theorem lit_128 : Ideal.ofBits FTy.f32 1124073472#32 = ((128 : ℝ) : EReal) := by
  simp [Ideal.ofBits, Ideal.ieee, -EReal.coe_mul]; norm_num

theorem qd_at (hg : ∀ h : Fin 4, a0 (ix2 0 h) = (g h : EReal)) (h : Fin 4) (r : Fin 128) :
    A_main_v34 (F := Ideal) a0 a1 (ix4 0 r h 0) = (Real.exp ((r + 1) * g h) : EReal) := by
  unfold A_main_v34 A_main_v33 A_main_v32 A_main_v31 A_main_v29 A_main_v8 A_main_v7 K_main_v30 K_main_v28 K_main_v27 K_main_v26 K_main_cst_2 K_main_v9
  pointwise
  rw [coe_word _ (show r.val < 2048 by omega), hg, ← EReal.coe_one, ← EReal.coe_add, ← EReal.coe_mul, Ideal.exp_coe]

theorem kd_at (hg : ∀ h : Fin 4, a0 (ix2 0 h) = (g h : EReal)) (h : Fin 4) (r : Fin 128) :
    A_main_v43 (F := Ideal) a0 a1 (ix4 0 r h 0) = (Real.exp (((128 : ℕ) - 1 - r) * g h) : EReal) := by
  unfold A_main_v43 A_main_v42 A_main_v41 A_main_v40 A_main_v38 A_main_v8 A_main_v7 K_main_v39 K_main_v37 K_main_v36 K_main_v35 K_main_cst_3 K_main_v9
  pointwise
  rw [coe_word _ (show r.val < 2048 by omega), hg, lit_127, ← EReal.coe_sub, ← EReal.coe_mul, Ideal.exp_coe]
  norm_num

theorem cd_at (hg : ∀ h : Fin 4, a0 (ix2 0 h) = (g h : EReal)) (h : Fin 4) :
    A_main_v47 (F := Ideal) a0 a1 (ix4 0 h 0 0) = (Real.exp ((128 : ℕ) * g h) : EReal) := by
  unfold A_main_v47 A_main_v46 A_main_v45 A_main_v8 A_main_v7 K_main_v44 K_main_cst_4
  pointwise
  rw [hg, lit_128, ← EReal.coe_mul, Ideal.exp_coe]
  norm_num

/-- The words that begin a slice of trip `n`, as numbers. -/
theorem starts (n : ℕ) (hn : n < 16) (k : Fin 5) :
    BitVec.toInt ((![constantI S_ 32 (BitVec.ofNat 32 n), constantI S_ 32 0#32, constantI S_ 32 0#32, constantI S_ 32 0#32,
      constantI S_ 32 0#32] : Fin 5 → (⟨S_, .i32⟩ : BufTy).Contents (Elt Ideal)) k (Shape.Idx.first h_S_)) = ((if k = 0 then n else 0 : ℕ) : ℤ) := by
  fin_cases k
  · show (BitVec.ofNat 32 n).toInt = _
    rw [BitVec.toInt_eq_toNat_of_lt (by rw [BitVec.toNat_ofNat]; omega), BitVec.toNat_ofNat, Nat.mod_eq_of_lt (by omega)]
    rfl
  all_goals rfl

/-- Where the slice of trip `n` of the queries or keys begins. -/
theorem clamp_qk (n : ℕ) (hn : n < 16) (hr) (k : Fin 5) :
    Host.clampedStart S16x32x128x4x256 S1x32x128x4x256 hr (fun k => BitVec.toInt ((![constantI S_ 32 (BitVec.ofNat 32 n),
      constantI S_ 32 0#32, constantI S_ 32 0#32, constantI S_ 32 0#32,
      constantI S_ 32 0#32] : Fin 5 → (⟨S_, .i32⟩ : BufTy).Contents (Elt Ideal)) k (Shape.Idx.first h_S_))) k = if k = 0 then n else 0 := by
  refine Host.clampedStart_of_le _ _ _ _ (starts n hn k) ?_
  fin_cases k <;> first | (show n + 1 ≤ 16; omega) | exact Nat.le_of_eq rfl

/-- Where the slice of trip `n` of the values or outputs begins. -/
theorem clamp_v (n : ℕ) (hn : n < 16) (hr) (k : Fin 5) :
    Host.clampedStart S16x32x128x4x512 S1x32x128x4x512 hr (fun k => BitVec.toInt ((![constantI S_ 32 (BitVec.ofNat 32 n),
      constantI S_ 32 0#32, constantI S_ 32 0#32, constantI S_ 32 0#32,
      constantI S_ 32 0#32] : Fin 5 → (⟨S_, .i32⟩ : BufTy).Contents (Elt Ideal)) k (Shape.Idx.first h_S_))) k = if k = 0 then n else 0 := by
  refine Host.clampedStart_of_le _ _ _ _ (starts n hn k) ?_
  fin_cases k <;> first | (show n + 1 ≤ 16; omega) | exact Nat.le_of_eq rfl

theorem b5_at (s : State Ideal) (n : ℕ) (hn : n < 16) (b : Fin 32) (r : Fin 128) (h : Fin 4) (d : Fin 256) :
    b5 n s (ix4 b r h d) = s.main_v56_0 (ix5 ⟨n, hn⟩ b r h d) := by
  unfold b5 b4 b3 b2 b1 b0
  pointwise
  simp only [clamp_qk n hn]
  simp

theorem b11_at (s : State Ideal) (n : ℕ) (hn : n < 16) (b : Fin 32) (r : Fin 128) (h : Fin 4) (d : Fin 256) :
    b11 n s (ix4 b r h d) = s.main_v56_1 (ix5 ⟨n, hn⟩ b r h d) := by
  unfold b11 b10 b9 b8 b7 b6
  pointwise
  simp only [clamp_qk n hn]
  simp

theorem b17_at (s : State Ideal) (n : ℕ) (hn : n < 16) (b : Fin 32) (r : Fin 128) (h : Fin 4) (d : Fin 512) :
    b17 n s (ix4 b r h d) = s.main_v56_2 (ix5 ⟨n, hn⟩ b r h d) := by
  unfold b17 b16 b15 b14 b13 b12
  pointwise
  simp only [clamp_v n hn]
  simp

theorem b33_at (s : State Ideal) (n : ℕ) (hn : n < 16) (b : Fin 32) (h : Fin 4) (d : Fin 256) (e : Fin 512) :
    b33 n s (ix4 b h d e) = s.main_v56_8 (ix4 b h d e) * s.main_v56_5 (ix4 0 h 0 0)
      + ∑ r : Fin 128, s.main_v56_1 (ix5 ⟨n, hn⟩ b r h d) * s.main_v56_6 (ix4 0 r h 0) * s.main_v56_2 (ix5 ⟨n, hn⟩ b r h e) := by
  unfold b33 b32 b31 b30 b29 b28
  pointwise
  simp only [b11_at s n hn, b17_at s n hn]

theorem b34_at (s : State Ideal) (n : ℕ) (hn : n < 16) (b : Fin 32) (r : Fin 128) (h : Fin 4) (e : Fin 512) :
    b34 n s (ix4 b r h e) = (∑ j : Fin 128, s.main_v56_2 (ix5 ⟨n, hn⟩ b j h e) * ((∑ d : Fin 256, s.main_v56_0 (ix5 ⟨n, hn⟩ b r h d) * s.main_v56_1 (ix5 ⟨n, hn⟩ b j h d)) * s.main_v56_3 (ix3 h r j)))
      + (∑ d : Fin 256, s.main_v56_8 (ix4 b h d e) * s.main_v56_0 (ix5 ⟨n, hn⟩ b r h d)) * s.main_v56_4 (ix4 0 r h 0) := by
  unfold b34 b27 b26 b25 b24 b23 b22 b21 b20 b19 b18
  pointwise
  simp only [b11_at s n hn, b17_at s n hn, b5_at s n hn]

theorem b40_at (s : State Ideal) (n : ℕ) (hn : n < 16) (c : Fin 16) (b : Fin 32) (r : Fin 128) (h : Fin 4) (e : Fin 512) :
    b40 n s (ix5 c b r h e) = if c.val = n then b34 n s (ix4 b r h e) else s.main_v56_9 (ix5 c b r h e) := by
  unfold b40 b39 b38 b37 b36 b35
  pointwise
  simp only [clamp_v n hn]

  by_cases hc : c.val = n
  · rw [dif_pos (by simp [hc])]
    simp [hc]
  · rw [dif_neg (by simp; omega)]
    simp [hc]

end Cert.Reference6Ideal.Hand

end
-- ==== Proof.FwdRefRun.lean ====
module

public import proofs.«01_k».proof.Proof.FwdRefStep

@[expose] public section

set_option maxRecDepth 16384

noncomputable section

namespace Cert.Reference6Ideal.Hand

open Cert.Reference6Ideal Cert.Reference6Ideal.Gen Idealize.ShloMosaic Cert.Chunk Cert.Gated
open Cert.Reference6Ideal.Step hiding step_main_v56_8 step_main_v56_9

variable {p : ℕ → ℕ → ℕ → ℝ} {g : ℕ → ℝ} {a0 : (⟨S2x4, .f32⟩ : BufTy).Contents (Elt Ideal)}
  {a1 : (⟨S32x2048x6144, .bf16⟩ : BufTy).Contents (Elt Ideal)}

/-- The record before trip `n`, in real numbers: the constants of the loop, the state over the first `n` chunks, and
    the outputs of those chunks. -/
structure Holds (p : ℕ → ℕ → ℕ → ℝ) (g : ℕ → ℝ) (n : ℕ) (s : State Ideal) : Prop where
  qs : ∀ c b r h d, s.main_v56_0 (ix5 c b r h d) = (qFwd p b.val h.val (c.val * 128 + r.val) d : EReal)
  ks : ∀ c b r h d, s.main_v56_1 (ix5 c b r h d) = (kFwd p b.val h.val (c.val * 128 + r.val) d : EReal)
  vs : ∀ c b r h e, s.main_v56_2 (ix5 c b r h e) = (vFwd p b.val h.val e.val (c.val * 128 + r.val) : EReal)
  intra : ∀ h r j, s.main_v56_3 (ix3 h r j) = (mask (g h.val) true r.val j.val : EReal)
  qd : ∀ r h, s.main_v56_4 (ix4 0 r h 0) = (Real.exp ((r.val + 1) * g h.val) : EReal)
  cd : ∀ h, s.main_v56_5 (ix4 0 h 0 0) = (Real.exp ((128 : ℕ) * g h.val) : EReal)
  kd : ∀ r h, s.main_v56_6 (ix4 0 r h 0) = (Real.exp (((128 : ℕ) - 1 - r.val) * g h.val) : EReal)
  state : ∀ b h d e, s.main_v56_8 (ix4 b h d e)
    = (st (kFwd p b.val h.val) (vFwd p b.val h.val e.val) (g h.val) (n * 128) d : EReal)
  outs : ∀ c b r h e, c.val < n → s.main_v56_9 (ix5 c b r h e)
    = (ret (qFwd p b.val h.val) (kFwd p b.val h.val) (vFwd p b.val h.val e.val) (g h.val) true (c.val * 128 + r.val) : EReal)

/-- Before the first trip. -/
theorem holds_init (hp : ∀ y, a1 y = (p (y 0).val (y 1).val (y 2).val : EReal))
    (hg : ∀ h : Fin 4, a0 (ix2 0 h) = (g h : EReal)) : Holds p g 0 (init a0 a1) where
  qs := q_at p a0 a1 hp
  ks := k_at p a0 a1 hp
  vs c b r h e := v_at p a0 a1 hp c b r h e
  intra := intra_at g a0 a1 hg
  qd r h := qd_at g a0 a1 hg h r
  cd := cd_at g a0 a1 hg
  kd r h := kd_at g a0 a1 hg h r
  state b h d e := by
    show K_main_v48 (F := Ideal) (ix4 b h d e) = _
    unfold K_main_v48 K_main_cst_5
    pointwise
    rw [st_zero, EReal.coe_zero]
  outs c b r h e hc := absurd hc (Nat.not_lt_zero _)

/-- One trip. -/
theorem Holds.next {n : ℕ} {s : State Ideal} (H : Holds p g n s) (hn : n < 16) : Holds p g (n + 1) (step n s) where
  qs := H.qs
  ks := H.ks
  vs := H.vs
  intra := H.intra
  qd := H.qd
  cd := H.cd
  kd := H.kd
  state b h d e := by
    show b33 n s (ix4 b h d e) = _
    rw [b33_at s n hn, H.state, H.cd]
    simp only [H.ks, H.kd, H.vs]
    rw [Nat.succ_mul, st_step, Finset.sum_range, EReal.coe_add, EReal.coe_mul, coe_sum]
    simp only [EReal.coe_mul]
  outs c b r h e hc := by
    show b40 n s (ix5 c b r h e) = _
    rw [b40_at s n hn]
    split
    · rename_i hcn
      rw [b34_at s n hn, hcn, ret_chunk _ _ _ _ true (n * 128) 128 r.val r.isLt, Finset.sum_range]
      simp only [H.ks, H.qs, H.vs, H.intra, H.state, H.qd]
      unfold dotp
      simp only [EReal.coe_add, EReal.coe_mul, coe_sum]
      congr 2
      · funext j
        exact mul_comm _ _
      · exact Finset.sum_congr rfl fun j _ => mul_comm _ _
    · exact H.outs c b r h e (by omega)

/-- Before every trip. -/
theorem holds_carried (hp : ∀ y, a1 y = (p (y 0).val (y 1).val (y 2).val : EReal))
    (hg : ∀ h : Fin 4, a0 (ix2 0 h) = (g h : EReal)) (n : ℕ) (hn : n ≤ 16) : Holds p g n (carried a0 a1 n) := by
  induction n with
  | zero => exact holds_init hp hg
  | succ n ih => exact (ih (by omega)).next (by omega)

variable {G O X : ℕ → ℕ → ℕ → EReal} {W : ℕ → ℕ → EReal} {a2 : (⟨S32x2048x2048, .bf16⟩ : BufTy).Contents (Elt Ideal)}
  {a3 : (⟨S32x2048x1024, .f32⟩ : BufTy).Contents (Elt Ideal)} {a4 : (⟨S2048x1024, .bf16⟩ : BufTy).Contents (Elt Ideal)}

/-- The reference's result at one place. -/
theorem result_ix {s : State Ideal} (H : Holds p g 16 s) (b : Fin 32) (i : Fin 2048) (m : Fin 1024)
    (hG : ∀ (b : Fin 32) (i n : Fin 2048), a1 (ix3 b i ⟨4096 + n.val, by omega⟩) = G b i n)
    (h2 : ∀ y, a2 y = O (y 0).val (y 1).val (y 2).val) (h3 : ∀ y, a3 y = X (y 0).val (y 1).val (y 2).val)
    (h4 : ∀ y, a4 y = W (y 0).val (y 1).val) :
    R_main_v79 s a1 a2 a3 a4 (ix3 b i m) = whole gateE (fun b s n => (fwd p g b s n : EReal)) O G X W b i m := by
  unfold R_main_v79
  pointwise
  have hR : ∀ h : Fin 4, ∀ e : Fin 512, s.main_v56_9 (ix5 ⟨i.val / 128, by omega⟩ b ⟨i.val % 128, by omega⟩ h e)
      = (fwd p g b.val i.val (h.val * 512 + e.val) : EReal) := fun h e => by
    rw [H.outs _ _ _ _ _ (show i.val / 128 < 16 by omega)]
    unfold fwd
    have he := e.isLt
    rw [show (h.val * 512 + e.val) / 512 = h.val by omega, show (h.val * 512 + e.val) % 512 = e.val by omega]
    show ((ret _ _ _ _ true (i.val / 128 * 128 + i.val % 128) : ℝ) : EReal) = _
    rw [show i.val / 128 * 128 + i.val % 128 = i.val by omega]
  simp only [hR, hG, h2, h3, h4]
  unfold whole Gated.norm gateE
  refine congrArg (_ + ·) (Finset.sum_congr rfl fun n _ => ?_)
  simp only [Nat.div_add_mod']
  rfl

/-- The reference's result. -/
theorem result_at (hp : ∀ y, a1 y = (p (y 0).val (y 1).val (y 2).val : EReal)) (hg : ∀ h : Fin 4, a0 (ix2 0 h) = (g h : EReal))
    (h2 : ∀ y, a2 y = O (y 0).val (y 1).val (y 2).val) (h3 : ∀ y, a3 y = X (y 0).val (y 1).val (y 2).val)
    (h4 : ∀ y, a4 y = W (y 0).val (y 1).val) :
    R_main_v79 (carried a0 a1 16) a1 a2 a3 a4 = fun y : S32x2048x1024.Idx =>
      whole gateE (fun b s n => (fwd p g b s n : EReal)) O (fun b s n => (p b s (4096 + n) : EReal)) X W (y 0).val (y 1).val (y 2).val := by
  funext y
  rw [eq_ix3 y]
  exact result_ix (holds_carried hp hg 16 le_rfl) _ _ _ (fun b i n => hp _) h2 h3 h4

end Cert.Reference6Ideal.Hand

end
-- ==== Proof.Finite.lean ====
module

public import proofs.«01_k».proof.Pre_finite
public import Idealize.ShloMosaic.PureOps.Ideal
public import Idealize.ShloMosaic.Lib.ReduceAll
public import Idealize.ShloMosaic.Lib.Pointwise

@[expose] public section

set_option maxRecDepth 16384

namespace Cert.Pre_finite

open Idealize.ShloMosaic

/-- The shape relations of the predicate. -/
instance facts : Facts where
  bcast_S_S2x4 := by decide
  reducesTo_S2x4_S_d0_1 := by decide
  h_S_ := by decide
  bcast_S_S32x2048x6144 := by decide
  reducesTo_S32x2048x6144_S_d0_1_2 := by decide

/-- An extended real whose absolute value is less than infinity is a real number. -/
theorem real_of_abs_lt (x : EReal) (h : max x (-x) < ⊤) : x = ((x.toReal : ℝ) : EReal) := by
  refine (EReal.coe_toReal ?_ ?_).symm
  · rintro rfl; simp at h
  · rintro rfl; simp at h

theorem inf32 : Ideal.ofBits FTy.f32 0x7F800000#32 = ⊤ := by
  simp [Ideal.ofBits, Ideal.ieee]

theorem inf16 : Ideal.ofBits FTy.bf16 0x7F80#16 = ⊤ := by
  simp [Ideal.ofBits, Ideal.ieee]

/-- A comparison that came out true. -/
theorem lt_of_bit (x y : EReal) (h : Ideal.cmp .olt x y = 1#1) : x < y := by
  by_contra hn
  simp [Ideal.cmp, hn] at h

/-- Where the predicate holds every entry of both arguments is a real number. -/
theorem reals (a0 : FVec Ideal S2x4 .f32) (a1 : FVec Ideal S32x2048x6144 .bf16)
    (h : fn (F := Ideal) a0 a1 = fun _ => 1#1) :
    (∀ i, a0 i = ((EReal.toReal (a0 i) : ℝ) : EReal)) ∧ ∀ i, a1 i = ((EReal.toReal (a1 i) : ℝ) : EReal) := by
  have h0 := congrFun h (Shape.Idx.first (by decide))
  dsimp only [fn] at h0
  have hb := IntOp.andi_eq_one.mp h0
  constructor
  · intro i
    exact real_of_abs_lt _ (inf32 ▸ lt_of_bit _ _ (Host.reduce_andi_all _ _ _ _ _ hb.1 i))
  · intro i
    exact real_of_abs_lt _ (inf16 ▸ lt_of_bit _ _ (Host.reduce_andi_all _ _ _ _ _ hb.2 i))

/-- Where the predicate holds both arguments are arrays of real numbers. -/
theorem exists_reals (a0 : FVec Ideal S2x4 .f32) (a1 : FVec Ideal S32x2048x6144 .bf16)
    (h : fn (F := Ideal) a0 a1 = fun _ => 1#1) :
    ∃ (p : ℕ → ℕ → ℕ → ℝ) (g : ℕ → ℝ), (∀ y : S32x2048x6144.Idx, a1 y = (p (y 0).val (y 1).val (y 2).val : EReal))
      ∧ ∀ j : Fin 4, a0 (ix2 1 j) = (g j.val : EReal) := by
  refine ⟨fun x y z => if h : x < 32 ∧ y < 2048 ∧ z < 6144 then EReal.toReal (a1 (ix3 ⟨x, h.1⟩ ⟨y, h.2.1⟩ ⟨z, h.2.2⟩)) else 0,
    fun x => if h : x < 4 then EReal.toReal (a0 (ix2 1 ⟨x, h⟩)) else 0, fun y => ?_, fun j => ?_⟩
  · have hy : (y 0).val < 32 ∧ (y 1).val < 2048 ∧ (y 2).val < 6144 := ⟨(y 0).isLt, (y 1).isLt, (y 2).isLt⟩
    beta_reduce
    rw [(reals a0 a1 h).2 y, dif_pos hy]
    congr 3
    exact eq_ix3 y
  · beta_reduce
    rw [(reals a0 a1 h).1 (ix2 1 j), dif_pos j.isLt]

end Cert.Pre_finite
-- ==== Proof.Finite6.lean ====
module

public import proofs.«01_k».proof.Pre_finite6
public import proofs.«01_k».proof.Proof.Finite

@[expose] public section

set_option maxRecDepth 16384

namespace Cert.Pre_finite6

open Idealize.ShloMosaic Cert.Pre_finite

/-- The shape relations of the predicate. -/
instance facts : Facts where
  bcast_S_S2x4 := by decide
  reducesTo_S2x4_S_d0_1 := by decide
  h_S_ := by decide
  bcast_S_S32x2048x6144 := by decide
  reducesTo_S32x2048x6144_S_d0_1_2 := by decide

/-- Where the predicate holds, the decay exponents and the projected array are real numbers; every array is a function of
    its indices' numbers. -/
theorem exists_numbers (a0 : FVec Ideal S2x4 .f32) (a1 : FVec Ideal S32x2048x6144 .bf16) (a2 : FVec Ideal S32x2048x2048 .bf16)
    (a3 : FVec Ideal S32x2048x1024 .f32) (a4 : FVec Ideal S2048x1024 .bf16) (h : fn (F := Ideal) a0 a1 a2 a3 a4 = fun _ => 1#1) :
    ∃ (p : ℕ → ℕ → ℕ → ℝ) (g : ℕ → ℝ) (O X : ℕ → ℕ → ℕ → EReal) (W : ℕ → ℕ → EReal),
      (∀ y : S32x2048x6144.Idx, a1 y = (p (y 0).val (y 1).val (y 2).val : EReal))
      ∧ (∀ j : Fin 4, a0 (ix2 0 j) = (g j.val : EReal))
      ∧ (∀ y : S32x2048x2048.Idx, a2 y = O (y 0).val (y 1).val (y 2).val)
      ∧ (∀ y : S32x2048x1024.Idx, a3 y = X (y 0).val (y 1).val (y 2).val)
      ∧ ∀ y : S2048x1024.Idx, a4 y = W (y 0).val (y 1).val := by
  have h0 := congrFun h (Shape.Idx.first (by decide))
  dsimp only [fn] at h0
  have hb := IntOp.andi_eq_one.mp h0
  have hg : ∀ i, a0 i = ((EReal.toReal (a0 i) : ℝ) : EReal) := fun i =>
    real_of_abs_lt _ (inf32 ▸ lt_of_bit _ _ (Host.reduce_andi_all _ _ _ _ _ hb.1 i))
  have hp : ∀ i, a1 i = ((EReal.toReal (a1 i) : ℝ) : EReal) := fun i =>
    real_of_abs_lt _ (inf16 ▸ lt_of_bit _ _ (Host.reduce_andi_all _ _ _ _ _ hb.2 i))
  refine ⟨fun x y z => if h : x < 32 ∧ y < 2048 ∧ z < 6144 then EReal.toReal (a1 (ix3 ⟨x, h.1⟩ ⟨y, h.2.1⟩ ⟨z, h.2.2⟩)) else 0,
    fun x => if h : x < 4 then EReal.toReal (a0 (ix2 0 ⟨x, h⟩)) else 0,
    fun x y z => if h : x < 32 ∧ y < 2048 ∧ z < 2048 then a2 (ix3 ⟨x, h.1⟩ ⟨y, h.2.1⟩ ⟨z, h.2.2⟩) else 0,
    fun x y z => if h : x < 32 ∧ y < 2048 ∧ z < 1024 then a3 (ix3 ⟨x, h.1⟩ ⟨y, h.2.1⟩ ⟨z, h.2.2⟩) else 0,
    fun x y => if h : x < 2048 ∧ y < 1024 then a4 (ix2 ⟨x, h.1⟩ ⟨y, h.2⟩) else 0, fun y => ?_, fun j => ?_, fun y => ?_, fun y => ?_,
    fun y => ?_⟩
  · have hy : (y 0).val < 32 ∧ (y 1).val < 2048 ∧ (y 2).val < 6144 := ⟨(y 0).isLt, (y 1).isLt, (y 2).isLt⟩
    beta_reduce
    rw [hp y, dif_pos hy]
    congr 3
    exact eq_ix3 y
  · beta_reduce
    rw [hg (ix2 0 j), dif_pos j.isLt]
  · have hy : (y 0).val < 32 ∧ (y 1).val < 2048 ∧ (y 2).val < 2048 := ⟨(y 0).isLt, (y 1).isLt, (y 2).isLt⟩
    beta_reduce
    rw [dif_pos hy]
    exact congrArg a2 (eq_ix3 y)
  · have hy : (y 0).val < 32 ∧ (y 1).val < 2048 ∧ (y 2).val < 1024 := ⟨(y 0).isLt, (y 1).isLt, (y 2).isLt⟩
    beta_reduce
    rw [dif_pos hy]
    exact congrArg a3 (eq_ix3 y)
  · have hy : (y 0).val < 2048 ∧ (y 1).val < 1024 := ⟨(y 0).isLt, (y 1).isLt⟩
    beta_reduce
    rw [dif_pos hy]
    exact congrArg a4 (eq_ix2 y)

end Cert.Pre_finite6
-- ==== Proof.PermBlock.lean ====
/- What a grid point of the long layer's projection leaves: the rows normed and projected, positions exchanged. -/
module

public import proofs.«01_k».proof.Proof.Gen.Kernel7Ideal.Value
public import proofs.«01_k».proof.Proof.Norm
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Perm

open Idealize.ShloMosaic
open Cert.Norm

/-- Row `s`, `i` of `X`, normed with the scale `g`, times column `n` of `W`. -/
def proj (X : ℕ → ℕ → ℕ → EReal) (g : ℕ → EReal) (W : ℕ → ℕ → EReal) (s i n : ℕ) : EReal :=
  pr (fun k => X s i k.val) (fun k => g k.val) (fun k => W k.val n)

theorem proj_congr (X : ℕ → ℕ → ℕ → EReal) (g : ℕ → EReal) (W : ℕ → ℕ → EReal) {s s' i i' n n' : ℕ} (hs : s = s') (hi : i = i') (hn : n = n') :
    proj X g W s i n = proj X g W s' i' n' := by
  subst hs hi hn
  rfl

/-- The rows in the order in which the scratch holds them. -/
def scr (X : ℕ → ℕ → ℕ → EReal) (z : (⟨2, ![512, 1024]⟩ : Shape).Idx) : EReal := X ((z 0).val % 64) ((z 0).val / 64) (z 1).val

theorem scr_at (X : ℕ → ℕ → ℕ → EReal) {s i k : ℕ} (z : (⟨2, ![512, 1024]⟩ : Shape).Idx) (hs : s < 64) (h0 : (z 0).val = i * 64 + s)
    (h1 : (z 1).val = k) : X s i k = scr X z := by
  unfold scr
  rw [h0, h1, show (i * 64 + s) % 64 = s by omega, show (i * 64 + s) / 64 = i by omega]

/-- A load from pieces that are parts of one array, where they cover it, reads that array. -/
theorem read_of {Val : EltTy → Type} [∀ e, Nonempty (Val e)] {sig : RefSig} {κ : Kind} {sp : Space} {s : Shape} {e : EltTy} (v : View sig κ sp s e)
    (L : List (View.Piece Val s e)) (B : LoadRect s) (G : s.Idx → Val e) (h : View.PiecesOf G L) (cov : ∀ y : s.Idx, ∃ p ∈ L, y ∈ p.1.set) :
    v.readCov L B = fun j => G (B.idx j) := by
  rw [View.readCov_eq_canon']
  exact funext fun j => View.canon_apply_of_pieces G L (View.PiecesOf.mem h) _ (cov _)

end Cert.Perm

namespace Cert.Kernel7Ideal.Hand

open Cert.Kernel7Ideal Cert.Kernel7Ideal.Gen Idealize.ShloMosaic Idealize.ShloMosaic.TcCoe Idealize.SL.Sem
open Cert.Norm Cert.Perm

variable (c : Dev nD) (i : grid0.Coords) (arg3 : Memref sig .tc .vmem S1x64x8x1024 .f32) (harg3 : arg3.IsWhole)
  (arg4 : Memref sig .tc .vmem S1x1024 .f32) (harg4 : arg4.IsWhole) (arg5 : Memref sig .tc .vmem S1024x4352 .bf16) (harg5 : arg5.IsWhole)
  (arg6 : Memref sig .tc .vmem S1x8x64x4352 .bf16) (harg6 : arg6.IsWhole) (arg7 : Memref sig .tc .vmem S512x1024 .f32) (harg7 : arg7.IsWhole)
  (x0 : Vec Ideal S1x64x8x1024 .f32) (x1 : Vec Ideal S1x1024 .f32) (x2 : Vec Ideal S1024x4352 .bf16)

/-- The blocks that a grid point reads, as functions of their indices' numbers. -/
structure Ins (X : ℕ → ℕ → ℕ → EReal) (g : ℕ → EReal) (W : ℕ → ℕ → EReal) (x0 : Vec Ideal S1x64x8x1024 .f32) (x1 : Vec Ideal S1x1024 .f32)
    (x2 : Vec Ideal S1024x4352 .bf16) : Prop where
  h0 : ∀ y : S1x64x8x1024.Idx, x0 y = X (y 1).val (y 2).val (y 3).val
  h1 : ∀ y : S1x1024.Idx, x1 y = g (y 1).val
  h2 : ∀ y : S1024x4352.Idx, x2 y = W (y 0).val (y 1).val

variable {X : ℕ → ℕ → ℕ → EReal} {g : ℕ → EReal} {W : ℕ → ℕ → EReal}

set_option maxHeartbeats 400000 in
/-- What a grid point leaves: every row normed and projected. -/
theorem out3 (H : Ins X g W x0 x1 x2) :
    out0_A_3 c i arg3 harg3 arg4 harg4 arg5 harg5 arg6 harg6 arg7 harg7 x0 x1 x2
      = fun y : S1x8x64x4352.Idx => proj X g W (y 2).val (y 1).val (y 3).val := by
  unfold out0_A_3
  rw [View.read_writes_junk_eq_canon]
  funext y
  have mem : View.PiecesOf (fun y : S1x8x64x4352.Idx => proj X g W (y 2).val (y 1).val (y 3).val)
      (kernelRun0_A c i arg3 harg3 arg4 harg4 arg5 harg5 arg6 harg6 arg7 harg7 x0 x1 x2).1 → _ := fun h =>
    View.canon_apply_of_pieces _ _ (View.PiecesOf.mem h) y
    (cover0_A_3 c i arg3 harg3 arg4 harg4 arg5 harg5 arg6 harg6 arg7 harg7 x0 x1 x2 y)
  refine mem ?_
  unfold kernelRun0_A
  dsimp only
  sl_unfold_words
  simp only [View.readAt_eq_ld, harg3.read_unread, harg4.read_unread, harg5.read_unread]
  have back := fun (L : List (View.Piece (Elt Ideal) S512x1024 .f32)) (B : LoadRect S512x1024) => read_of (Val := Elt Ideal) (e := .f32) arg7.view L B (scr X)
  rw [back, back]
  rotate_left
  · refine ⟨?_, ?_, ?_, ?_, ?_, ?_, ?_, ?_, trivial⟩
    all_goals
      intro x
      obtain ⟨a, b, rfl⟩ : ∃ (a : Fin 64) (b : Fin 1024), x = ix2 a b := ⟨x 0, x 1, eq_ix2 x⟩
      unfold_payloads
      pointwise
      exact (H.h0 _).trans (scr_at X _ a.isLt (by show _ + 1 * a.val = _ * 64 + a.val; dsimp [ix4]; omega) (by show 0 + 1 * b.val = b.val; omega))
  · exact fun y => View.cover_of_tiledBy _ ![64, 1024] (by sl_kernel_rfl) y
  · refine ⟨?_, ?_, ?_, ?_, ?_, ?_, ?_, ?_, trivial⟩
    all_goals
      intro x
      obtain ⟨a, b, rfl⟩ : ∃ (a : Fin 64) (b : Fin 1024), x = ix2 a b := ⟨x 0, x 1, eq_ix2 x⟩
      unfold_payloads
      pointwise
      exact (H.h0 _).trans (scr_at X _ a.isLt (by show _ + 1 * a.val = _ * 64 + a.val; dsimp [ix4]; omega) (by show 0 + 1 * b.val = b.val; omega))
  · exact fun y => View.cover_of_tiledBy _ ![64, 1024] (by sl_kernel_rfl) y
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    obtain ⟨a, b, r, n, rfl⟩ : ∃ (a : Fin 1) (b : Fin 1) (r : Fin 64) (n : Fin _), x = ix4 a b r n := ⟨x 0, x 1, x 2, x 3, eq_ix4 x⟩
    obtain rfl : a = 0 := Subsingleton.elim _ _
    obtain rfl : b = 0 := Subsingleton.elim _ _
    clear mem back
    unfold_payloads
    pointwise
    unfold proj pr nrm
    refine Finset.sum_congr rfl fun k _ => congrArg₂ (· * ·) (congrArg₂ (· * ·) (congrArg₂ (· * ·) ?_ (congrArg Ideal.rsqrt
      (congrArg (· + _) (congrArg (Ideal.div · _) (Finset.sum_congr rfl fun l _ => congrArg₂ (· * ·) ?_ ?_))))) (H.h1 _)) ((H.h2 _).trans ?_)
    iterate 3
      · refine (scr_at X _ ?_ ?_ rfl).symm
        · show 0 + 1 * r.val < 64
          omega
        · show _ = (_ + 1 * 0) * 64 + (0 + 1 * r.val)
          dsimp
          omega
    · refine congrArg (W _) ?_
      show _ = _ + 1 * n.val
      dsimp
      omega

end Cert.Kernel7Ideal.Hand

end
-- ==== Proof.PermGrid.lean ====
/- The long layer's projection over its grid, and the reference's: the rows normed and projected, positions exchanged. -/
module

public import proofs.«01_k».proof.Proof.PermBlock
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Perm

open Idealize.ShloMosaic

/-- The rows, as a function of the indices' numbers. -/
def rows (A : (⟨4, ![2, 128, 128, 1024]⟩ : Shape).Idx → EReal) (b s i k : ℕ) : EReal :=
  A (ix4 (Fin.ofNat 2 b) (Fin.ofNat 128 s) (Fin.ofNat 128 i) (Fin.ofNat 1024 k))

/-- The scale, as a function of the index's number. -/
def scale (A : (⟨2, ![1, 1024]⟩ : Shape).Idx → EReal) (k : ℕ) : EReal := A (ix2 0 (Fin.ofNat 1024 k))

/-- The weights, as a function of the indices' numbers. -/
def cols (A : (⟨2, ![1024, 4352]⟩ : Shape).Idx → EReal) (k n : ℕ) : EReal := A (ix2 (Fin.ofNat 1024 k) (Fin.ofNat 4352 n))

theorem rows_at (A : (⟨4, ![2, 128, 128, 1024]⟩ : Shape).Idx → EReal) (b : Fin 2) (s i : Fin 128) (k : Fin 1024) :
    A (ix4 b s i k) = rows A b.val s.val i.val k.val := by
  unfold rows
  rw [Fin.ofNat_val_eq_self, Fin.ofNat_val_eq_self, Fin.ofNat_val_eq_self, Fin.ofNat_val_eq_self]

theorem scale_at (A : (⟨2, ![1, 1024]⟩ : Shape).Idx → EReal) (a : Fin 1) (k : Fin 1024) : A (ix2 a k) = scale A k.val := by
  unfold scale
  rw [Fin.ofNat_val_eq_self, Subsingleton.elim a 0]

theorem cols_at (A : (⟨2, ![1024, 4352]⟩ : Shape).Idx → EReal) (k : Fin 1024) (n : Fin 4352) : A (ix2 k n) = cols A k.val n.val := by
  unfold cols
  rw [Fin.ofNat_val_eq_self, Fin.ofNat_val_eq_self]

/-- A run of rows holds the rows' products. -/
theorem proj_of_rows (R : ℕ → ℕ → ℕ → ℕ → EReal) (g : ℕ → EReal) (W : ℕ → ℕ → EReal) {u v b b' s s' i i' n n' : ℕ} (hb : b = b')
    (hs : u + s = s') (hi : v + i = i') (hn : n = n') :
    proj (fun s i k => R b (u + s) (v + i) k) g W s i n = proj (R b') g W s' i' n' := by
  subst hb hs hi hn
  rfl

end Cert.Perm

namespace Cert.Kernel7Ideal.Hand

open Cert.Kernel7Ideal Cert.Kernel7Ideal.Gen Idealize.ShloMosaic Idealize.ShloMosaic.TcCoe Idealize.SL.Sem
open Idealize.ShloMosaic.Pipeline (Dat)
open Cert.Perm

/-- The windows' block indices. -/
theorem index_eq : ∀ t : Fin cfg0.N, win0_0.index t 0 = t.val / 32 ∧ win0_0.index t 1 = t.val % 2 ∧ win0_0.index t 2 = t.val / 2 % 16 ∧ win0_0.index t 3 = 0
    ∧ win0_1.index t 0 = 0 ∧ win0_1.index t 1 = 0 ∧ win0_2.index t 0 = 0 ∧ win0_2.index t 1 = 0
    ∧ win0_3.index t 0 = t.val / 32 ∧ win0_3.index t 1 = t.val / 2 % 16 ∧ win0_3.index t 2 = t.val % 2 ∧ win0_3.index t 3 = 0 :=
  (by decide +kernel : ∀ t : Fin grid0.N, win0_0.index t 0 = t.val / 32 ∧ win0_0.index t 1 = t.val % 2 ∧ win0_0.index t 2 = t.val / 2 % 16 ∧ win0_0.index t 3 = 0
    ∧ win0_1.index t 0 = 0 ∧ win0_1.index t 1 = 0 ∧ win0_2.index t 0 = 0 ∧ win0_2.index t 1 = 0
    ∧ win0_3.index t 0 = t.val / 32 ∧ win0_3.index t 1 = t.val / 2 % 16 ∧ win0_3.index t 2 = t.val % 2 ∧ win0_3.index t 3 = 0)

variable (m : (ℓ : Loc nD τ sig) → Buf (Elt Ideal) ℓ) (c : Dev nD)

/-- Every grid point's blocks hold what the arguments hold there. -/
theorem ins_at (t : Fin cfg0.N) :
    Ins (fun s i k => rows (m ((c : Thread nD τ).loc main_arg0)) (t.val / 32) (t.val % 2 * 64 + s) (t.val / 2 % 16 * 8 + i) k)
      (scale (m ((c : Thread nD τ).loc main_arg1))) (cols (m ((c : Thread nD τ).loc main_arg2)))
      (iblk m c 0 t) (iblk m c 1 t) (iblk m c 2 t) := by
  have e := index_eq t
  constructor
  · intro y
    unfold iblk
    rw [View.read_apply]
    show V m c main_arg0 _ = _
    rw [V_main_arg0]
    refine (congrArg _ (eq_ix4 _)).trans ((rows_at _ _ _ _ _).trans ?_)
    show rows _ (win0_0.index t 0 * 1 + 1 * (y 0).val) (win0_0.index t 1 * 64 + 1 * (y 1).val) (win0_0.index t 2 * 8 + 1 * (y 2).val)
      (win0_0.index t 3 * 1024 + 1 * (y 3).val) = _
    have h0 : (y 0).val < 1 := (y 0).isLt
    exact congr (congr (congrArg₂ (rows _) (by omega) (by omega)) (by omega)) (by omega)
  · intro y
    unfold iblk
    rw [View.read_apply]
    show V m c main_arg1 _ = _
    rw [V_main_arg1]
    refine (congrArg _ (eq_ix2 _)).trans ((scale_at _ _ _).trans ?_)
    show scale _ (win0_1.index t 1 * 1024 + 1 * (y 1).val) = _
    exact congrArg (scale _) (by omega)
  · intro y
    unfold iblk
    rw [View.read_apply]
    show V m c main_arg2 _ = _
    rw [V_main_arg2]
    refine (congrArg _ (eq_ix2 _)).trans ((cols_at _ _ _).trans ?_)
    show cols _ (win0_2.index t 0 * 1024 + 1 * (y 0).val) (win0_2.index t 1 * 4352 + 1 * (y 1).val) = _
    exact congrArg₂ (cols _) (by omega) (by omega)

/-- What every grid point leaves. -/
theorem left3 (t : Fin cfg0.N) : outsAt0 m c t = fun y : S1x8x64x4352.Idx =>
    proj (fun s i k => rows (m ((c : Thread nD τ).loc main_arg0)) (t.val / 32) (t.val % 2 * 64 + s) (t.val / 2 % 16 * 8 + i) k)
      (scale (m ((c : Thread nD τ).loc main_arg1))) (cols (m ((c : Thread nD τ).loc main_arg2))) (y 2).val (y 1).val (y 3).val := by
  have h := out3 c (grid0.coords t) (ms0_0 t) (hs0_0 t) (ms0_1 t) (hs0_1 t) (ms0_2 t) (hs0_2 t) (ms0_3 t) (hs0_3 t) scM0_0 (Memref.isWhole_whole _) _ _ _ (ins_at m c t)
  unfold outsAt0
  dsimp only
  refine Eq.trans ?_ h
  rfl

/-- The output array after the run. -/
theorem final3 : (dats m 0 c).arrAt 3 cfg0.N = fun y : S2x128x128x4352.Idx =>
    proj (rows (m ((c : Thread nD τ).loc main_arg0)) (y 0).val) (scale (m ((c : Thread nD τ).loc main_arg1))) (cols (m ((c : Thread nD τ).loc main_arg2)))
      (y 2).val (y 1).val (y 3).val := by
  refine (dats m 0 c).arrAt_eq_of_covers 3 _ (by decide +kernel) fun t hf y => ?_
  have e := index_eq t
  rw [after0_3, left3]
  have h0 : (y 0).val < 1 := (y 0).isLt
  exact proj_of_rows (rows (m ((c : Thread nD τ).loc main_arg0))) (scale (m ((c : Thread nD τ).loc main_arg1))) (cols (m ((c : Thread nD τ).loc main_arg2)))
    (u := t.val % 2 * 64) (v := t.val / 2 % 16 * 8) (b := t.val / 32) (b' := win0_3.index t 0 * 1 + 1 * (y 0).val)
    (i := (y 1).val) (i' := win0_3.index t 1 * 8 + 1 * (y 1).val) (s := (y 2).val) (s' := win0_3.index t 2 * 64 + 1 * (y 2).val)
    (n := (y 3).val) (n' := win0_3.index t 3 * 4352 + 1 * (y 3).val) (by omega) (by omega) (by omega) (by omega)

end Cert.Kernel7Ideal.Hand

namespace Cert.Reference7Ideal.Hand

open Cert.Reference7Ideal Cert.Reference7Ideal.Gen Idealize.ShloMosaic Idealize.ShloMosaic.TcCoe Idealize.SL.Sem
open Cert.Perm Cert.Norm

/-- The reference's result, at every index. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = (fun y : S2x128x128x4352.Idx =>
        proj (rows (m ((c.tc : Thread nD τ).loc main_arg0)) (y 0).val) (scale (m ((c.tc : Thread nD τ).loc main_arg1)))
          (cols (m ((c.tc : Thread nD τ).loc main_arg2))) (y 2).val (y 1).val (y 3).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  clear h
  funext y
  obtain ⟨b, i, s, n, rfl⟩ : ∃ b i s n, y = ix4 b i s n := ⟨_, _, _, _, eq_ix4 y⟩
  pointwise
  simp only [rows_at, scale_at, cols_at]
  rfl

end Cert.Reference7Ideal.Hand

end
-- ==== Proof.DftBlock.lean ====
/- What a grid point of the transform's first stage leaves: products of the tables with the rows. -/
module

public import proofs.«01_k».proof.Proof.Gen.Kernel8Ideal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Stage

open Idealize.ShloMosaic

/-- Along a group's positions: row `k` of the group's table times column `c` of the group's entries. -/
def along (D X : ℕ → ℕ → ℕ → EReal) (i k c : ℕ) : EReal := ∑ t : Fin 128, D i k t * X i t c

/-- One term of the sum, at equal numbers. -/
theorem term (D X : ℕ → ℕ → ℕ → EReal) {a a' k k' e e' t : ℕ} (ha : a = a') (hk : k = k') (he : e = e') :
    D a k t * X a t e = D a' k' t * X a' t e' := by
  subst ha hk he
  rfl

/-- One term, its factors exchanged. -/
theorem term_of (D : ℕ → ℕ → ℕ → EReal) (P : ℕ → ℕ → ℕ → ℕ → EReal) {s o b k i t n k' n' : ℕ} (hn : n' = s + n) (hk : k' = o + k) :
    P b i t n' * D i k' t = D i (o + k) t * P b i t (s + n) := by
  subst hk hn
  exact mul_comm _ _

/-- Batch `b`'s groups along their positions: row `o + k` of group `i`'s table, column `s + c` of the entries. -/
def stage (D : ℕ → ℕ → ℕ → EReal) (P : ℕ → ℕ → ℕ → ℕ → EReal) (s o b k i c : ℕ) : EReal :=
  along D (fun i t c => P b i t (s + c)) i (o + k) c

/-- A run of groups starting at `g` holds the groups' products. -/
theorem stage_of_groups (D : ℕ → ℕ → ℕ → EReal) (P : ℕ → ℕ → ℕ → ℕ → EReal) {g s o b b' k i j c k' c' : ℕ} (hb : b = b') (hj : g + i = j)
    (hk : k = o + k') (hc : c = c') : along (fun i => D (g + i)) (fun i t c => P b (g + i) t (s + c)) i k c = stage D P s o b' k' j c' := by
  subst hb hj hk hc
  rfl

/-- The tables, as a function of the indices' numbers. -/
def tab (A : (⟨3, ![128, 256, 128]⟩ : Shape).Idx → EReal) (i k t : ℕ) : EReal := A (ix3 (Fin.ofNat 128 i) (Fin.ofNat 256 k) (Fin.ofNat 128 t))

/-- The entries, as a function of the indices' numbers. -/
def ent (A : (⟨4, ![2, 128, 128, 4352]⟩ : Shape).Idx → EReal) (b i t c : ℕ) : EReal :=
  A (ix4 (Fin.ofNat 2 b) (Fin.ofNat 128 i) (Fin.ofNat 128 t) (Fin.ofNat 4352 c))

theorem tab_at (A : (⟨3, ![128, 256, 128]⟩ : Shape).Idx → EReal) (a : Fin 128) (b : Fin 256) (d : Fin 128) : A (ix3 a b d) = tab A a.val b.val d.val := by
  unfold tab
  rw [Fin.ofNat_val_eq_self, Fin.ofNat_val_eq_self, Fin.ofNat_val_eq_self]

theorem ent_at (A : (⟨4, ![2, 128, 128, 4352]⟩ : Shape).Idx → EReal) (a : Fin 2) (b d : Fin 128) (e : Fin 4352) :
    A (ix4 a b d e) = ent A a.val b.val d.val e.val := by
  unfold ent
  rw [Fin.ofNat_val_eq_self, Fin.ofNat_val_eq_self, Fin.ofNat_val_eq_self, Fin.ofNat_val_eq_self]

end Cert.Stage

namespace Cert.Kernel8Ideal.Hand

open Cert.Kernel8Ideal Cert.Kernel8Ideal.Gen Idealize.ShloMosaic Idealize.ShloMosaic.TcCoe Idealize.SL.Sem
open Cert.Stage

/-- The blocks that a grid point reads, as functions of their indices' numbers. -/
structure Ins (D X S : ℕ → ℕ → ℕ → EReal) (x0 : Vec Ideal S8x256x128 .bf16) (x1 : Vec Ideal S1x8x128x2048 .bf16)
    (x2 : Vec Ideal S1x8x128x128 .bf16) : Prop where
  h0 : ∀ y : S8x256x128.Idx, x0 y = D (y 0).val (y 1).val (y 2).val
  h1 : ∀ y : S1x8x128x2048.Idx, x1 y = X (y 1).val (y 2).val (y 3).val
  h2 : ∀ y : S1x8x128x128.Idx, x2 y = S (y 1).val (y 2).val (y 3).val

variable {D X S : ℕ → ℕ → ℕ → EReal} {x0 : Vec Ideal S8x256x128 .bf16} {x1 : Vec Ideal S1x8x128x2048 .bf16} {x2 : Vec Ideal S1x8x128x128 .bf16}

variable (c : Dev nD) (i : grid0.Coords) (arg3 : Memref sig .tc .vmem S8x256x128 .bf16) (harg3 : arg3.IsWhole)
  (arg4 : Memref sig .tc .vmem S1x8x128x2048 .bf16) (harg4 : arg4.IsWhole) (arg5 : Memref sig .tc .vmem S1x8x128x128 .bf16) (harg5 : arg5.IsWhole)
  (arg6 : Memref sig .tc .vmem S1x128x8x2048 .f32) (harg6 : arg6.IsWhole) (arg7 : Memref sig .tc .vmem S1x128x8x2048 .f32) (harg7 : arg7.IsWhole)
  (arg8 : Memref sig .tc .vmem S1x128x8x128 .f32) (harg8 : arg8.IsWhole) (arg9 : Memref sig .tc .vmem S1x128x8x128 .f32) (harg9 : arg9.IsWhole)

/-- The cosine products of the wide part. -/
theorem out3 (H : Ins D X S x0 x1 x2) :
    out0_A_3 c i arg3 harg3 arg4 harg4 arg5 harg5 arg6 harg6 arg7 harg7 arg8 harg8 arg9 harg9 x0 x1 x2
      = fun y => along D X (y 2).val (y 1).val (y 3).val := by
  unfold out0_A_3
  rw [View.read_writes_junk_eq_canon]
  funext y
  have mem : View.PiecesOf (fun y : S1x128x8x2048.Idx => along D X (y 2).val (y 1).val (y 3).val)
      (kernelRun0_A c i arg3 harg3 arg4 harg4 arg5 harg5 arg6 harg6 arg7 harg7 arg8 harg8 arg9 harg9 x0 x1 x2).1 → _ := fun h =>
    View.canon_apply_of_pieces _ _ (View.PiecesOf.mem h) y
    (cover0_A_3 c i arg3 harg3 arg4 harg4 arg5 harg5 arg6 harg6 arg7 harg7 arg8 harg8 arg9 harg9 x0 x1 x2 y)
  refine mem ?_
  unfold kernelRun0_A
  dsimp only
  sl_unfold_words
  simp only [View.readAt_eq_ld, harg3.read_unread, harg4.read_unread, harg5.read_unread]
  refine ⟨?_, ?_, ?_, ?_, ?_, ?_, ?_, ?_, trivial⟩
  all_goals
    intro x
    obtain ⟨a, k, b, e, rfl⟩ : ∃ (a : Fin 1) (k : Fin 128) (b : Fin 1) (e : Fin 2048), x = ix4 a k b e := ⟨x 0, x 1, x 2, x 3, eq_ix4 x⟩
    obtain rfl : b = 0 := Subsingleton.elim _ _
    unfold_payloads
    pointwise
    unfold along
    refine Finset.sum_congr rfl fun t _ => ?_
    rw [H.h0, H.h1]
    exact term D X rfl (show k.val = 0 + 1 * k.val by omega) (show e.val = 0 + 1 * e.val by omega)

/-- The sine products of the wide part. -/
theorem out4 (H : Ins D X S x0 x1 x2) :
    out0_A_4 c i arg3 harg3 arg4 harg4 arg5 harg5 arg6 harg6 arg7 harg7 arg8 harg8 arg9 harg9 x0 x1 x2
      = fun y => along D X (y 2).val (128 + (y 1).val) (y 3).val := by
  unfold out0_A_4
  rw [View.read_writes_junk_eq_canon]
  funext y
  have mem : View.PiecesOf (fun y : S1x128x8x2048.Idx => along D X (y 2).val (128 + (y 1).val) (y 3).val)
      (kernelRun0_A c i arg3 harg3 arg4 harg4 arg5 harg5 arg6 harg6 arg7 harg7 arg8 harg8 arg9 harg9 x0 x1 x2).2.1 → _ := fun h =>
    View.canon_apply_of_pieces _ _ (View.PiecesOf.mem h) y
    (cover0_A_4 c i arg3 harg3 arg4 harg4 arg5 harg5 arg6 harg6 arg7 harg7 arg8 harg8 arg9 harg9 x0 x1 x2 y)
  refine mem ?_
  unfold kernelRun0_A
  dsimp only
  sl_unfold_words
  simp only [View.readAt_eq_ld, harg3.read_unread, harg4.read_unread, harg5.read_unread]
  refine ⟨?_, ?_, ?_, ?_, ?_, ?_, ?_, ?_, trivial⟩
  all_goals
    intro x
    obtain ⟨a, k, b, e, rfl⟩ : ∃ (a : Fin 1) (k : Fin 128) (b : Fin 1) (e : Fin 2048), x = ix4 a k b e := ⟨x 0, x 1, x 2, x 3, eq_ix4 x⟩
    obtain rfl : b = 0 := Subsingleton.elim _ _
    unfold_payloads
    pointwise
    unfold along
    refine Finset.sum_congr rfl fun t _ => ?_
    rw [H.h0, H.h1]
    exact term D X rfl (show 128 + k.val = 128 + (0 + 1 * k.val) by omega) (show e.val = 0 + 1 * e.val by omega)

/-- The cosine products of the narrow part. -/
theorem out5 (H : Ins D X S x0 x1 x2) :
    out0_A_5 c i arg3 harg3 arg4 harg4 arg5 harg5 arg6 harg6 arg7 harg7 arg8 harg8 arg9 harg9 x0 x1 x2
      = fun y => along D S (y 2).val (y 1).val (y 3).val := by
  unfold out0_A_5
  rw [View.read_writes_junk_eq_canon]
  funext y
  have mem : View.PiecesOf (fun y : S1x128x8x128.Idx => along D S (y 2).val (y 1).val (y 3).val)
      (kernelRun0_A c i arg3 harg3 arg4 harg4 arg5 harg5 arg6 harg6 arg7 harg7 arg8 harg8 arg9 harg9 x0 x1 x2).2.2.1 → _ := fun h =>
    View.canon_apply_of_pieces _ _ (View.PiecesOf.mem h) y
    (cover0_A_5 c i arg3 harg3 arg4 harg4 arg5 harg5 arg6 harg6 arg7 harg7 arg8 harg8 arg9 harg9 x0 x1 x2 y)
  refine mem ?_
  unfold kernelRun0_A
  dsimp only
  sl_unfold_words
  simp only [View.readAt_eq_ld, harg3.read_unread, harg4.read_unread, harg5.read_unread]
  refine ⟨?_, ?_, ?_, ?_, ?_, ?_, ?_, ?_, trivial⟩
  all_goals
    intro x
    obtain ⟨a, k, b, e, rfl⟩ : ∃ (a : Fin 1) (k : Fin 128) (b : Fin 1) (e : Fin 128), x = ix4 a k b e := ⟨x 0, x 1, x 2, x 3, eq_ix4 x⟩
    obtain rfl : b = 0 := Subsingleton.elim _ _
    unfold_payloads
    pointwise
    unfold along
    refine Finset.sum_congr rfl fun t _ => ?_
    rw [H.h0, H.h2]
    exact term D S rfl (show k.val = 0 + 1 * k.val by omega) (show e.val = 0 + 1 * e.val by omega)

/-- The sine products of the narrow part. -/
theorem out6 (H : Ins D X S x0 x1 x2) :
    out0_A_6 c i arg3 harg3 arg4 harg4 arg5 harg5 arg6 harg6 arg7 harg7 arg8 harg8 arg9 harg9 x0 x1 x2
      = fun y => along D S (y 2).val (128 + (y 1).val) (y 3).val := by
  unfold out0_A_6
  rw [View.read_writes_junk_eq_canon]
  funext y
  have mem : View.PiecesOf (fun y : S1x128x8x128.Idx => along D S (y 2).val (128 + (y 1).val) (y 3).val)
      (kernelRun0_A c i arg3 harg3 arg4 harg4 arg5 harg5 arg6 harg6 arg7 harg7 arg8 harg8 arg9 harg9 x0 x1 x2).2.2.2.1 → _ := fun h =>
    View.canon_apply_of_pieces _ _ (View.PiecesOf.mem h) y
    (cover0_A_6 c i arg3 harg3 arg4 harg4 arg5 harg5 arg6 harg6 arg7 harg7 arg8 harg8 arg9 harg9 x0 x1 x2 y)
  refine mem ?_
  unfold kernelRun0_A
  dsimp only
  sl_unfold_words
  simp only [View.readAt_eq_ld, harg3.read_unread, harg4.read_unread, harg5.read_unread]
  refine ⟨?_, ?_, ?_, ?_, ?_, ?_, ?_, ?_, trivial⟩
  all_goals
    intro x
    obtain ⟨a, k, b, e, rfl⟩ : ∃ (a : Fin 1) (k : Fin 128) (b : Fin 1) (e : Fin 128), x = ix4 a k b e := ⟨x 0, x 1, x 2, x 3, eq_ix4 x⟩
    obtain rfl : b = 0 := Subsingleton.elim _ _
    unfold_payloads
    pointwise
    unfold along
    refine Finset.sum_congr rfl fun t _ => ?_
    rw [H.h0, H.h2]
    exact term D S rfl (show 128 + k.val = 128 + (0 + 1 * k.val) by omega) (show e.val = 0 + 1 * e.val by omega)

end Cert.Kernel8Ideal.Hand

end
-- ==== Proof.DftGrid.lean ====
/- The transform's first stage over the whole grid, and the reference's. -/
module

public import proofs.«01_k».proof.Proof.DftBlock
public import proofs.«01_k».proof.Proof.Gen.Reference8Ideal.Run

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Idealize.ShloMosaic.Pipeline (Dat)
open Cert.Stage

/-- The windows' block indices. -/
theorem index_eq : ∀ t : Fin cfg0.N, win0_0.index t 0 = t.val % 16 ∧ win0_0.index t 1 = 0 ∧ win0_0.index t 2 = 0 ∧ win0_1.index t 0 = t.val / 16 ∧ win0_1.index t 1 = t.val % 16 ∧ win0_1.index t 2 = 0 ∧ win0_1.index t 3 = 0 ∧ win0_2.index t 0 = t.val / 16 ∧ win0_2.index t 1 = t.val % 16 ∧ win0_2.index t 2 = 0 ∧ win0_2.index t 3 = 32 ∧ win0_3.index t 0 = t.val / 16 ∧ win0_3.index t 1 = 0 ∧ win0_3.index t 2 = t.val % 16 ∧ win0_3.index t 3 = 0 ∧ win0_4.index t 0 = t.val / 16 ∧ win0_4.index t 1 = 0 ∧ win0_4.index t 2 = t.val % 16 ∧ win0_4.index t 3 = 0 ∧ win0_5.index t 0 = t.val / 16 ∧ win0_5.index t 1 = 0 ∧ win0_5.index t 2 = t.val % 16 ∧ win0_5.index t 3 = 0 ∧ win0_6.index t 0 = t.val / 16 ∧ win0_6.index t 1 = 0 ∧ win0_6.index t 2 = t.val % 16 ∧ win0_6.index t 3 = 0 :=
  (by decide +kernel : ∀ t : Fin grid0.N, win0_0.index t 0 = t.val % 16 ∧ win0_0.index t 1 = 0 ∧ win0_0.index t 2 = 0 ∧ win0_1.index t 0 = t.val / 16 ∧ win0_1.index t 1 = t.val % 16 ∧ win0_1.index t 2 = 0 ∧ win0_1.index t 3 = 0 ∧ win0_2.index t 0 = t.val / 16 ∧ win0_2.index t 1 = t.val % 16 ∧ win0_2.index t 2 = 0 ∧ win0_2.index t 3 = 32 ∧ win0_3.index t 0 = t.val / 16 ∧ win0_3.index t 1 = 0 ∧ win0_3.index t 2 = t.val % 16 ∧ win0_3.index t 3 = 0 ∧ win0_4.index t 0 = t.val / 16 ∧ win0_4.index t 1 = 0 ∧ win0_4.index t 2 = t.val % 16 ∧ win0_4.index t 3 = 0 ∧ win0_5.index t 0 = t.val / 16 ∧ win0_5.index t 1 = 0 ∧ win0_5.index t 2 = t.val % 16 ∧ win0_5.index t 3 = 0 ∧ win0_6.index t 0 = t.val / 16 ∧ win0_6.index t 1 = 0 ∧ win0_6.index t 2 = t.val % 16 ∧ win0_6.index t 3 = 0)

variable (m : (ℓ : Loc nD τ sig) → Buf (Elt Ideal) ℓ) (c : Dev nD)

/-- Every grid point's blocks hold what the arguments hold there. -/
theorem ins_at (t : Fin cfg0.N) :
    Ins (fun i => tab (m ((c : Thread nD τ).loc main_arg0)) (t.val % 16 * 8 + i))
      (fun i u n => ent (m ((c : Thread nD τ).loc main_arg1)) (t.val / 16) (t.val % 16 * 8 + i) u (0 + n))
      (fun i u n => ent (m ((c : Thread nD τ).loc main_arg1)) (t.val / 16) (t.val % 16 * 8 + i) u (4096 + n))
      (iblk m c 0 t) (X0_1 m c t) (iblk m c 2 t) := by
  have e := index_eq t
  constructor
  · intro y
    unfold iblk
    rw [View.read_apply]
    show V m c main_arg0 _ = _
    rw [V_main_arg0]
    refine (congrArg _ (eq_ix3 _)).trans ((tab_at _ _ _ _).trans ?_)
    show tab _ (win0_0.index t 0 * 8 + 1 * (y 0).val) (win0_0.index t 1 * 256 + 1 * (y 1).val) (win0_0.index t 2 * 128 + 1 * (y 2).val) = _
    dsimp only
    congr 1 <;> omega
  · intro y
    unfold X0_1 Pipeline.Window.fill
    rw [dif_pos (moved0_1 t y)]
    unfold iblk
    rw [View.read_apply]
    show V m c main_arg1 _ = _
    rw [V_main_arg1]
    refine (congrArg _ (eq_ix4 _)).trans ((ent_at _ _ _ _ _).trans ?_)
    show ent _ (win0_1.index t 0 * 1 + 1 * (y 0).val) (win0_1.index t 1 * 8 + 1 * (y 1).val) (win0_1.index t 2 * 128 + 1 * (y 2).val)
      (win0_1.index t 3 * 2048 + 1 * (y 3).val) = _
    have h0 : (y 0).val < 1 := (y 0).isLt
    dsimp only
    congr 1 <;> omega
  · intro y
    unfold iblk
    rw [View.read_apply]
    show V m c main_arg1 _ = _
    rw [V_main_arg1]
    refine (congrArg _ (eq_ix4 _)).trans ((ent_at _ _ _ _ _).trans ?_)
    show ent _ (win0_2.index t 0 * 1 + 1 * (y 0).val) (win0_2.index t 1 * 8 + 1 * (y 1).val) (win0_2.index t 2 * 128 + 1 * (y 2).val)
      (win0_2.index t 3 * 128 + 1 * (y 3).val) = _
    have h0 : (y 0).val < 1 := (y 0).isLt
    dsimp only
    congr 1 <;> omega

theorem left3 (t : Fin cfg0.N) : (outsAt0 m c t).1 = fun y : S1x128x8x2048.Idx => along (fun i => tab (m ((c : Thread nD τ).loc main_arg0)) (t.val % 16 * 8 + i))
    (fun i u n => ent (m ((c : Thread nD τ).loc main_arg1)) (t.val / 16) (t.val % 16 * 8 + i) u (0 + n)) (y 2).val (y 1).val (y 3).val := by
  have h := out3 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ins_at m c t)
  unfold outsAt0
  dsimp only
  refine Eq.trans ?_ h
  rfl

/-- The cosine products of the wide part, after the run. -/
theorem final3 : (dats m 0 c).arrAt 3 cfg0.N = fun y : S2x128x128x2048.Idx =>
    stage (tab (m ((c : Thread nD τ).loc main_arg0))) (ent (m ((c : Thread nD τ).loc main_arg1))) 0 0 (y 0).val (y 1).val (y 2).val (y 3).val := by
  refine (dats m 0 c).arrAt_eq_of_covers 3 _ (by decide +kernel) fun t hf y => ?_
  have e := index_eq t
  rw [after0_3, left3]
  have h0 : (y 0).val < 1 := (y 0).isLt
  exact stage_of_groups (tab (m ((c : Thread nD τ).loc main_arg0))) (ent (m ((c : Thread nD τ).loc main_arg1))) (g := t.val % 16 * 8) (s := 0) (o := 0)
    (b := t.val / 16) (b' := win0_3.index t 0 * 1 + 1 * (y 0).val) (k := (y 1).val) (k' := win0_3.index t 1 * 128 + 1 * (y 1).val) (i := (y 2).val)
    (j := win0_3.index t 2 * 8 + 1 * (y 2).val) (c := (y 3).val) (c' := win0_3.index t 3 * 2048 + 1 * (y 3).val)
    (by omega) (by omega) (by omega) (by omega)

theorem left4 (t : Fin cfg0.N) : (outsAt0 m c t).2.1 = fun y : S1x128x8x2048.Idx => along (fun i => tab (m ((c : Thread nD τ).loc main_arg0)) (t.val % 16 * 8 + i))
    (fun i u n => ent (m ((c : Thread nD τ).loc main_arg1)) (t.val / 16) (t.val % 16 * 8 + i) u (0 + n)) (y 2).val (128 + (y 1).val) (y 3).val := by
  have h := out4 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ins_at m c t)
  unfold outsAt0
  dsimp only
  refine Eq.trans ?_ h
  rfl

/-- The sine products of the wide part, after the run. -/
theorem final4 : (dats m 0 c).arrAt 4 cfg0.N = fun y : S2x128x128x2048.Idx =>
    stage (tab (m ((c : Thread nD τ).loc main_arg0))) (ent (m ((c : Thread nD τ).loc main_arg1))) 0 128 (y 0).val (y 1).val (y 2).val (y 3).val := by
  refine (dats m 0 c).arrAt_eq_of_covers 4 _ (by decide +kernel) fun t hf y => ?_
  have e := index_eq t
  rw [after0_4, left4]
  have h0 : (y 0).val < 1 := (y 0).isLt
  exact stage_of_groups (tab (m ((c : Thread nD τ).loc main_arg0))) (ent (m ((c : Thread nD τ).loc main_arg1))) (g := t.val % 16 * 8) (s := 0) (o := 128)
    (b := t.val / 16) (b' := win0_4.index t 0 * 1 + 1 * (y 0).val) (k := (128 + (y 1).val)) (k' := win0_4.index t 1 * 128 + 1 * (y 1).val) (i := (y 2).val)
    (j := win0_4.index t 2 * 8 + 1 * (y 2).val) (c := (y 3).val) (c' := win0_4.index t 3 * 2048 + 1 * (y 3).val)
    (by omega) (by omega) (by omega) (by omega)

theorem left5 (t : Fin cfg0.N) : (outsAt0 m c t).2.2.1 = fun y : S1x128x8x128.Idx => along (fun i => tab (m ((c : Thread nD τ).loc main_arg0)) (t.val % 16 * 8 + i))
    (fun i u n => ent (m ((c : Thread nD τ).loc main_arg1)) (t.val / 16) (t.val % 16 * 8 + i) u (4096 + n)) (y 2).val (y 1).val (y 3).val := by
  have h := out5 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ins_at m c t)
  unfold outsAt0
  dsimp only
  refine Eq.trans ?_ h
  rfl

/-- The cosine products of the narrow part, after the run. -/
theorem final5 : (dats m 0 c).arrAt 5 cfg0.N = fun y : S2x128x128x128.Idx =>
    stage (tab (m ((c : Thread nD τ).loc main_arg0))) (ent (m ((c : Thread nD τ).loc main_arg1))) 4096 0 (y 0).val (y 1).val (y 2).val (y 3).val := by
  refine (dats m 0 c).arrAt_eq_of_covers 5 _ (by decide +kernel) fun t hf y => ?_
  have e := index_eq t
  rw [after0_5, left5]
  have h0 : (y 0).val < 1 := (y 0).isLt
  exact stage_of_groups (tab (m ((c : Thread nD τ).loc main_arg0))) (ent (m ((c : Thread nD τ).loc main_arg1))) (g := t.val % 16 * 8) (s := 4096) (o := 0)
    (b := t.val / 16) (b' := win0_5.index t 0 * 1 + 1 * (y 0).val) (k := (y 1).val) (k' := win0_5.index t 1 * 128 + 1 * (y 1).val) (i := (y 2).val)
    (j := win0_5.index t 2 * 8 + 1 * (y 2).val) (c := (y 3).val) (c' := win0_5.index t 3 * 128 + 1 * (y 3).val)
    (by omega) (by omega) (by omega) (by omega)

theorem left6 (t : Fin cfg0.N) : (outsAt0 m c t).2.2.2 = fun y : S1x128x8x128.Idx => along (fun i => tab (m ((c : Thread nD τ).loc main_arg0)) (t.val % 16 * 8 + i))
    (fun i u n => ent (m ((c : Thread nD τ).loc main_arg1)) (t.val / 16) (t.val % 16 * 8 + i) u (4096 + n)) (y 2).val (128 + (y 1).val) (y 3).val := by
  have h := out6 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ins_at m c t)
  unfold outsAt0
  dsimp only
  refine Eq.trans ?_ h
  rfl

/-- The sine products of the narrow part, after the run. -/
theorem final6 : (dats m 0 c).arrAt 6 cfg0.N = fun y : S2x128x128x128.Idx =>
    stage (tab (m ((c : Thread nD τ).loc main_arg0))) (ent (m ((c : Thread nD τ).loc main_arg1))) 4096 128 (y 0).val (y 1).val (y 2).val (y 3).val := by
  refine (dats m 0 c).arrAt_eq_of_covers 6 _ (by decide +kernel) fun t hf y => ?_
  have e := index_eq t
  rw [after0_6, left6]
  have h0 : (y 0).val < 1 := (y 0).isLt
  exact stage_of_groups (tab (m ((c : Thread nD τ).loc main_arg0))) (ent (m ((c : Thread nD τ).loc main_arg1))) (g := t.val % 16 * 8) (s := 4096) (o := 128)
    (b := t.val / 16) (b' := win0_6.index t 0 * 1 + 1 * (y 0).val) (k := (128 + (y 1).val)) (k' := win0_6.index t 1 * 128 + 1 * (y 1).val) (i := (y 2).val)
    (j := win0_6.index t 2 * 8 + 1 * (y 2).val) (c := (y 3).val) (c' := win0_6.index t 3 * 128 + 1 * (y 3).val)
    (by omega) (by omega) (by omega) (by omega)

end Cert.Kernel8Ideal.Hand

namespace Cert.Reference8Ideal.Hand

open Cert.Reference8Ideal Cert.Reference8Ideal.Gen Idealize.ShloMosaic Idealize.ShloMosaic.TcCoe Idealize.SL.Sem
open Cert.Stage

/-- The reference's results, at every index. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (fun y : S2x128x128x2048.Idx =>
        stage (tab (m ((c.tc : Thread nD τ).loc main_arg0))) (ent (m ((c.tc : Thread nD τ).loc main_arg1))) 0 0 (y 0).val (y 1).val (y 2).val (y 3).val)
      ∧ r.2.mem ((c.tc : Thread nD τ).loc main_v9) = (fun y : S2x128x128x2048.Idx =>
        stage (tab (m ((c.tc : Thread nD τ).loc main_arg0))) (ent (m ((c.tc : Thread nD τ).loc main_arg1))) 0 128 (y 0).val (y 1).val (y 2).val (y 3).val)
      ∧ r.2.mem ((c.tc : Thread nD τ).loc main_v12) = (fun y : S2x128x128x128.Idx =>
        stage (tab (m ((c.tc : Thread nD τ).loc main_arg0))) (ent (m ((c.tc : Thread nD τ).loc main_arg1))) 4096 0 (y 0).val (y 1).val (y 2).val (y 3).val)
      ∧ r.2.mem ((c.tc : Thread nD τ).loc main_v15) = (fun y : S2x128x128x128.Idx =>
        stage (tab (m ((c.tc : Thread nD τ).loc main_arg0))) (ent (m ((c.tc : Thread nD τ).loc main_arg1))) 4096 128 (y 0).val (y 1).val (y 2).val (y 3).val)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2.1.trans ?_, (h c).2.2.2.1.trans ?_, (h c).2.2.2.2⟩)
    (Value.run (F := Ideal) m ρ)
  all_goals
    funext y
    obtain ⟨b, k, i, n, rfl⟩ : ∃ b k i n, y = ix4 b k i n := ⟨_, _, _, _, eq_ix4 y⟩
    pointwise
    unfold stage along
    refine Finset.sum_congr rfl fun t _ => ?_
    exact (congrArg₂ (· * ·) (ent_at _ _ _ _ _) (tab_at _ _ _ _)).trans (term_of _ _ (by first | omega | (dsimp only <;> omega)) (by first | omega | (dsimp only <;> omega)))

end Cert.Reference8Ideal.Hand

end
-- ==== Proof.FoldBlock.lean ====
/- What a grid point of the weights' preparation leaves: a group's weights times its channel tables. -/
module

public import proofs.«01_k».proof.Proof.Gen.Kernel9Ideal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Fold

open Idealize.ShloMosaic

/-- Row `d` of the weights at group `g`'s channels, times column `n` of the group's tables. -/
def fold (W : ℕ → ℕ → EReal) (C : ℕ → ℕ → ℕ → EReal) (d g n : ℕ) : EReal := ∑ k : Fin 512, W d (g * 512 + k) * C g k n

/-- The weights, as a function of the indices' numbers. -/
def wts (A : (⟨2, ![1024, 2048]⟩ : Shape).Idx → EReal) (d k : ℕ) : EReal := A (ix2 (Fin.ofNat 1024 d) (Fin.ofNat 2048 k))

/-- The tables, as a function of the indices' numbers. -/
def tabs (A : (⟨3, ![4, 512, 640]⟩ : Shape).Idx → EReal) (g k n : ℕ) : EReal := A (ix3 (Fin.ofNat 4 g) (Fin.ofNat 512 k) (Fin.ofNat 640 n))

theorem wts_at (A : (⟨2, ![1024, 2048]⟩ : Shape).Idx → EReal) (a : Fin 1024) (b : Fin 2048) : A (ix2 a b) = wts A a.val b.val := by
  unfold wts
  rw [Fin.ofNat_val_eq_self, Fin.ofNat_val_eq_self]

theorem tabs_at (A : (⟨3, ![4, 512, 640]⟩ : Shape).Idx → EReal) (a : Fin 4) (b : Fin 512) (d : Fin 640) : A (ix3 a b d) = tabs A a.val b.val d.val := by
  unfold tabs
  rw [Fin.ofNat_val_eq_self, Fin.ofNat_val_eq_self, Fin.ofNat_val_eq_self]

/-- The whole product of a column, summed over the groups. -/
def total (W : ℕ → ℕ → EReal) (C : ℕ → ℕ → ℕ → EReal) (d n : ℕ) : EReal := ∑ g ∈ Finset.range 4, fold W C d g n

end Cert.Fold

namespace Cert.Kernel9Ideal.Hand

open Cert.Kernel9Ideal Cert.Kernel9Ideal.Gen Idealize.ShloMosaic Idealize.ShloMosaic.TcCoe Idealize.SL.Sem
open Cert.Fold

/-- The blocks that grid point `g` reads, as functions of their indices' numbers. -/
structure Ins (W : ℕ → ℕ → EReal) (C : ℕ → ℕ → ℕ → EReal) (g : ℕ) (x0 : Vec Ideal S1024x512 .f32) (x1 : Vec Ideal S1x512x640 .f32) : Prop where
  h0 : ∀ y : S1024x512.Idx, x0 y = W (y 0).val (g * 512 + (y 1).val)
  h1 : ∀ y : S1x512x640.Idx, x1 y = C g (y 1).val (y 2).val

variable {W : ℕ → ℕ → EReal} {C : ℕ → ℕ → ℕ → EReal} {g : ℕ} {x0 : Vec Ideal S1024x512 .f32} {x1 : Vec Ideal S1x512x640 .f32}

/-- The group's product, at a row and a column. -/
theorem prod_at (H : Ins W C g x0 x1) (a : Fin 1024) (b : Fin 640) : k0_pay1 x0 x1 (ix2 a b) = fold W C a.val g b.val := by
  unfold_payloads
  pointwise
  unfold fold
  refine Finset.sum_congr rfl fun t _ => ?_
  exact congrArg₂ (· * ·) (H.h0 _) (H.h1 _)

theorem first_at (H : Ins W C g x0 x1) (y : S1024x256.Idx) : k0_pay2 x0 x1 y = fold W C (y 0).val g (y 1).val := by
  obtain ⟨a, b, rfl⟩ : ∃ (a : Fin 1024) (b : Fin 256), y = ix2 a b := ⟨_, _, eq_ix2 y⟩
  unfold k0_pay2
  pointwise
  exact prod_at H _ _

theorem second_at (H : Ins W C g x0 x1) (y : S1024x256.Idx) : k0_pay3 x0 x1 y = fold W C (y 0).val g (256 + (y 1).val) := by
  obtain ⟨a, b, rfl⟩ : ∃ (a : Fin 1024) (b : Fin 256), y = ix2 a b := ⟨_, _, eq_ix2 y⟩
  unfold k0_pay3
  pointwise
  exact prod_at H _ _

theorem third_at (H : Ins W C g x0 x1) (p : Vec Ideal S1024x128 .f32) (y : S1024x128.Idx) :
    k0_pay5 x0 x1 p y = p y + fold W C (y 0).val g (512 + (y 1).val) := by
  obtain ⟨a, b, rfl⟩ : ∃ (a : Fin 1024) (b : Fin 128), y = ix2 a b := ⟨_, _, eq_ix2 y⟩
  unfold k0_pay5
  pointwise
  exact congrArg _ (prod_at H _ _)

/-- The rectangle of a whole block of two axes keeps every index. -/
theorem emb2 {n0 n1 : ℕ} (inb : ∀ a, (![0, 0] : Fin 2 → ℕ) a + (![n0, n1] : Fin 2 → ℕ) a ≤ (⟨2, ![n0, n1]⟩ : Shape).size a)
    (y : (⟨2, ![n0, n1]⟩ : Shape).Idx) : (Rect.unit (s := ⟨2, ![n0, n1]⟩) ![0, 0] ![n0, n1] inb).emb y = y := by
  funext a
  apply Fin.ext
  match a with
  | ⟨0, _⟩ => show 0 + 1 * (y 0).val = (y 0).val; omega
  | ⟨1, _⟩ => show 0 + 1 * (y 1).val = (y 1).val; omega

/-- Reading a whole block of two axes. -/
theorem ld2 {n0 n1 : ℕ} {e : EltTy} (inb : ∀ a, (![0, 0] : Fin 2 → ℕ) a + (![n0, n1] : Fin 2 → ℕ) a ≤ (⟨2, ![n0, n1]⟩ : Shape).size a)
    (x : Vec Ideal ⟨2, ![n0, n1]⟩ e) : View.ld x (Rect.unit (s := ⟨2, ![n0, n1]⟩) ![0, 0] ![n0, n1] inb) = x := by
  funext y
  exact congrArg x (emb2 inb y)

/-- Reading the block of the tables. -/
theorem ld3 (inb : ∀ a, (![0, 0, 0] : Fin 3 → ℕ) a + (![1, 512, 640] : Fin 3 → ℕ) a ≤ S1x512x640.size a)
    (x : Vec Ideal S1x512x640 .f32) : View.ld x (Rect.unit (s := S1x512x640) ![0, 0, 0] ![1, 512, 640] inb) = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- One store that fills a block of two axes leaves what it stored, whatever was stored before. -/
theorem fill_at {n0 n1 : ℕ} {e : EltTy} (inb : ∀ a, (![0, 0] : Fin 2 → ℕ) a + (![n0, n1] : Fin 2 → ℕ) a ≤ (⟨2, ![n0, n1]⟩ : Shape).size a)
    (v : Vec Ideal ⟨2, ![n0, n1]⟩ e) (L : List (View.Piece (Elt Ideal) ⟨2, ![n0, n1]⟩ e)) :
    View.canon ((⟨Rect.unit (s := ⟨2, ![n0, n1]⟩) ![0, 0] ![n0, n1] inb, v⟩ : View.Piece (Elt Ideal) ⟨2, ![n0, n1]⟩ e) :: L) = v := by
  funext y
  have h := View.canon_cons_emb (Val := Elt Ideal) (Rect.unit (s := ⟨2, ![n0, n1]⟩) ![0, 0] ![n0, n1] inb) v L y
  rw [emb2] at h
  exact h

variable (c : Dev nD) (i : grid0.Coords) (arg1 : Memref sig .tc .vmem S1024x512 .f32) (harg1 : arg1.IsWhole) (arg2 : Memref sig .tc .vmem S1x512x640 .f32)
  (harg2 : arg2.IsWhole) (arg3 : Memref sig .tc .vmem S1024x256 .bf16) (harg3 : arg3.IsWhole) (arg4 : Memref sig .tc .vmem S1024x256 .bf16)
  (harg4 : arg4.IsWhole) (arg5 : Memref sig .tc .vmem S1024x128 .f32) (harg5 : arg5.IsWhole)

theorem outA2 (hc0 : cond0_0 i) (H : Ins W C g x0 x1) :
    out0_A_2 c i arg1 harg1 arg2 harg2 arg3 harg3 arg4 harg4 arg5 harg5 hc0 x0 x1 = fun y : S1024x256.Idx => fold W C (y 0).val g (y 1).val := by
  unfold out0_A_2
  rw [View.read_writes_junk_eq_canon]
  unfold kernelRun0_A
  dsimp only
  sl_unfold_words
  refine (fill_at _ _ _).trans ?_
  simp only [View.readAt_eq_ld, harg1.read_unread, harg2.read_unread]
  rw [ld2, ld3]
  funext y
  exact first_at H y

theorem outA3 (hc0 : cond0_0 i) (H : Ins W C g x0 x1) :
    out0_A_3 c i arg1 harg1 arg2 harg2 arg3 harg3 arg4 harg4 arg5 harg5 hc0 x0 x1 = fun y : S1024x256.Idx => fold W C (y 0).val g (256 + (y 1).val) := by
  unfold out0_A_3
  rw [View.read_writes_junk_eq_canon]
  unfold kernelRun0_A
  dsimp only
  sl_unfold_words
  refine (fill_at _ _ _).trans ?_
  simp only [View.readAt_eq_ld, harg1.read_unread, harg2.read_unread]
  rw [ld2, ld3]
  funext y
  exact second_at H y

theorem outA4 (hc0 : cond0_0 i) (H : Ins W C g x0 x1) :
    out0_A_4 c i arg1 harg1 arg2 harg2 arg3 harg3 arg4 harg4 arg5 harg5 hc0 x0 x1 = fun y : S1024x128.Idx => 0 + fold W C (y 0).val g (512 + (y 1).val) := by
  unfold out0_A_4
  rw [View.read_writes_junk_eq_canon]
  unfold kernelRun0_A
  dsimp only
  sl_unfold_words
  refine (fill_at _ _ _).trans ?_
  simp only [View.readAt_eq_ld, harg1.read_unread, harg2.read_unread]
  simp (disch := first | decide | (intro a; fin_cases a <;> rfl)) only [↓View.readCov_cons_toLoadRect]
  rw [ld2, ld3]
  funext y
  exact (third_at H (k0_pay4 (F := Ideal)) y).trans (congrArg (· + _) (Ideal.ofBits_zero .f32))

theorem outB2 (hc0 : ¬cond0_0 i) (H : Ins W C g x0 x1) (p : Vec Ideal S1024x128 .f32) :
    out0_B_2 c i arg1 harg1 arg2 harg2 arg3 harg3 arg4 harg4 arg5 harg5 hc0 x0 x1 p = fun y : S1024x256.Idx => fold W C (y 0).val g (y 1).val := by
  unfold out0_B_2
  rw [View.read_writes_junk_eq_canon]
  unfold kernelRun0_B
  dsimp only
  sl_unfold_words
  refine (fill_at _ _ _).trans ?_
  simp only [View.readAt_eq_ld, harg1.read_unread, harg2.read_unread]
  rw [ld2, ld3]
  funext y
  exact first_at H y

theorem outB3 (hc0 : ¬cond0_0 i) (H : Ins W C g x0 x1) (p : Vec Ideal S1024x128 .f32) :
    out0_B_3 c i arg1 harg1 arg2 harg2 arg3 harg3 arg4 harg4 arg5 harg5 hc0 x0 x1 p = fun y : S1024x256.Idx => fold W C (y 0).val g (256 + (y 1).val) := by
  unfold out0_B_3
  rw [View.read_writes_junk_eq_canon]
  unfold kernelRun0_B
  dsimp only
  sl_unfold_words
  refine (fill_at _ _ _).trans ?_
  simp only [View.readAt_eq_ld, harg1.read_unread, harg2.read_unread]
  rw [ld2, ld3]
  funext y
  exact second_at H y

theorem outB4 (hc0 : ¬cond0_0 i) (H : Ins W C g x0 x1) (p : Vec Ideal S1024x128 .f32) :
    out0_B_4 c i arg1 harg1 arg2 harg2 arg3 harg3 arg4 harg4 arg5 harg5 hc0 x0 x1 p = fun y : S1024x128.Idx => p y + fold W C (y 0).val g (512 + (y 1).val) := by
  unfold out0_B_4
  rw [View.read_writes_junk_eq_canon]
  unfold kernelRun0_B
  dsimp only
  sl_unfold_words
  refine (fill_at _ _ _).trans ?_
  simp only [View.readAt_eq_ld, harg1.read_unread, harg2.read_unread, harg5.read_unread]
  rw [ld2, ld3, ld2]
  funext y
  exact third_at H p y

end Cert.Kernel9Ideal.Hand

end
-- ==== Proof.FoldGrid.lean ====
/- The weights' preparation over the whole grid, and the reference's. -/
module

public import proofs.«01_k».proof.Proof.FoldBlock
public import proofs.«01_k».proof.Proof.Gen.Reference9Ideal.Run

@[expose] public section

set_option maxRecDepth 16384

noncomputable section

namespace Cert.Fold

theorem fold_congr (W : ℕ → ℕ → EReal) (C : ℕ → ℕ → ℕ → EReal) {d d' g g' n n' : ℕ} (hd : d = d') (hg : g = g') (hn : n = n') :
    fold W C d g n = fold W C d' g' n' := by
  subst hd hg hn
  rfl

end Cert.Fold

namespace Cert.Kernel9Ideal.Hand

open Cert.Kernel9Ideal Cert.Kernel9Ideal.Gen Idealize.ShloMosaic Idealize.ShloMosaic.TcCoe Idealize.SL.Sem
open Idealize.ShloMosaic.Pipeline (Dat)
open Cert.Fold

/-- The windows' block indices. -/
theorem index_eq : ∀ t : Fin cfg0.N, win0_0.index t 0 = 0 ∧ win0_0.index t 1 = t.val ∧ win0_1.index t 0 = t.val ∧ win0_1.index t 1 = 0 ∧ win0_1.index t 2 = 0 ∧ win0_2.index t 0 = 0 ∧ win0_2.index t 1 = t.val ∧ win0_3.index t 0 = 0 ∧ win0_3.index t 1 = t.val ∧ win0_4.index t 0 = 0 ∧ win0_4.index t 1 = 0 :=
  (by decide +kernel : ∀ t : Fin grid0.N, win0_0.index t 0 = 0 ∧ win0_0.index t 1 = t.val ∧ win0_1.index t 0 = t.val ∧ win0_1.index t 1 = 0 ∧ win0_1.index t 2 = 0 ∧ win0_2.index t 0 = 0 ∧ win0_2.index t 1 = t.val ∧ win0_3.index t 0 = 0 ∧ win0_3.index t 1 = t.val ∧ win0_4.index t 0 = 0 ∧ win0_4.index t 1 = 0)

/-- The third array is written back after the last group. -/
theorem last_eq : ∀ t : Fin cfg0.N, (cfg0.win 4).flush t = true → t.val = 3 :=
  (by decide +kernel : ∀ t : Fin grid0.N, (cfg0.win 4).flush t = true → t.val = 3)

variable (m : (ℓ : Loc nD τ sig) → Buf (Elt Ideal) ℓ) (c : Dev nD)

/-- Every grid point's blocks hold what the arguments hold there. -/
theorem ins_at (t : Fin cfg0.N) : Ins (wts (m ((c : Thread nD τ).loc main_arg0))) (tabs (m ((c : Thread nD τ).loc main_arg1))) t.val (iblk m c 0 t) (iblk m c 1 t) := by
  have e := index_eq t
  constructor
  · intro y
    unfold iblk
    rw [View.read_apply]
    show V m c main_arg0 _ = _
    rw [V_main_arg0]
    refine (congrArg _ (eq_ix2 _)).trans ((wts_at _ _ _).trans ?_)
    show wts _ (win0_0.index t 0 * 1024 + 1 * (y 0).val) (win0_0.index t 1 * 512 + 1 * (y 1).val) = _
    exact congrArg₂ (wts _) (by omega) (by omega)
  · intro y
    unfold iblk
    rw [View.read_apply]
    show V m c main_arg1 _ = _
    rw [V_main_arg1]
    refine (congrArg _ (eq_ix3 _)).trans ((tabs_at _ _ _ _).trans ?_)
    have h0 : (y 0).val < 1 := (y 0).isLt
    show tabs _ (win0_1.index t 0 * 1 + 1 * (y 0).val) (win0_1.index t 1 * 512 + 1 * (y 1).val) (win0_1.index t 2 * 640 + 1 * (y 2).val) = _
    exact congr (congrArg₂ (tabs _) (by omega) (by omega)) (by omega)

/-- What every grid point leaves: its group's two products, and the sum over the groups so far. -/
theorem outs_at : ∀ (n : ℕ) (hn : n < cfg0.N), outsAt0 m c n hn =
    ((fun y : S1024x256.Idx => fold (wts (m ((c : Thread nD τ).loc main_arg0))) (tabs (m ((c : Thread nD τ).loc main_arg1))) (y 0).val n (y 1).val), (fun y : S1024x256.Idx => fold (wts (m ((c : Thread nD τ).loc main_arg0))) (tabs (m ((c : Thread nD τ).loc main_arg1))) (y 0).val n (256 + (y 1).val)),
      (fun y : S1024x128.Idx => ∑ g ∈ Finset.range (n + 1), fold (wts (m ((c : Thread nD τ).loc main_arg0))) (tabs (m ((c : Thread nD τ).loc main_arg1))) (y 0).val g (512 + (y 1).val))) := by
  intro n
  induction n with
  | zero =>
    intro hn
    rw [outsAt0_A m c ⟨0, hn⟩ rfl]
    rw [outA2 _ _ _ _ _ _ _ _ _ _ _ _ _ (ins_at m c ⟨0, hn⟩), outA3 _ _ _ _ _ _ _ _ _ _ _ _ _ (ins_at m c ⟨0, hn⟩),
      outA4 _ _ _ _ _ _ _ _ _ _ _ _ _ (ins_at m c ⟨0, hn⟩)]
    simp only [Finset.sum_range_succ, Finset.sum_range_zero]
  | succ n ih =>
    intro hn
    have h4 : n + 1 < 4 := hn
    rw [outsAt0_B m c ⟨n + 1, hn⟩ (by dsimp only; omega)]
    rw [outB2 _ _ _ _ _ _ _ _ _ _ _ _ _ (ins_at m c ⟨n + 1, hn⟩), outB3 _ _ _ _ _ _ _ _ _ _ _ _ _ (ins_at m c ⟨n + 1, hn⟩),
      outB4 _ _ _ _ _ _ _ _ _ _ _ _ _ (ins_at m c ⟨n + 1, hn⟩)]
    simp only [Nat.add_sub_cancel]
    rw [ih (by omega)]
    simp only [Finset.sum_range_succ _ (n + 1)]

/-- The first half's array after the run. -/
theorem final2 : (dats m 0 c).arrAt 2 cfg0.N = fun y : S1024x1024.Idx =>
    fold (wts (m ((c : Thread nD τ).loc main_arg0))) (tabs (m ((c : Thread nD τ).loc main_arg1))) (y 0).val ((y 1).val / 256) (0 + (y 1).val % 256) := by
  refine (dats m 0 c).arrAt_eq_of_covers 2 _ (by decide +kernel) fun t hf y => ?_
  have e := index_eq t
  rw [after0_2, outs_at]
  have h1 : (y 1).val < 256 := (y 1).isLt
  exact fold_congr (wts (m ((c : Thread nD τ).loc main_arg0))) (tabs (m ((c : Thread nD τ).loc main_arg1))) (d := (y 0).val) (d' := win0_2.index t 0 * 1024 + 1 * (y 0).val) (g := t.val)
    (g' := (win0_2.index t 1 * 256 + 1 * (y 1).val) / 256) (n := (y 1).val) (n' := 0 + (win0_2.index t 1 * 256 + 1 * (y 1).val) % 256)
    (by omega) (by omega) (by omega)

/-- The second half's array after the run. -/
theorem final3 : (dats m 0 c).arrAt 3 cfg0.N = fun y : S1024x1024.Idx =>
    fold (wts (m ((c : Thread nD τ).loc main_arg0))) (tabs (m ((c : Thread nD τ).loc main_arg1))) (y 0).val ((y 1).val / 256) (256 + (y 1).val % 256) := by
  refine (dats m 0 c).arrAt_eq_of_covers 3 _ (by decide +kernel) fun t hf y => ?_
  have e := index_eq t
  rw [after0_3, outs_at]
  have h1 : (y 1).val < 256 := (y 1).isLt
  exact fold_congr (wts (m ((c : Thread nD τ).loc main_arg0))) (tabs (m ((c : Thread nD τ).loc main_arg1))) (d := (y 0).val) (d' := win0_3.index t 0 * 1024 + 1 * (y 0).val) (g := t.val)
    (g' := (win0_3.index t 1 * 256 + 1 * (y 1).val) / 256) (n := (256 + (y 1).val)) (n' := 256 + (win0_3.index t 1 * 256 + 1 * (y 1).val) % 256)
    (by omega) (by omega) (by omega)

/-- The third array after the run: the sum over the groups. -/
theorem final4 : (dats m 0 c).arrAt 4 cfg0.N = fun y : S1024x128.Idx => total (wts (m ((c : Thread nD τ).loc main_arg0))) (tabs (m ((c : Thread nD τ).loc main_arg1))) (y 0).val (512 + (y 1).val) := by
  refine (dats m 0 c).arrAt_eq_of_covers 4 _ (by decide +kernel) fun t hf y => ?_
  have e := index_eq t
  have h3 := last_eq t hf
  rw [after0_4, outs_at]
  show ∑ g ∈ Finset.range (t.val + 1), fold (wts (m ((c : Thread nD τ).loc main_arg0))) (tabs (m ((c : Thread nD τ).loc main_arg1))) (y 0).val g (512 + (y 1).val)
    = ∑ g ∈ Finset.range 4, fold (wts (m ((c : Thread nD τ).loc main_arg0))) (tabs (m ((c : Thread nD τ).loc main_arg1))) (win0_4.index t 0 * 1024 + 1 * (y 0).val) g (512 + (win0_4.index t 1 * 128 + 1 * (y 1).val))
  rw [h3]
  exact Finset.sum_congr rfl fun g _ => fold_congr _ _ (by omega) rfl (by omega)

end Cert.Kernel9Ideal.Hand

namespace Cert.Reference9Ideal.Hand

open Cert.Reference9Ideal Cert.Reference9Ideal.Gen Idealize.ShloMosaic Idealize.ShloMosaic.TcCoe Idealize.SL.Sem
open Cert.Fold

/-- The reference's results, at every index. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = (fun y : S1024x1024.Idx => fold (wts (m ((c.tc : Thread nD τ).loc main_arg0))) (tabs (m ((c.tc : Thread nD τ).loc main_arg1))) (y 0).val ((y 1).val / 256) (0 + (y 1).val % 256))
      ∧ r.2.mem ((c.tc : Thread nD τ).loc main_v12) = (fun y : S1024x1024.Idx => fold (wts (m ((c.tc : Thread nD τ).loc main_arg0))) (tabs (m ((c.tc : Thread nD τ).loc main_arg1))) (y 0).val ((y 1).val / 256) (256 + (y 1).val % 256))
      ∧ r.2.mem ((c.tc : Thread nD τ).loc main_v10) = (fun y : S1024x128.Idx => total (wts (m ((c.tc : Thread nD τ).loc main_arg0))) (tabs (m ((c.tc : Thread nD τ).loc main_arg1))) (y 0).val (512 + (y 1).val))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2.1.trans ?_, (h c).2.2.2⟩)
    (Value.run (F := Ideal) m ρ)
  · clear h
    funext y
    obtain ⟨a, b, rfl⟩ : ∃ (a : Fin 1024) (b : Fin 1024), y = ix2 a b := ⟨_, _, eq_ix2 y⟩
    pointwise
    unfold fold
    refine Finset.sum_congr rfl fun k _ => ?_
    rw [mul_comm]
    exact congrArg₂ (· * ·) (wts_at _ _ _) (tabs_at _ _ _ _)
  · clear h
    funext y
    obtain ⟨a, b, rfl⟩ : ∃ (a : Fin 1024) (b : Fin 1024), y = ix2 a b := ⟨_, _, eq_ix2 y⟩
    pointwise
    unfold fold
    refine Finset.sum_congr rfl fun k _ => ?_
    rw [mul_comm]
    exact congrArg₂ (· * ·) (wts_at _ _ _) (tabs_at _ _ _ _)
  · clear h
    funext y
    obtain ⟨a, b, rfl⟩ : ∃ (a : Fin 1024) (b : Fin 128), y = ix2 a b := ⟨_, _, eq_ix2 y⟩
    pointwise
    unfold total fold
    rw [Finset.sum_range, Finset.sum_comm]
    refine Finset.sum_congr rfl fun g _ => Finset.sum_congr rfl fun k _ => ?_
    exact congrArg₂ (· * ·) (wts_at _ _ _) (tabs_at _ _ _ _)

end Cert.Reference9Ideal.Hand

end
-- ==== Proof.Unit.lean ====
module

public import proofs.«01_k».proof.Proof.Gen.KernelIdeal.Value
public import Idealize.ShloMosaic.Lib.Pointwise
public import proofs.«01_k».proof.Proof.Chunk
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem

/-- One (row, head) unit's output block. -/
def uOut (q k : Vec Ideal S1x256x256 .bf16) (v : Vec Ideal S1x256x512 .bf16) (dec : Vec Ideal S1x1x256x128 .f32)
    (s : Vec Ideal S1x1x256x512 .f32) (intra : Vec Ideal S1x256x256 .f32) : Vec Ideal S1x256x512 .bf16 :=
  k0_pay82 (k0_pay39 q) (k0_pay47 v) (k0_pay51 (k0_pay39 q) (k0_pay43 k)) (k0_pay79 dec) s intra

/-- One unit's new state. -/
def uState (k : Vec Ideal S1x256x256 .bf16) (v : Vec Ideal S1x256x512 .bf16) (dec : Vec Ideal S1x1x256x128 .f32)
    (lg : Elt Ideal .f32) (s : Vec Ideal S1x1x256x512 .f32) : Vec Ideal S1x1x256x512 .f32 :=
  k0_pay84 (k0_pay44 k) (k0_pay48 v) dec lg s

theorem c256 : Ideal.ofBits .f32 0x43800000#32 = ((256 : ℝ) : EReal) := by
  simp [Ideal.ofBits, Ideal.ieee, -EReal.coe_mul]
  norm_num

/-- The output block of a unit whose operands are real numbers. -/
theorem uOut_real (q k : Vec Ideal S1x256x256 .bf16) (v : Vec Ideal S1x256x512 .bf16) (dec : Vec Ideal S1x1x256x128 .f32)
    (s : Vec Ideal S1x1x256x512 .f32) (intra : Vec Ideal S1x256x256 .f32)
    (Q K M : Fin 256 → Fin 256 → ℝ) (V S : Fin 256 → Fin 512 → ℝ) (D : Fin 256 → ℝ)
    (hq : ∀ r d, q (ix3 0 r d) = (Q r d : EReal)) (hk : ∀ r d, k (ix3 0 r d) = (K r d : EReal))
    (hv : ∀ r e, v (ix3 0 r e) = (V r e : EReal)) (hd : ∀ r e, dec (ix4 0 0 r e) = (D r : EReal))
    (hs : ∀ d e, s (ix4 0 0 d e) = (S d e : EReal)) (hi : ∀ r j, intra (ix3 0 r j) = (M r j : EReal))
    (a : Fin 1) (r : Fin 256) (e : Fin 512) :
    uOut q k v dec s intra (ix3 a r e)
      = (((∑ j, (∑ d, Q r d * K j d) * M r j * V j e) + ∑ d, Q r d * D r * S d e : ℝ) : EReal) := by
  unfold uOut
  unfold_payloads
  pointwise
  rw [Fin.sum_univ_two_halves 256 256 rfl]
  simp only [Fin.is_lt, dite_true, not_lt, Nat.le_add_right, Nat.not_lt.2 (Nat.le_add_right _ _), dite_false, Nat.add_sub_cancel_left, Fin.eta, hq, hk, hv, hd, hs, hi,
    dite_eq_ite, ite_self]
  simp only [EReal.coe_add, EReal.coe_mul, Chunk.coe_sum]

/-- The new state of a unit whose operands are real numbers. -/
theorem uState_real (k : Vec Ideal S1x256x256 .bf16) (v : Vec Ideal S1x256x512 .bf16) (dec : Vec Ideal S1x1x256x128 .f32)
    (lg : Elt Ideal .f32) (s : Vec Ideal S1x1x256x512 .f32) (K : Fin 256 → Fin 256 → ℝ) (V S : Fin 256 → Fin 512 → ℝ)
    (D : Fin 256 → ℝ) (g : ℝ) (hk : ∀ r d, k (ix3 0 r d) = (K r d : EReal))
    (hv : ∀ r e, v (ix3 0 r e) = (V r e : EReal)) (hd : ∀ r e, dec (ix4 0 0 r e) = (D r : EReal))
    (hs : ∀ d e, s (ix4 0 0 d e) = (S d e : EReal)) (hg : lg = (g : EReal))
    (a b : Fin 1) (d : Fin 256) (e : Fin 512) :
    uState k v dec lg s (ix4 a b d e)
      = ((S d e * Real.exp (256 * g) + ∑ r, K r d * D r * V r e : ℝ) : EReal) := by
  unfold uState
  unfold_payloads
  pointwise
  simp only [hk, hv, hd, hs, hg, dite_eq_ite, ite_self, c256, ← EReal.coe_mul, Ideal.exp_coe]
  simp only [EReal.coe_add, EReal.coe_mul, Chunk.coe_sum]

end Cert.KernelIdeal.Hand

end
-- ==== Proof.Block.lean ====
module

public import proofs.«01_k».proof.Proof.Unit

@[expose] public section

set_option maxRecDepth 16384

noncomputable section

namespace Cert.KernelIdeal.Hand

open Cert.KernelIdeal Cert.KernelIdeal.Gen Idealize.ShloMosaic Idealize.ShloMosaic.TcCoe Idealize.SL.Sem

/-- The real numbers that a grid point's blocks hold: for each of its two rows and four heads the queries, keys,
    values and carried state, for each head the decay's exponent. -/
structure Reals where
  Q : ℕ → ℕ → ℕ → ℕ → ℝ
  K : ℕ → ℕ → ℕ → ℕ → ℝ
  V : ℕ → ℕ → ℕ → ℕ → ℝ
  S : ℕ → ℕ → ℕ → ℕ → ℝ
  g : ℕ → ℝ

variable (X : Reals)

/-- The decay between places `r` and `j` of a block read from its end. -/
def Reals.M (h r j : ℕ) : ℝ := if r < j then Real.exp (((j : ℝ) - r) * X.g h) else 0

/-- The decays of a place to the two ends of its block. -/
def Reals.D (h c r : ℕ) : ℝ := Real.exp ((if c = 0 then 256 - (r : ℝ) else r) * X.g h)

/-- A unit's output at a place and a column. -/
def Reals.out (b h r e : ℕ) : ℝ :=
  (∑ j : Fin 256, (∑ d : Fin 256, X.Q b h r d * X.K b h j d) * X.M h r j * X.V b h j e)
    + ∑ d : Fin 256, X.Q b h r d * X.D h 0 r * X.S b h d e

/-- A unit's new state. -/
def Reals.next (b h d e : ℕ) : ℝ :=
  X.S b h d e * Real.exp (256 * X.g h) + ∑ r : Fin 256, X.K b h r d * X.D h 1 r * X.V b h r e

/-- The output block. -/
def Reals.outV : Vec Ideal S2x256x2048 .bf16 := fun y =>
  (X.out (y 0).val ((y 2).val / 512) (y 1).val ((y 2).val % 512) : EReal)

/-- The state after the point. -/
def Reals.nextV : Vec Ideal S2x4x256x512 .f32 := fun y => (X.next (y 0).val (y 1).val (y 2).val (y 3).val : EReal)

/-- The state before the point. -/
def Reals.stV : Vec Ideal S2x4x256x512 .f32 := fun y => (X.S (y 0).val (y 1).val (y 2).val (y 3).val : EReal)

/-- The decays inside a block. -/
def Reals.intraV : Vec Ideal S4x256x256 .f32 := fun y => (X.M (y 0).val (y 1).val (y 2).val : EReal)

/-- The decays of every place to the two ends of its block, replicated. -/
def Reals.decV : Vec Ideal S4x2x256x128 .f32 := fun y => (X.D (y 0).val (y 1).val (y 2).val : EReal)

/-- The four input blocks hold the real numbers. -/
structure Reals.Ins (x0 : Vec Ideal S2x4 .f32) (x1 x2 : Vec Ideal S2x256x1024 .bf16) (x3 : Vec Ideal S2x256x2048 .bf16) : Prop where
  h0 : ∀ h : Fin 4, x0 (ix2 1 h) = (X.g h : EReal)
  h1 : ∀ y, x1 y = (X.Q (y 0).val ((y 2).val / 256) (y 1).val ((y 2).val % 256) : EReal)
  h2 : ∀ y, x2 y = (X.K (y 0).val ((y 2).val / 256) (y 1).val ((y 2).val % 256) : EReal)
  h3 : ∀ y, x3 y = (X.V (y 0).val ((y 2).val / 512) (y 1).val ((y 2).val % 512) : EReal)

variable {X} {x0 : Vec Ideal S2x4 .f32} {x1 x2 : Vec Ideal S2x256x1024 .bf16} {x3 : Vec Ideal S2x256x2048 .bf16}

/-- A head's columns of a row of a query or key block. -/
theorem ldQ (x : Vec Ideal S2x256x1024 .bf16) (Q : ℕ → ℕ → ℕ → ℕ → ℝ)
    (hx : ∀ y, x y = (Q (y 0).val ((y 2).val / 256) (y 1).val ((y 2).val % 256) : EReal)) (b h : ℕ) (hh : h < 4)
    (i : ∀ a, ![b, 0, h * 256] a + ![1, 256, 256] a ≤ S2x256x1024.size a) (r d : Fin 256) :
    View.ld x (Rect.unit ![b, 0, h * 256] ![1, 256, 256] i) (ix3 0 r d) = (Q b h r d : EReal) := by
  refine (hx _).trans ?_
  show ((Q (b + 1 * 0) ((h * 256 + 1 * d.val) / 256) (0 + 1 * r.val) ((h * 256 + 1 * d.val) % 256) : ℝ) : EReal) = _
  have := d.isLt
  rw [show (h * 256 + 1 * d.val) / 256 = h by omega, show 0 + 1 * r.val = r.val by omega,
    show (h * 256 + 1 * d.val) % 256 = d.val by omega]
  rfl

/-- A head's columns of a row of a value block. -/
theorem ldV (x : Vec Ideal S2x256x2048 .bf16) (Q : ℕ → ℕ → ℕ → ℕ → ℝ)
    (hx : ∀ y, x y = (Q (y 0).val ((y 2).val / 512) (y 1).val ((y 2).val % 512) : EReal)) (b h : ℕ) (hh : h < 4)
    (i : ∀ a, ![b, 0, h * 512] a + ![1, 256, 512] a ≤ S2x256x2048.size a) (r : Fin 256) (d : Fin 512) :
    View.ld x (Rect.unit ![b, 0, h * 512] ![1, 256, 512] i) (ix3 0 r d) = (Q b h r d : EReal) := by
  refine (hx _).trans ?_
  show ((Q (b + 1 * 0) ((h * 512 + 1 * d.val) / 512) (0 + 1 * r.val) ((h * 512 + 1 * d.val) % 512) : ℝ) : EReal) = _
  have := d.isLt
  rw [show (h * 512 + 1 * d.val) / 512 = h by omega, show 0 + 1 * r.val = r.val by omega,
    show (h * 512 + 1 * d.val) % 512 = d.val by omega]
  rfl

/-- A unit of the state. -/
theorem ldS (b h : ℕ) (i : ∀ a, ![b, h, 0, 0] a + ![1, 1, 256, 512] a ≤ S2x4x256x512.size a) (d : Fin 256) (e : Fin 512) :
    View.ld X.stV (Rect.unit ![b, h, 0, 0] ![1, 1, 256, 512] i) (ix4 0 0 d e) = (X.S b h d e : EReal) := by
  show ((X.S (b + 1 * 0) (h + 1 * 0) (0 + 1 * d.val) (0 + 1 * e.val) : ℝ) : EReal) = _
  rw [show 0 + 1 * d.val = d.val by omega, show 0 + 1 * e.val = e.val by omega]
  rfl

/-- A head of the decays inside a block. -/
theorem ldM (h : ℕ) (i : ∀ a, ![h, 0, 0] a + ![1, 256, 256] a ≤ S4x256x256.size a) (r j : Fin 256) :
    View.ld X.intraV (Rect.unit ![h, 0, 0] ![1, 256, 256] i) (ix3 0 r j) = (X.M h r j : EReal) := by
  show ((X.M (h + 1 * 0) (0 + 1 * r.val) (0 + 1 * j.val) : ℝ) : EReal) = _
  rw [show 0 + 1 * r.val = r.val by omega, show 0 + 1 * j.val = j.val by omega]
  rfl

/-- A head's decays to one of a block's ends. -/
theorem ldDec (h c : ℕ) (i : ∀ a, ![h, c, 0, 0] a + ![1, 1, 256, 128] a ≤ S4x2x256x128.size a) (r : Fin 256) (e : Fin 128) :
    View.ld X.decV (Rect.unit ![h, c, 0, 0] ![1, 1, 256, 128] i) (ix4 0 0 r e) = (X.D h c r : EReal) := by
  show ((X.D (h + 1 * 0) (c + 1 * 0) (0 + 1 * r.val) : ℝ) : EReal) = _
  rw [show 0 + 1 * r.val = r.val by omega]
  rfl

/-- A head's exponent. -/
theorem ldG (H : X.Ins x0 x1 x2 x3) (h : ℕ) (hh : h < 4) (i : ∀ a, ![1, h] a + ![1, 1] a ≤ S2x4.size a) (p : Shape.Idx S1x1) :
    View.ld x0 (Rect.unit ![1, h] ![1, 1] i) p = (X.g h : EReal) := by
  obtain ⟨a, b, rfl⟩ : ∃ (a b : Fin 1), p = ix2 a b := ⟨p 0, p 1, eq_ix2 p⟩
  refine Eq.trans (congrArg x0 ?_) (H.h0 ⟨h, hh⟩)
  funext k
  apply Fin.ext
  fin_cases k
  · show 1 + 1 * a.val = 1
    omega
  · show h + 1 * b.val = h
    omega

/-- A unit's stored output is its part of the output block. -/
theorem piece_out (H : X.Ins x0 x1 x2 x3) (b h : ℕ) (hb : b < 2) (hh : h < 4)
    (i1 : ∀ a, ![b, 0, h * 256] a + ![1, 256, 256] a ≤ S2x256x1024.size a)
    (i2 : ∀ a, ![b, 0, h * 256] a + ![1, 256, 256] a ≤ S2x256x1024.size a)
    (i3 : ∀ a, ![b, 0, h * 512] a + ![1, 256, 512] a ≤ S2x256x2048.size a)
    (i4 : ∀ a, ![h, 0, 0, 0] a + ![1, 1, 256, 128] a ≤ S4x2x256x128.size a)
    (i5 : ∀ a, ![b, h, 0, 0] a + ![1, 1, 256, 512] a ≤ S2x4x256x512.size a)
    (i6 : ∀ a, ![h, 0, 0] a + ![1, 256, 256] a ≤ S4x256x256.size a)
    {wD : Vec Ideal S1x1x256x128 .f32} {wS : Vec Ideal S1x1x256x512 .f32} {wM : Vec Ideal S1x256x256 .f32}
    (hD : wD = View.ld X.decV (Rect.unit ![h, 0, 0, 0] ![1, 1, 256, 128] i4))
    (hS : wS = View.ld X.stV (Rect.unit ![b, h, 0, 0] ![1, 1, 256, 512] i5))
    (hM : wM = View.ld X.intraV (Rect.unit ![h, 0, 0] ![1, 256, 256] i6))
    (x : S1x256x512.Idx) :
    uOut (View.ld x1 (Rect.unit ![b, 0, h * 256] ![1, 256, 256] i1)) (View.ld x2 (Rect.unit ![b, 0, h * 256] ![1, 256, 256] i2))
        (View.ld x3 (Rect.unit ![b, 0, h * 512] ![1, 256, 512] i3)) wD wS wM x
      = X.outV ((Rect.unit (s := S2x256x2048) ![b, 0, h * 512] ![1, 256, 512] i3).emb x) := by
  subst hD hS hM
  obtain ⟨a, r, e, rfl⟩ : ∃ (a : Fin 1) (r : Fin 256) (e : Fin 512), x = ix3 a r e := ⟨x 0, x 1, x 2, eq_ix3 x⟩
  have ha : a.val = 0 := by omega
  have hr := r.isLt
  have he := e.isLt
  rw [uOut_real _ _ _ _ _ _ (fun r d => X.Q b h r d) (fun r d => X.K b h r d) (fun r j => X.M h r j) (fun r e => X.V b h r e)
    (fun d e => X.S b h d e) (fun r => X.D h 0 r)]
  · show _ = ((X.out (b + 1 * a.val) ((h * 512 + 1 * e.val) / 512) (0 + 1 * r.val) ((h * 512 + 1 * e.val) % 512) : ℝ) : EReal)
    rw [show b + 1 * a.val = b by omega, show (h * 512 + 1 * e.val) / 512 = h by omega, show 0 + 1 * r.val = r.val by omega,
      show (h * 512 + 1 * e.val) % 512 = e.val by omega]
    rfl
  · exact fun r d => ldQ x1 X.Q H.h1 b h hh i1 r d
  · exact fun r d => ldQ x2 X.K H.h2 b h hh i2 r d
  · exact fun r e => ldV x3 X.V H.h3 b h hh i3 r e
  · exact fun r e => ldDec h 0 i4 r e
  · exact fun d e => ldS b h i5 d e
  · exact fun r j => ldM h i6 r j

/-- A unit's stored state is its part of the state after the point. -/
theorem piece_state (H : X.Ins x0 x1 x2 x3) (b h : ℕ) (hb : b < 2) (hh : h < 4)
    (i0 : ∀ a, ![1, h] a + ![1, 1] a ≤ S2x4.size a)
    (i2 : ∀ a, ![b, 0, h * 256] a + ![1, 256, 256] a ≤ S2x256x1024.size a)
    (i3 : ∀ a, ![b, 0, h * 512] a + ![1, 256, 512] a ≤ S2x256x2048.size a)
    (i4 : ∀ a, ![h, 1, 0, 0] a + ![1, 1, 256, 128] a ≤ S4x2x256x128.size a)
    (i5 : ∀ a, ![b, h, 0, 0] a + ![1, 1, 256, 512] a ≤ S2x4x256x512.size a)
    {wD : Vec Ideal S1x1x256x128 .f32} {wS : Vec Ideal S1x1x256x512 .f32}
    (hD : wD = View.ld X.decV (Rect.unit ![h, 1, 0, 0] ![1, 1, 256, 128] i4))
    (hS : wS = View.ld X.stV (Rect.unit ![b, h, 0, 0] ![1, 1, 256, 512] i5))
    (x : S1x1x256x512.Idx) (p : Shape.Idx S1x1) :
    uState (View.ld x2 (Rect.unit ![b, 0, h * 256] ![1, 256, 256] i2))
        (View.ld x3 (Rect.unit ![b, 0, h * 512] ![1, 256, 512] i3)) wD
        (View.ld x0 (Rect.unit ![1, h] ![1, 1] i0) p) wS x
      = X.nextV ((Rect.unit (s := S2x4x256x512) ![b, h, 0, 0] ![1, 1, 256, 512] i5).emb x) := by
  subst hD hS
  obtain ⟨a, a', d, e, rfl⟩ : ∃ (a a' : Fin 1) (r : Fin 256) (e : Fin 512), x = ix4 a a' r e := ⟨x 0, x 1, x 2, x 3, eq_ix4 x⟩
  have ha : a.val = 0 := by omega
  have ha' : a'.val = 0 := by omega
  rw [uState_real _ _ _ _ _ (fun r d => X.K b h r d) (fun r e => X.V b h r e)
    (fun d e => X.S b h d e) (fun r => X.D h 1 r) (X.g h)]
  · show _ = ((X.next (b + 1 * a.val) (h + 1 * a'.val) (0 + 1 * d.val) (0 + 1 * e.val) : ℝ) : EReal)
    rw [show b + 1 * a.val = b by omega, show h + 1 * a'.val = h by omega, show 0 + 1 * d.val = d.val by omega,
      show 0 + 1 * e.val = e.val by omega]
    rfl
  · exact fun r d => ldQ x2 X.K H.h2 b h hh i2 r d
  · exact fun r e => ldV x3 X.V H.h3 b h hh i3 r e
  · exact fun r e => ldDec h 1 i4 r e
  · exact fun d e => ldS b h i5 d e
  · exact ldG H h hh i0 p

variable (c : Dev nD) (i : grid0.Coords) (arg2 : Memref sig .tc .smem S2x4 .f32) (harg2 : arg2.IsWhole)
  (arg3 : Memref sig .tc .vmem S2x256x1024 .bf16) (harg3 : arg3.IsWhole) (arg4 : Memref sig .tc .vmem S2x256x1024 .bf16) (harg4 : arg4.IsWhole)
  (arg5 : Memref sig .tc .vmem S2x256x2048 .bf16) (harg5 : arg5.IsWhole) (arg6 : Memref sig .tc .vmem S2x256x2048 .bf16) (harg6 : arg6.IsWhole)
  (arg7 : Memref sig .tc .vmem S2x4x256x512 .f32) (harg7 : arg7.IsWhole) (arg8 : Memref sig .tc .vmem S4x256x256 .f32) (harg8 : arg8.IsWhole)
  (arg9 : Memref sig .tc .vmem S4x2x256x128 .f32) (harg9 : arg9.IsWhole)

/-- A later point of a row pair: what it writes to the output block. -/
theorem outB (hc0 : ¬cond0_0 i) (H : X.Ins x0 x1 x2 x3) :
    out0_B_4 c i arg2 harg2 arg3 harg3 arg4 harg4 arg5 harg5 arg6 harg6 arg7 harg7 arg8 harg8 arg9 harg9 hc0 x0 x1 x2 x3 X.stV X.intraV X.decV
      = X.outV := by
  unfold out0_B_4
  rw [View.read_writes_junk_eq_canon]
  funext y
  refine View.canon_apply_of_pieces X.outV _ (View.PiecesOf.mem ?_) y (cover0_B_4 c i arg2 harg2 arg3 harg3 arg4 harg4 arg5 harg5 arg6 harg6 arg7 harg7 arg8 harg8 arg9 harg9 hc0 x0 x1 x2 x3 X.stV X.intraV X.decV y)
  unfold kernelRun0_B
  dsimp only
  sl_unfold_words
  simp only [View.readAt_eq_ld, harg2.read_unread, harg3.read_unread, harg4.read_unread, harg5.read_unread, harg7.read_unread, harg8.read_unread, harg9.read_unread]
  exact ⟨piece_out H 1 3 (by omega) (by omega) _ _ _ _ _ _ rfl rfl rfl, piece_out H 1 2 (by omega) (by omega) _ _ _ _ _ _ rfl rfl rfl,
    piece_out H 1 1 (by omega) (by omega) _ _ _ _ _ _ rfl rfl rfl, piece_out H 1 0 (by omega) (by omega) _ _ _ _ _ _ rfl rfl rfl,
    piece_out H 0 3 (by omega) (by omega) _ _ _ _ _ _ rfl rfl rfl, piece_out H 0 2 (by omega) (by omega) _ _ _ _ _ _ rfl rfl rfl,
    piece_out H 0 1 (by omega) (by omega) _ _ _ _ _ _ rfl rfl rfl, piece_out H 0 0 (by omega) (by omega) _ _ _ _ _ _ rfl rfl rfl, trivial⟩

/-- … and the state it leaves. -/
theorem stateB (hc0 : ¬cond0_0 i) (H : X.Ins x0 x1 x2 x3) :
    sout0_B_0 c i arg2 harg2 arg3 harg3 arg4 harg4 arg5 harg5 arg6 harg6 arg7 harg7 arg8 harg8 arg9 harg9 hc0 x0 x1 x2 x3 X.stV X.intraV X.decV
      = X.nextV := by
  unfold sout0_B_0
  rw [View.read_writes_junk_eq_canon]
  funext y
  refine View.canon_apply_of_pieces X.nextV _ (View.PiecesOf.mem ?_) y (scover0_B_0 c i arg2 harg2 arg3 harg3 arg4 harg4 arg5 harg5 arg6 harg6 arg7 harg7 arg8 harg8 arg9 harg9 hc0 x0 x1 x2 x3 X.stV X.intraV X.decV y)
  unfold kernelRun0_B
  dsimp only
  sl_unfold_words
  simp only [View.readAt_eq_ld, harg2.read_unread, harg3.read_unread, harg4.read_unread, harg5.read_unread, harg7.read_unread, harg8.read_unread, harg9.read_unread]
  exact ⟨fun x => piece_state H 1 3 (by omega) (by omega) _ _ _ _ _ rfl rfl x _, fun x => piece_state H 1 2 (by omega) (by omega) _ _ _ _ _ rfl rfl x _,
    fun x => piece_state H 1 1 (by omega) (by omega) _ _ _ _ _ rfl rfl x _, fun x => piece_state H 1 0 (by omega) (by omega) _ _ _ _ _ rfl rfl x _,
    fun x => piece_state H 0 3 (by omega) (by omega) _ _ _ _ _ rfl rfl x _, fun x => piece_state H 0 2 (by omega) (by omega) _ _ _ _ _ rfl rfl x _,
    fun x => piece_state H 0 1 (by omega) (by omega) _ _ _ _ _ rfl rfl x _, fun x => piece_state H 0 0 (by omega) (by omega) _ _ _ _ _ rfl rfl x _, trivial⟩

end Cert.KernelIdeal.Hand

end
-- ==== Proof.First.lean ====
module

public import proofs.«01_k».proof.Proof.Block

@[expose] public section

set_option maxRecDepth 16384

noncomputable section

namespace Cert.KernelIdeal.Hand

open Cert.KernelIdeal Cert.KernelIdeal.Gen Idealize.ShloMosaic Idealize.ShloMosaic.TcCoe Idealize.SL.Sem

/-- A word that a small natural number makes is that number, read signed. -/
theorem toInt_ofNat (n : ℕ) (h : n < 2 ^ 31) : (BitVec.ofNat 32 n).toInt = n := by
  rw [BitVec.toInt_eq_toNat_of_lt] <;> simp only [BitVec.toNat_ofNat] <;> omega

/-- Two small words compared. -/
theorem sgt_ofNat (j r : ℕ) (hj : j < 2 ^ 31) (hr : r < 2 ^ 31) :
    (IntOp.cmpi CmpIPredicate.sgt (BitVec.ofNat 32 j) (BitVec.ofNat 32 r) = 1) ↔ r < j := by
  show IntOp.cmpi CmpIPredicate.sgt (BitVec.ofNat 32 j) (BitVec.ofNat 32 r) = 1#1 ↔ _
  rw [IntOp.cmpi_sgt, toInt_ofNat j hj, toInt_ofNat r hr]
  omega

/-- The difference of two small words. -/
theorem sub_ofNat (j r : ℕ) (hj : j < 2 ^ 31) (h : r ≤ j) :
    IntOp.subi (BitVec.ofNat 32 j) (BitVec.ofNat 32 r) = BitVec.ofNat 32 (j - r) := by
  show BitVec.ofNat 32 j - BitVec.ofNat 32 r = _
  apply BitVec.eq_of_toNat_eq
  simp only [BitVec.toNat_sub, BitVec.toNat_ofNat]
  omega

/-- The stored decay inside a block. -/
theorem intra_real (g : ℝ) (a : Fin 1) (r j : Fin 256) :
    k0_pay7 (F := Ideal) (g : EReal) (ix3 a r j) = ((if r.val < j.val then Real.exp (((j : ℝ) - r) * g) else 0 : ℝ) : EReal) := by
  unfold_payloads
  pointwise
  have hj : j.val < 2 ^ 31 := j.isLt.trans (by norm_num)
  have hr : r.val < 2 ^ 31 := r.isLt.trans (by norm_num)
  unfold Scalar.select
  simp only [sgt_ofNat j r hj hr]
  by_cases h : r.val < j.val
  · rw [if_pos h, if_pos h, if_pos h, sub_ofNat j r hj h.le]
    show Ideal.exp ((((BitVec.ofNat 32 (j.val - r.val)).toInt : ℝ) : EReal) * (g : EReal)) = _
    rw [toInt_ofNat _ (by omega), ← EReal.coe_mul, Ideal.exp_coe, Int.cast_natCast, Nat.cast_sub h.le]
  · rw [if_neg h, if_neg h]
    rfl

/-- The stored decay to a block's near end. -/
theorem dec0_real (g : ℝ) (a b : Fin 1) (r : Fin 256) (e : Fin 128) :
    k0_pay5 (F := Ideal) (g : EReal) (ix4 a b r e) = ((Real.exp ((256 - (r : ℝ)) * g) : ℝ) : EReal) := by
  unfold_payloads
  pointwise
  have hr : r.val < 2 ^ 31 := r.isLt.trans (by norm_num)
  show Ideal.exp ((Ideal.ofBits FTy.f32 1132462080#32 - (((BitVec.ofNat 32 r.val).toInt : ℝ) : EReal)) * (g : EReal)) = _
  rw [toInt_ofNat _ hr, c256, ← EReal.coe_sub, ← EReal.coe_mul, Ideal.exp_coe, Int.cast_natCast]

/-- The stored decay to a block's far end. -/
theorem dec1_real (g : ℝ) (a b : Fin 1) (r : Fin 256) (e : Fin 128) :
    k0_pay6 (F := Ideal) (g : EReal) (ix4 a b r e) = ((Real.exp ((r : ℝ) * g) : ℝ) : EReal) := by
  unfold_payloads
  pointwise
  have hr : r.val < 2 ^ 31 := r.isLt.trans (by norm_num)
  show Ideal.exp (((((BitVec.ofNat 32 r.val).toInt : ℝ) : EReal)) * (g : EReal)) = _
  rw [toInt_ofNat _ hr, ← EReal.coe_mul, Ideal.exp_coe, Int.cast_natCast]

/-- The state that a row pair starts from. -/
theorem zero_real {X : Reals} (hS : ∀ b h d e, X.S b h d e = 0) : k0_pay4 (F := Ideal) = X.stV := by
  funext y
  unfold Reals.stV
  rw [hS]
  unfold_payloads
  pointwise
  exact EReal.coe_zero.symm

variable {X : Reals} {x0 : Vec Ideal S2x4 .f32} {x1 x2 : Vec Ideal S2x256x1024 .bf16} {x3 : Vec Ideal S2x256x2048 .bf16}

/-- A head's stored decays inside a block are its part of the whole. -/
theorem piece_intra (H : X.Ins x0 x1 x2 x3) (h : ℕ) (hh : h < 4) (i0 : ∀ a, ![1, h] a + ![1, 1] a ≤ S2x4.size a)
    (i6 : ∀ a, ![h, 0, 0] a + ![1, 256, 256] a ≤ S4x256x256.size a) (p : Shape.Idx S1x1) (x : S1x256x256.Idx) :
    k0_pay7 (F := Ideal) (View.ld x0 (Rect.unit ![1, h] ![1, 1] i0) p) x
      = X.intraV ((Rect.unit (s := S4x256x256) ![h, 0, 0] ![1, 256, 256] i6).emb x) := by
  obtain ⟨a, r, j, rfl⟩ : ∃ (a : Fin 1) (r j : Fin 256), x = ix3 a r j := ⟨x 0, x 1, x 2, eq_ix3 x⟩
  rw [ldG H h hh i0 p, intra_real]
  have ha : a.val = 0 := by omega
  show _ = ((X.M (h + 1 * a.val) (0 + 1 * r.val) (0 + 1 * j.val) : ℝ) : EReal)
  rw [show h + 1 * a.val = h by omega, show 0 + 1 * r.val = r.val by omega, show 0 + 1 * j.val = j.val by omega]
  rfl

/-- A head's stored decays to one of a block's ends are its part of the whole. -/
theorem piece_dec (H : X.Ins x0 x1 x2 x3) (h c : ℕ) (hh : h < 4) (i0 : ∀ a, ![1, h] a + ![1, 1] a ≤ S2x4.size a)
    (i6 : ∀ a, ![h, c, 0, 0] a + ![1, 1, 256, 128] a ≤ S4x2x256x128.size a) (p : Shape.Idx S1x1) (x : S1x1x256x128.Idx) :
    (if c = 0 then k0_pay5 (F := Ideal) (View.ld x0 (Rect.unit ![1, h] ![1, 1] i0) p) x
        else k0_pay6 (F := Ideal) (View.ld x0 (Rect.unit ![1, h] ![1, 1] i0) p) x)
      = X.decV ((Rect.unit (s := S4x2x256x128) ![h, c, 0, 0] ![1, 1, 256, 128] i6).emb x) := by
  obtain ⟨a, a', r, j, rfl⟩ : ∃ (a a' : Fin 1) (r : Fin 256) (j : Fin 128), x = ix4 a a' r j := ⟨x 0, x 1, x 2, x 3, eq_ix4 x⟩
  rw [ldG H h hh i0 p, dec0_real, dec1_real]
  have ha : a.val = 0 := by omega
  have ha' : a'.val = 0 := by omega
  show _ = ((X.D (h + 1 * a.val) (c + 1 * a'.val) (0 + 1 * r.val) : ℝ) : EReal)
  rw [show h + 1 * a.val = h by omega, show c + 1 * a'.val = c by omega, show 0 + 1 * r.val = r.val by omega]
  unfold Reals.D
  split <;> rfl

variable (c : Dev nD) (i : grid0.Coords) (arg2 : Memref sig .tc .smem S2x4 .f32) (harg2 : arg2.IsWhole)
  (arg3 : Memref sig .tc .vmem S2x256x1024 .bf16) (harg3 : arg3.IsWhole) (arg4 : Memref sig .tc .vmem S2x256x1024 .bf16) (harg4 : arg4.IsWhole)
  (arg5 : Memref sig .tc .vmem S2x256x2048 .bf16) (harg5 : arg5.IsWhole) (arg6 : Memref sig .tc .vmem S2x256x2048 .bf16) (harg6 : arg6.IsWhole)
  (arg7 : Memref sig .tc .vmem S2x4x256x512 .f32) (harg7 : arg7.IsWhole) (arg8 : Memref sig .tc .vmem S4x256x256 .f32) (harg8 : arg8.IsWhole)
  (arg9 : Memref sig .tc .vmem S4x2x256x128 .f32) (harg9 : arg9.IsWhole)

/-- The first point of a row pair: the decays it stores inside a block. -/
theorem intraA (hc0 : cond0_0 i) (H : X.Ins x0 x1 x2 x3) : sout0_A_1 c i arg2 harg2 arg3 harg3 arg4 harg4 arg5 harg5 arg6 harg6 arg7 harg7 arg8 harg8 arg9 harg9 hc0 x0 x1 x2 x3 = X.intraV := by
  unfold sout0_A_1
  rw [View.read_writes_junk_eq_canon]
  funext y
  refine View.canon_apply_of_pieces X.intraV _ (View.PiecesOf.mem ?_) y (scover0_A_1 c i arg2 harg2 arg3 harg3 arg4 harg4 arg5 harg5 arg6 harg6 arg7 harg7 arg8 harg8 arg9 harg9 hc0 x0 x1 x2 x3 y)
  unfold kernelRun0_A
  dsimp only
  sl_unfold_words
  simp only [View.readAt_eq_ld, harg2.read_unread, harg3.read_unread, harg4.read_unread, harg5.read_unread, harg7.read_unread, harg8.read_unread, harg9.read_unread]
  exact ⟨fun x => piece_intra H 3 (by omega) _ (by decide) _ x, fun x => piece_intra H 2 (by omega) _ (by decide) _ x, fun x => piece_intra H 1 (by omega) _ (by decide) _ x,
    fun x => piece_intra H 0 (by omega) _ (by decide) _ x, trivial⟩

/-- … and to a block's two ends. -/
theorem decA (hc0 : cond0_0 i) (H : X.Ins x0 x1 x2 x3) : sout0_A_2 c i arg2 harg2 arg3 harg3 arg4 harg4 arg5 harg5 arg6 harg6 arg7 harg7 arg8 harg8 arg9 harg9 hc0 x0 x1 x2 x3 = X.decV := by
  unfold sout0_A_2
  rw [View.read_writes_junk_eq_canon]
  funext y
  refine View.canon_apply_of_pieces X.decV _ (View.PiecesOf.mem ?_) y (scover0_A_2 c i arg2 harg2 arg3 harg3 arg4 harg4 arg5 harg5 arg6 harg6 arg7 harg7 arg8 harg8 arg9 harg9 hc0 x0 x1 x2 x3 y)
  unfold kernelRun0_A
  dsimp only
  sl_unfold_words
  simp only [View.readAt_eq_ld, harg2.read_unread, harg3.read_unread, harg4.read_unread, harg5.read_unread, harg7.read_unread, harg8.read_unread, harg9.read_unread]
  exact ⟨fun x => piece_dec H 3 1 (by omega) _ (by decide) _ x, fun x => piece_dec H 3 0 (by omega) _ (by decide) _ x,
    fun x => piece_dec H 2 1 (by omega) _ (by decide) _ x, fun x => piece_dec H 2 0 (by omega) _ (by decide) _ x,
    fun x => piece_dec H 1 1 (by omega) _ (by decide) _ x, fun x => piece_dec H 1 0 (by omega) _ (by decide) _ x,
    fun x => piece_dec H 0 1 (by omega) _ (by decide) _ x, fun x => piece_dec H 0 0 (by omega) _ (by decide) _ x, trivial⟩

/-- An array written piece by piece, where the pieces after the first one written cover it. -/
theorem canon_dropLast {s : Shape} {e : EltTy} (G : s.Idx → Elt Ideal e) (L : List (View.Piece (Elt Ideal) s e)) (hL : L ≠ [])
    (h : View.PiecesOf G L.dropLast) (y : s.Idx) (hc : ∃ p ∈ L.dropLast, y ∈ p.1.set) : View.canon L y = G y := by
  rw [← List.dropLast_append_getLast hL]
  exact View.canon_append_of_piecesOf G _ _ h y hc

/-- The places of a unit of the state. -/
theorem mem_unit (b h : ℕ) (i : ∀ a, ![b, h, 0, 0] a + ![1, 1, 256, 512] a ≤ S2x4x256x512.size a) (y : S2x4x256x512.Idx) :
    y ∈ (Rect.unit (s := S2x4x256x512) ![b, h, 0, 0] ![1, 1, 256, 512] i).set ↔ (y 0).val = b ∧ (y 1).val = h := by
  rw [Rect.mem_set_unit]
  have h2 : (y 2).val < 256 := (y 2).isLt
  have h3 : (y 3).val < 512 := (y 3).isLt
  constructor
  · intro H
    have a0 : b ≤ (y 0).val ∧ (y 0).val < b + 1 := H 0
    have a1 : h ≤ (y 1).val ∧ (y 1).val < h + 1 := H 1
    omega
  · rintro ⟨H0, H1⟩ a
    fin_cases a
    · show b ≤ (y 0).val ∧ (y 0).val < b + 1
      omega
    · show h ≤ (y 1).val ∧ (y 1).val < h + 1
      omega
    · show 0 ≤ (y 2).val ∧ (y 2).val < 0 + 256
      omega
    · show 0 ≤ (y 3).val ∧ (y 3).val < 0 + 512
      omega

/-- The first point of a row pair: what it writes to the output block. -/
theorem outA (hc0 : cond0_0 i) (H : X.Ins x0 x1 x2 x3) (hS : ∀ b h d e, X.S b h d e = 0) :
    out0_A_4 c i arg2 harg2 arg3 harg3 arg4 harg4 arg5 harg5 arg6 harg6 arg7 harg7 arg8 harg8 arg9 harg9 hc0 x0 x1 x2 x3 = X.outV := by
  have hZ := zero_real hS
  unfold out0_A_4
  rw [View.read_writes_junk_eq_canon]
  funext y
  refine View.canon_apply_of_pieces X.outV _ (View.PiecesOf.mem ?_) y (cover0_A_4 c i arg2 harg2 arg3 harg3 arg4 harg4 arg5 harg5 arg6 harg6 arg7 harg7 arg8 harg8 arg9 harg9 hc0 x0 x1 x2 x3 y)
  unfold kernelRun0_A
  dsimp only
  sl_unfold_words
  simp only [View.readAt_eq_ld, harg2.read_unread, harg3.read_unread, harg4.read_unread, harg5.read_unread, harg7.read_unread, harg8.read_unread, harg9.read_unread]
  simp (disch := first | decide | (intro a; fin_cases a <;> rfl)) only [↓View.readCov_cons_toLoadRect, ↓View.readCov_skip, ↓View.readCov_fill, hZ]
  exact ⟨piece_out H 1 3 (by omega) (by omega) _ _ _ (by decide) _ (by decide) (funext fun x => piece_dec H 3 0 (by omega) _ _ _ x) rfl (funext fun x => piece_intra H 3 (by omega) _ _ _ x),
    piece_out H 1 2 (by omega) (by omega) _ _ _ (by decide) _ (by decide) (funext fun x => piece_dec H 2 0 (by omega) _ _ _ x) rfl (funext fun x => piece_intra H 2 (by omega) _ _ _ x),
    piece_out H 1 1 (by omega) (by omega) _ _ _ (by decide) _ (by decide) (funext fun x => piece_dec H 1 0 (by omega) _ _ _ x) rfl (funext fun x => piece_intra H 1 (by omega) _ _ _ x),
    piece_out H 1 0 (by omega) (by omega) _ _ _ (by decide) _ (by decide) (funext fun x => piece_dec H 0 0 (by omega) _ _ _ x) rfl (funext fun x => piece_intra H 0 (by omega) _ _ _ x),
    piece_out H 0 3 (by omega) (by omega) _ _ _ (by decide) _ (by decide) (funext fun x => piece_dec H 3 0 (by omega) _ _ _ x) rfl (funext fun x => piece_intra H 3 (by omega) _ _ _ x),
    piece_out H 0 2 (by omega) (by omega) _ _ _ (by decide) _ (by decide) (funext fun x => piece_dec H 2 0 (by omega) _ _ _ x) rfl (funext fun x => piece_intra H 2 (by omega) _ _ _ x),
    piece_out H 0 1 (by omega) (by omega) _ _ _ (by decide) _ (by decide) (funext fun x => piece_dec H 1 0 (by omega) _ _ _ x) rfl (funext fun x => piece_intra H 1 (by omega) _ _ _ x),
    piece_out H 0 0 (by omega) (by omega) _ _ _ (by decide) _ (by decide) (funext fun x => piece_dec H 0 0 (by omega) _ _ _ x) rfl (funext fun x => piece_intra H 0 (by omega) _ _ _ x), trivial⟩

/-- … and the state it leaves. -/
theorem stateA (hc0 : cond0_0 i) (H : X.Ins x0 x1 x2 x3) (hS : ∀ b h d e, X.S b h d e = 0) :
    sout0_A_0 c i arg2 harg2 arg3 harg3 arg4 harg4 arg5 harg5 arg6 harg6 arg7 harg7 arg8 harg8 arg9 harg9 hc0 x0 x1 x2 x3 = X.nextV := by
  have hZ := zero_real hS
  unfold sout0_A_0
  rw [View.read_writes_junk_eq_canon]
  funext y
  unfold kernelRun0_A
  dsimp only
  sl_unfold_words
  simp only [View.readAt_eq_ld, harg2.read_unread, harg3.read_unread, harg4.read_unread, harg5.read_unread, harg7.read_unread, harg8.read_unread, harg9.read_unread]
  simp (disch := first | decide | (intro a; fin_cases a <;> rfl)) only [↓View.readCov_cons_toLoadRect, ↓View.readCov_skip, ↓View.readCov_fill, hZ]
  refine canon_dropLast X.nextV _ (List.cons_ne_nil _ _) ?_ y ?_ <;> simp only [List.dropLast_cons₂, List.dropLast_singleton]
  · exact ⟨fun x => piece_state H 1 3 (by omega) (by omega) _ _ _ (by decide) _ (funext fun x => piece_dec H 3 1 (by omega) _ _ _ x) rfl x _,
    fun x => piece_state H 1 2 (by omega) (by omega) _ _ _ (by decide) _ (funext fun x => piece_dec H 2 1 (by omega) _ _ _ x) rfl x _,
    fun x => piece_state H 1 1 (by omega) (by omega) _ _ _ (by decide) _ (funext fun x => piece_dec H 1 1 (by omega) _ _ _ x) rfl x _,
    fun x => piece_state H 1 0 (by omega) (by omega) _ _ _ (by decide) _ (funext fun x => piece_dec H 0 1 (by omega) _ _ _ x) rfl x _,
    fun x => piece_state H 0 3 (by omega) (by omega) _ _ _ (by decide) _ (funext fun x => piece_dec H 3 1 (by omega) _ _ _ x) rfl x _,
    fun x => piece_state H 0 2 (by omega) (by omega) _ _ _ (by decide) _ (funext fun x => piece_dec H 2 1 (by omega) _ _ _ x) rfl x _,
    fun x => piece_state H 0 1 (by omega) (by omega) _ _ _ (by decide) _ (funext fun x => piece_dec H 1 1 (by omega) _ _ _ x) rfl x _,
    fun x => piece_state H 0 0 (by omega) (by omega) _ _ _ (by decide) _ (funext fun x => piece_dec H 0 1 (by omega) _ _ _ x) rfl x _, trivial⟩
  · have h0 : (y 0).val < 2 := (y 0).isLt
    have h1 : (y 1).val < 4 := (y 1).isLt
    simp only [List.mem_cons, exists_eq_or_imp, List.not_mem_nil, List.mem_singleton, exists_eq_left, mem_unit]
    omega

end Cert.KernelIdeal.Hand

end
-- ==== Proof.Reversed.lean ====
module

public import proofs.«01_k».proof.Proof.Block
public import proofs.«01_k».proof.Proof.Chunk

@[expose] public section

noncomputable section

namespace Cert.KernelIdeal.Hand

open Finset Cert.Chunk

variable (X : Reals) {b h e base : ℕ} {q k : ℕ → Fin 256 → ℝ} {v : ℕ → ℝ}

/-- A block read from its end is one chunk of the recurrence: its output is the retention's result. -/
theorem Reals.out_eq (hq : ∀ r < 256, ∀ d : Fin 256, X.Q b h r d = q (base + (255 - r)) d)
    (hk : ∀ r < 256, ∀ d : Fin 256, X.K b h r d = k (base + (255 - r)) d) (hv : ∀ r < 256, X.V b h r e = v (base + (255 - r)))
    (hs : ∀ d : Fin 256, X.S b h d e = st k v (X.g h) base d) (r : ℕ) (hr : r < 256) :
    X.out b h r e = ret q k v (X.g h) false (base + (255 - r)) := by
  rw [ret_chunk q k v (X.g h) false base 256 (255 - r) (by omega), ← Finset.sum_range_reflect, Finset.sum_range, Finset.sum_mul]
  unfold Reals.out
  congr 1
  · refine Finset.sum_congr rfl fun j _ => ?_
    have hj := j.isLt
    rw [show 256 - 1 - j.val = 255 - j.val by omega, hv j hj]
    congr 2
    · unfold dotp
      exact Finset.sum_congr rfl fun d _ => by rw [hq r hr d, hk j hj d]
    · unfold Reals.M mask
      have : (255 - j.val < 255 - r + false.toNat) ↔ r < j.val := by
        simp only [Bool.toNat_false]
        omega
      simp only [this]
      by_cases hlt : r < j.val
      · rw [if_pos hlt, if_pos hlt, Nat.cast_sub (by omega), Nat.cast_sub (by omega)]
        congr 1
        ring
      · rw [if_neg hlt, if_neg hlt]
  · refine Finset.sum_congr rfl fun d _ => ?_
    rw [hq r hr d, hs d]
    unfold Reals.D
    rw [if_pos rfl, Nat.cast_sub (by omega)]
    push_cast
    rw [show (256 - (r : ℝ)) * X.g h = (255 - (r : ℝ) + 1) * X.g h by ring]
    ring

/-- … and its new state is the state one chunk further on. -/
theorem Reals.next_eq (hk : ∀ r < 256, ∀ d : Fin 256, X.K b h r d = k (base + (255 - r)) d)
    (hv : ∀ r < 256, X.V b h r e = v (base + (255 - r)))
    (hs : ∀ d : Fin 256, X.S b h d e = st k v (X.g h) base d) (d : Fin 256) :
    X.next b h d e = st k v (X.g h) (base + 256) d := by
  rw [st_step, ← Finset.sum_range_reflect, Finset.sum_range]
  unfold Reals.next
  rw [hs d]
  congr 1
  refine Finset.sum_congr rfl fun r _ => ?_
  have hr := r.isLt
  rw [hk r hr d, hv r hr, show 256 - 1 - r.val = 255 - r.val by omega]
  unfold Reals.D
  rw [if_neg (by decide), Nat.cast_sub (by omega)]
  push_cast
  rw [show ((256 : ℝ) - 1 - (255 - (r.val : ℝ))) = r.val by ring]

end Cert.KernelIdeal.Hand

end
-- ==== Proof.Grid.lean ====
module

public import proofs.«01_k».proof.Proof.First
public import proofs.«01_k».proof.Proof.Reversed
public import proofs.«01_k».proof.Proof.Gen.KernelIdeal.Value
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Chunk

/-- What the blocks of grid point `t` hold. -/
def at' (p : ℕ → ℕ → ℕ → ℝ) (g : ℕ → ℝ) (t : ℕ) : Reals where
  Q b h r d := p (t / 8 * 2 + b) ((7 - t % 8) * 256 + r) (h * 256 + d)
  K b h r d := p (t / 8 * 2 + b) ((7 - t % 8) * 256 + r) (1024 + h * 256 + d)
  V b h r e := p (t / 8 * 2 + b) ((7 - t % 8) * 256 + r) (2048 + h * 512 + e)
  S b h d e := st (kRev p (t / 8 * 2 + b) h) (vRev p (t / 8 * 2 + b) h e) (g h) (t % 8 * 256) (Fin.ofNat 256 d)
  g := g

variable (p : ℕ → ℕ → ℕ → ℝ) (g : ℕ → ℝ)

/-- A grid point's output is the backward retention at its rows and positions. -/
theorem out_at (t b r n : ℕ) (hr : r < 256) :
    (at' p g t).out b (n / 512) r (n % 512) = bwd p g (t / 8 * 2 + b) ((7 - t % 8) * 256 + r) n := by
  rw [Reals.out_eq (at' p g t) (base := t % 8 * 256) (q := qRev p (t / 8 * 2 + b) (n / 512)) (k := kRev p (t / 8 * 2 + b) (n / 512))
    (v := vRev p (t / 8 * 2 + b) (n / 512) (n % 512)) ?_ ?_ ?_ ?_ r hr]
  · unfold bwd
    rw [show 2047 - ((7 - t % 8) * 256 + r) = t % 8 * 256 + (255 - r) by omega]
    rfl
  · intro r hr d
    unfold at' qRev
    rw [show 2047 - (t % 8 * 256 + (255 - r)) = (7 - t % 8) * 256 + r by omega]
  · intro r hr d
    unfold at' kRev
    rw [show 2047 - (t % 8 * 256 + (255 - r)) = (7 - t % 8) * 256 + r by omega]
  · intro r hr
    unfold at' vRev
    rw [show 2047 - (t % 8 * 256 + (255 - r)) = (7 - t % 8) * 256 + r by omega]
  · intro d
    show st _ _ _ _ (Fin.ofNat 256 d.val) = _
    rw [Fin.ofNat_val_eq_self]
    rfl

/-- The state a grid point leaves is the state the next one starts from. -/
theorem next_at (t b h d e : ℕ) (hd : d < 256) (ht : (t + 1) % 8 ≠ 0) : (at' p g t).next b h d e = (at' p g (t + 1)).S b h d e := by
  have := Reals.next_eq (at' p g t) (b := b) (h := h) (e := e) (base := t % 8 * 256) (k := kRev p (t / 8 * 2 + b) h)
    (v := vRev p (t / 8 * 2 + b) h e) ?_ ?_ ?_ ⟨d, hd⟩
  · rw [this]
    show st _ _ _ _ _ = st _ _ _ _ (Fin.ofNat 256 d)
    rw [show (t + 1) / 8 = t / 8 by omega, show (t + 1) % 8 * 256 = t % 8 * 256 + 256 by omega]
    congr 1
    exact Fin.ext (Nat.mod_eq_of_lt hd).symm
  · intro r hr d
    unfold at' kRev
    rw [show 2047 - (t % 8 * 256 + (255 - r)) = (7 - t % 8) * 256 + r by omega]
  · intro r hr
    unfold at' vRev
    rw [show 2047 - (t % 8 * 256 + (255 - r)) = (7 - t % 8) * 256 + r by omega]
  · intro d
    show st _ _ _ _ (Fin.ofNat 256 d.val) = _
    rw [Fin.ofNat_val_eq_self]
    rfl

/-- The windows' block indices. -/
theorem index_eq : ∀ t : Fin cfg0.N, win0_0.index t 0 = 0 ∧ win0_0.index t 1 = 0
    ∧ win0_1.index t 0 = t.val / 8 ∧ win0_1.index t 1 = 7 - t.val % 8 ∧ win0_1.index t 2 = 0
    ∧ win0_2.index t 0 = t.val / 8 ∧ win0_2.index t 1 = 7 - t.val % 8 ∧ win0_2.index t 2 = 1
    ∧ win0_3.index t 0 = t.val / 8 ∧ win0_3.index t 1 = 7 - t.val % 8 ∧ win0_3.index t 2 = 1
    ∧ win0_4.index t 0 = t.val / 8 ∧ win0_4.index t 1 = 7 - t.val % 8 ∧ win0_4.index t 2 = 0 :=
  (by decide +kernel : ∀ t : Fin grid0.N, win0_0.index t 0 = 0 ∧ win0_0.index t 1 = 0
    ∧ win0_1.index t 0 = t.val / 8 ∧ win0_1.index t 1 = 7 - t.val % 8 ∧ win0_1.index t 2 = 0
    ∧ win0_2.index t 0 = t.val / 8 ∧ win0_2.index t 1 = 7 - t.val % 8 ∧ win0_2.index t 2 = 1
    ∧ win0_3.index t 0 = t.val / 8 ∧ win0_3.index t 1 = 7 - t.val % 8 ∧ win0_3.index t 2 = 1
    ∧ win0_4.index t 0 = t.val / 8 ∧ win0_4.index t 1 = 7 - t.val % 8 ∧ win0_4.index t 2 = 0)

variable (m : (ℓ : Loc nD τ sig) → Buf (Elt Ideal) ℓ) (c : Dev nD)

/-- The arguments hold real numbers. -/
structure Args : Prop where
  hp : ∀ y, m ((c : Thread nD τ).loc main_arg1) y = (p (y 0).val (y 1).val (y 2).val : EReal)
  hg : ∀ h : Fin 4, m ((c : Thread nD τ).loc main_arg0) (ix2 1 h) = (g h : EReal)

variable {p g m c}

/-- Every grid point's input blocks hold what the arguments hold there. -/
theorem ins_at (A : Args p g m c) (t : Fin cfg0.N) :
    (at' p g t.val).Ins (iblk m c 0 t) (iblk m c 1 t) (iblk m c 2 t) (iblk m c 3 t) := by
  obtain ⟨e00, e01, e10, e11, e12, e20, e21, e22, e30, e31, e32, -⟩ := index_eq t
  constructor
  · intro h
    unfold iblk
    rw [View.read_apply]
    refine Eq.trans ?_ (A.hg h)
    show V m c main_arg0 _ = _
    rw [V_main_arg0]
    congr 1
    funext a
    apply Fin.ext
    match a with
    | ⟨0, _⟩ => show win0_0.index t 0 * 2 + 1 * 1 = 1; rw [e00]
    | ⟨1, _⟩ => show win0_0.index t 1 * 4 + 1 * h.val = h.val; rw [e01]; omega
  · intro y
    unfold iblk
    rw [View.read_apply]
    show V m c main_arg1 _ = _
    rw [V_main_arg1]
    refine (A.hp _).trans ?_
    show ((p (win0_1.index t 0 * 2 + 1 * (y 0).val) (win0_1.index t 1 * 256 + 1 * (y 1).val) (win0_1.index t 2 * 1024 + 1 * (y 2).val) : ℝ) : EReal) = _
    rw [e10, e11, e12]
    unfold at'
    dsimp only
    exact coe_congr p (by omega) (by omega) (by omega)
  · intro y
    unfold iblk
    rw [View.read_apply]
    show V m c main_arg1 _ = _
    rw [V_main_arg1]
    refine (A.hp _).trans ?_
    show ((p (win0_2.index t 0 * 2 + 1 * (y 0).val) (win0_2.index t 1 * 256 + 1 * (y 1).val) (win0_2.index t 2 * 1024 + 1 * (y 2).val) : ℝ) : EReal) = _
    rw [e20, e21, e22]
    unfold at'
    dsimp only
    exact coe_congr p (by omega) (by omega) (by omega)
  · intro y
    unfold iblk
    rw [View.read_apply]
    show V m c main_arg1 _ = _
    rw [V_main_arg1]
    refine (A.hp _).trans ?_
    show ((p (win0_3.index t 0 * 2 + 1 * (y 0).val) (win0_3.index t 1 * 256 + 1 * (y 1).val) (win0_3.index t 2 * 2048 + 1 * (y 2).val) : ℝ) : EReal) = _
    rw [e30, e31, e32]
    unfold at'
    dsimp only
    exact coe_congr p (by omega) (by omega) (by omega)

/-- What every grid point leaves: by induction on the point. -/
theorem outs_at (A : Args p g m c) : ∀ (n : ℕ) (hn : n < cfg0.N),
    outsAt0 m c n hn = ((at' p g n).outV, (at' p g n).nextV, (at' p g n).intraV, (at' p g n).decV) := by
  intro n
  induction n using Nat.strong_induction_on with
  | _ n ih =>
    intro hn
    have hI := ins_at A ⟨n, hn⟩
    by_cases h0 : n % 8 = 0
    · have hS : ∀ b h d e, (at' p g n).S b h d e = 0 := by
        intro b h d e
        show st _ _ _ (n % 8 * 256) _ = 0
        rw [h0]
        exact st_zero _ _ _ _
      rw [outsAt0_A m c ⟨n, hn⟩ h0]
      rw [outA _ _ _ _ _ _ _ _ _ _ _ _ _ _ _ _ _ _ _ hI hS, stateA _ _ _ _ _ _ _ _ _ _ _ _ _ _ _ _ _ _ _ hI hS,
        intraA _ _ _ _ _ _ _ _ _ _ _ _ _ _ _ _ _ _ _ hI, decA _ _ _ _ _ _ _ _ _ _ _ _ _ _ _ _ _ _ _ hI]
    · obtain ⟨n, rfl⟩ : ∃ k, n = k + 1 := ⟨n - 1, by omega⟩
      have hS : (at' p g n).nextV = (at' p g (n + 1)).stV := by
        funext y
        unfold Reals.nextV Reals.stV
        rw [next_at p g n _ _ _ _ (y 2).isLt h0]
      rw [outsAt0_B m c ⟨n + 1, hn⟩ h0]
      simp only [Nat.add_sub_cancel]
      rw [ih n (by omega) (by omega)]
      dsimp only
      rw [hS, show (at' p g n).intraV = (at' p g (n + 1)).intraV from rfl, show (at' p g n).decV = (at' p g (n + 1)).decV from rfl]
      rw [outB _ _ _ _ _ _ _ _ _ _ _ _ _ _ _ _ _ _ _ hI, stateB _ _ _ _ _ _ _ _ _ _ _ _ _ _ _ _ _ _ _ hI]
      rfl

/-- The output array after the run is the backward retention. -/
theorem final (A : Args p g m c) :
    (dats m 0 c).arrAt 4 cfg0.N = fun y : S32x2048x2048.Idx => (bwd p g (y 0).val (y 1).val (y 2).val : EReal) := by
  refine (dats m 0 c).arrAt_eq_of_covers 4 _ (by decide +kernel) fun t hf y => ?_
  obtain ⟨-, -, -, -, -, -, -, -, -, -, -, e0, e1, e2⟩ := index_eq t
  rw [after0_4, outs_at A]
  show (((at' p g t.val).out (y 0).val ((y 2).val / 512) (y 1).val ((y 2).val % 512) : ℝ) : EReal)
    = ((bwd p g (win0_4.index t 0 * 2 + 1 * (y 0).val) (win0_4.index t 1 * 256 + 1 * (y 1).val) (win0_4.index t 2 * 2048 + 1 * (y 2).val) : ℝ) : EReal)
  rw [e0, e1, e2, out_at p g _ _ _ _ (y 1).isLt]
  exact coe_congr (bwd p g) (by omega) (by omega) (by omega)

end Cert.KernelIdeal.Hand

end
-- ==== Proof.Trips.lean ====
module

public import Idealize.ShloMosaic.PureOps.Ideal
public import proofs.«01_k».proof.Proof.Gen.ReferenceIdeal.Run
public import proofs.«01_k».proof.Proof.Gen.ReferenceIdeal.Step

@[expose] public section

set_option maxRecDepth 16384

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init b33 b40 R_main_v64)

/-- The valuation `V` is the loop's before trip `n`, with the carried arrays and the constants in the record `s`. -/
structure Before (V : Valuation τ sig (Elt Ideal)) (s : State Ideal) (n : ℕ) : Prop where
  num : V (Proc.devRef .tc main_v59_7) = constantI S_ 32 (BitVec.ofNat 32 n)
  state : V (Proc.devRef .tc main_v59_8) = s.main_v59_8
  outs : V (Proc.devRef .tc main_v59_9) = s.main_v59_9
  qs : V (Proc.devRef .tc main_v59_0) = s.main_v59_0
  ks : V (Proc.devRef .tc main_v59_1) = s.main_v59_1
  vs : V (Proc.devRef .tc main_v59_2) = s.main_v59_2
  intra : V (Proc.devRef .tc main_v59_3) = s.main_v59_3
  qd : V (Proc.devRef .tc main_v59_4) = s.main_v59_4
  cd : V (Proc.devRef .tc main_v59_5) = s.main_v59_5
  kd : V (Proc.devRef .tc main_v59_6) = s.main_v59_6

variable {V : Valuation τ sig (Elt Ideal)} {s : State Ideal} {n : ℕ}

/-- What a trip makes of the carried state. -/
theorem Before.next_state (h : Before V s n) : step_main_v59_8 V = b33 n s := by
  unfold step_main_v59_8 res_main_while0b_v66 res_main_while0b_v67
  rw [h.num, h.state, h.ks, h.vs, h.cd, h.kd]
  rfl

/-- What a trip makes of the array of outputs. -/
theorem Before.next_outs (h : Before V s n) : step_main_v59_9 V = b40 n s := by
  unfold step_main_v59_9 res_main_while0b_v65 res_main_while0b_v66 res_main_while0b_v67
  rw [h.num, h.state, h.outs, h.qs, h.ks, h.vs, h.intra, h.qd]
  rfl

/-- One trip. -/
theorem Before.next (h : Before V s n) : Before (STEP V) (step n s) (n + 1) where
  num := by
    refine (STEP_main_v59_7 V).trans ?_
    unfold step_main_v59_7
    rw [h.num]
    funext i
    exact (BitVec.ofNat_add n 1).symm
  state := (STEP_main_v59_8 V).trans h.next_state
  outs := (STEP_main_v59_9 V).trans h.next_outs
  qs := (STEP_main_v59_0 V).trans h.qs
  ks := (STEP_main_v59_1 V).trans h.ks
  vs := (STEP_main_v59_2 V).trans h.vs
  intra := (STEP_main_v59_3 V).trans h.intra
  qd := (STEP_main_v59_4 V).trans h.qd
  cd := (STEP_main_v59_5 V).trans h.cd
  kd := (STEP_main_v59_6 V).trans h.kd

variable (m : (ℓ : Loc nD τ sig) → Buf (Elt Ideal) ℓ) (c : Dev nD)

set_option maxRecDepth 65536 in
set_option maxHeartbeats 600000 in
/-- What the program holds when the loop begins. -/
theorem entry : Before (entryContents preI m c)
    (init (m ((c.tc : Thread nD τ).loc main_arg0)) (m ((c.tc : Thread nD τ).loc main_arg1))) 0 := by
  constructor <;> (simp only [entryContents, afterL_cons, afterL_nil]; after_reads_simp) <;> rfl

/-- The record that the loop carries before trip `n`. -/
def carried (a0 : (⟨S2x4, .f32⟩ : BufTy).Contents (Elt Ideal)) (a1 : (⟨S32x2048x6144, .bf16⟩ : BufTy).Contents (Elt Ideal)) :
    ℕ → State Ideal
  | 0 => init a0 a1
  | n + 1 => step n (carried a0 a1 n)

/-- The loop's contents before trip `n` are that record's. -/
theorem before (n : ℕ) : Before (STEP^[n] (entryContents preI m c))
    (carried (m ((c.tc : Thread nD τ).loc main_arg0)) (m ((c.tc : Thread nD τ).loc main_arg1)) n) n := by
  induction n with
  | zero => exact entry m c
  | succ n ih =>
    rw [Function.iterate_succ_apply']
    exact ih.next

/-- The result, of the record after all trips. -/
theorem result : out_main_v64 (STEP^[16] (entryContents preI m c))
    = R_main_v64 (carried (m ((c.tc : Thread nD τ).loc main_arg0)) (m ((c.tc : Thread nD τ).loc main_arg1)) 16) := by
  unfold out_main_v64 R_main_v64
  rw [(before m c 16).outs]
  rfl

end Cert.ReferenceIdeal.Hand

end
-- ==== Proof.RefStep.lean ====
module

public import proofs.«01_k».proof.Proof.Chunk
public import proofs.«01_k».proof.Proof.Trips
public import Idealize.ShloMosaic.Lib.Pointwise

@[expose] public section

set_option maxRecDepth 16384

noncomputable section

namespace Cert.ReferenceIdeal.Hand

open Cert.ReferenceIdeal Cert.ReferenceIdeal.Gen Cert.ReferenceIdeal.Step Idealize.ShloMosaic Cert.Chunk

variable (p : ℕ → ℕ → ℕ → ℝ) (g : ℕ → ℝ) (a0 : (⟨S2x4, .f32⟩ : BufTy).Contents (Elt Ideal)) (a1 : (⟨S32x2048x6144, .bf16⟩ : BufTy).Contents (Elt Ideal))

theorem q_at (hp : ∀ y, a1 y = (p (y 0).val (y 1).val (y 2).val : EReal)) (c : Fin 16) (b : Fin 32) (r : Fin 128) (h : Fin 4) (d : Fin 256) :
    A_main_v53 (F := Ideal) a0 a1 (ix5 c b r h d) = (qRev p b h (c * 128 + r) d : EReal) := by
  unfold A_main_v53 A_main_v52 A_main_v7 A_main_v2 A_main_v1 A_main_v0
  pointwise
  simp only [hp]
  exact coe_congr p rfl (by simp) rfl

theorem k_at (hp : ∀ y, a1 y = (p (y 0).val (y 1).val (y 2).val : EReal)) (c : Fin 16) (b : Fin 32) (r : Fin 128) (h : Fin 4) (d : Fin 256) :
    A_main_v55 (F := Ideal) a0 a1 (ix5 c b r h d) = (kRev p b h (c * 128 + r) d : EReal) := by
  unfold A_main_v55 A_main_v54 A_main_v8 A_main_v4 A_main_v3 A_main_v0
  pointwise
  simp only [hp]
  exact coe_congr p rfl (by simp) (by simp; omega)

theorem v_at (hp : ∀ y, a1 y = (p (y 0).val (y 1).val (y 2).val : EReal)) (c : Fin 16) (b : Fin 32) (r : Fin 128) (h : Fin 4) (d : Fin 512) :
    A_main_v57 (F := Ideal) a0 a1 (ix5 c b r h d) = (vRev p b h d (c * 128 + r) : EReal) := by
  unfold A_main_v57 A_main_v56 A_main_v9 A_main_v6 A_main_v5 A_main_v0
  pointwise
  simp only [hp]
  exact coe_congr p rfl (by simp) (by simp; omega)

/-- A word of a number below 2^31 as a float. -/
theorem coe_word (n : ℕ) (h : n < 2048) : (FloatOps.sitofp (F := Ideal) FTy.f32 (BitVec.ofNat 32 n)) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem cst_zero : (constant (F := Ideal) S_ FTy.f32 0#32) = fun _ => ((0 : ℝ) : EReal) := by
  funext _
  simp [constant, FloatOps.ofBits, Ideal.ofBits, Ideal.ieee]

theorem intra_at (hg : ∀ h : Fin 4, a0 (ix2 1 h) = (g h : EReal)) (h : Fin 4) (r j : Fin 128) :
    A_main_v28 (F := Ideal) a0 a1 (ix3 h r j) = (mask (g h) false r j : EReal) := by
  unfold A_main_v28 A_main_v27 A_main_v26 A_main_v25 A_main_v23 A_main_v11 A_main_v10 K_main_call4_v1 K_main_call4_v2 K_main_call4_v0 K_main_cst_1 K_main_v24 K_main_v22 K_main_v21 K_main_v20 K_main_v19 K_main_v18 K_main_v17 K_main_v16 K_main_v15 K_main_v14 K_main_v13 K_main_v12 K_main_cst K_main_call3_v1 K_main_call3_v0 K_main_cst_0
  pointwise
  simp only [coe_word _ (show r.val < 2048 by omega), coe_word _ (show j.val < 2048 by omega), cst_zero, hg, id]
  unfold mask
  by_cases hr : j.val < r.val
  · have hlt : (0 : EReal) < ((r.val : ℝ) : EReal) - ((j.val : ℝ) : EReal) := by
      rw [← EReal.coe_sub, ← EReal.coe_zero, EReal.coe_lt_coe_iff]
      simpa using hr
    rw [if_pos hlt, if_pos hlt, if_pos (by simpa using hr), ← EReal.coe_sub, ← EReal.coe_mul, Ideal.exp_coe]
  · have hlt : ¬ (0 : EReal) < ((r.val : ℝ) : EReal) - ((j.val : ℝ) : EReal) := by
      rw [← EReal.coe_sub, ← EReal.coe_zero, EReal.coe_lt_coe_iff]
      simpa using hr
    rw [if_neg hlt, if_neg (by simpa using hr)]

theorem lit_one : Ideal.ofBits FTy.f32 1065353216#32 = ((1 : ℝ) : EReal) := by
  simp [Ideal.ofBits, Ideal.ieee, -EReal.coe_mul]; norm_num
theorem lit_127 : Ideal.ofBits FTy.f32 1123942400#32 = ((127 : ℝ) : EReal) := by
  simp [Ideal.ofBits, Ideal.ieee, -EReal.coe_mul]; norm_num
theorem lit_128 : Ideal.ofBits FTy.f32 1124073472#32 = ((128 : ℝ) : EReal) := by
  simp [Ideal.ofBits, Ideal.ieee, -EReal.coe_mul]; norm_num

theorem qd_at (hg : ∀ h : Fin 4, a0 (ix2 1 h) = (g h : EReal)) (h : Fin 4) (r : Fin 128) :
    A_main_v37 (F := Ideal) a0 a1 (ix4 0 r h 0) = (Real.exp ((r + 1) * g h) : EReal) := by
  unfold A_main_v37 A_main_v36 A_main_v35 A_main_v34 A_main_v32 A_main_v11 A_main_v10 K_main_v33 K_main_v31 K_main_v30 K_main_v29 K_main_cst_2 K_main_v12
  pointwise
  rw [coe_word _ (show r.val < 2048 by omega), hg, ← EReal.coe_one, ← EReal.coe_add, ← EReal.coe_mul, Ideal.exp_coe]

theorem kd_at (hg : ∀ h : Fin 4, a0 (ix2 1 h) = (g h : EReal)) (h : Fin 4) (r : Fin 128) :
    A_main_v46 (F := Ideal) a0 a1 (ix4 0 r h 0) = (Real.exp (((128 : ℕ) - 1 - r) * g h) : EReal) := by
  unfold A_main_v46 A_main_v45 A_main_v44 A_main_v43 A_main_v41 A_main_v11 A_main_v10 K_main_v42 K_main_v40 K_main_v39 K_main_v38 K_main_cst_3 K_main_v12
  pointwise
  rw [coe_word _ (show r.val < 2048 by omega), hg, lit_127, ← EReal.coe_sub, ← EReal.coe_mul, Ideal.exp_coe]
  norm_num

theorem cd_at (hg : ∀ h : Fin 4, a0 (ix2 1 h) = (g h : EReal)) (h : Fin 4) :
    A_main_v50 (F := Ideal) a0 a1 (ix4 0 h 0 0) = (Real.exp ((128 : ℕ) * g h) : EReal) := by
  unfold A_main_v50 A_main_v49 A_main_v48 A_main_v11 A_main_v10 K_main_v47 K_main_cst_4
  pointwise
  rw [hg, lit_128, ← EReal.coe_mul, Ideal.exp_coe]
  norm_num

/-- The words that begin a slice of trip `n`, as numbers. -/
theorem starts (n : ℕ) (hn : n < 16) (k : Fin 5) :
    BitVec.toInt ((![constantI S_ 32 (BitVec.ofNat 32 n), constantI S_ 32 0#32, constantI S_ 32 0#32, constantI S_ 32 0#32,
      constantI S_ 32 0#32] : Fin 5 → (⟨S_, .i32⟩ : BufTy).Contents (Elt Ideal)) k (Shape.Idx.first h_S_)) = ((if k = 0 then n else 0 : ℕ) : ℤ) := by
  fin_cases k
  · show (BitVec.ofNat 32 n).toInt = _
    rw [BitVec.toInt_eq_toNat_of_lt (by rw [BitVec.toNat_ofNat]; omega), BitVec.toNat_ofNat, Nat.mod_eq_of_lt (by omega)]
    rfl
  all_goals rfl

/-- Where the slice of trip `n` of the queries or keys begins. -/
theorem clamp_qk (n : ℕ) (hn : n < 16) (hr) (k : Fin 5) :
    Host.clampedStart S16x32x128x4x256 S1x32x128x4x256 hr (fun k => BitVec.toInt ((![constantI S_ 32 (BitVec.ofNat 32 n),
      constantI S_ 32 0#32, constantI S_ 32 0#32, constantI S_ 32 0#32,
      constantI S_ 32 0#32] : Fin 5 → (⟨S_, .i32⟩ : BufTy).Contents (Elt Ideal)) k (Shape.Idx.first h_S_))) k = if k = 0 then n else 0 := by
  refine Host.clampedStart_of_le _ _ _ _ (starts n hn k) ?_
  fin_cases k <;> first | (show n + 1 ≤ 16; omega) | exact Nat.le_of_eq rfl

/-- Where the slice of trip `n` of the values or outputs begins. -/
theorem clamp_v (n : ℕ) (hn : n < 16) (hr) (k : Fin 5) :
    Host.clampedStart S16x32x128x4x512 S1x32x128x4x512 hr (fun k => BitVec.toInt ((![constantI S_ 32 (BitVec.ofNat 32 n),
      constantI S_ 32 0#32, constantI S_ 32 0#32, constantI S_ 32 0#32,
      constantI S_ 32 0#32] : Fin 5 → (⟨S_, .i32⟩ : BufTy).Contents (Elt Ideal)) k (Shape.Idx.first h_S_))) k = if k = 0 then n else 0 := by
  refine Host.clampedStart_of_le _ _ _ _ (starts n hn k) ?_
  fin_cases k <;> first | (show n + 1 ≤ 16; omega) | exact Nat.le_of_eq rfl

theorem b5_at (s : State Ideal) (n : ℕ) (hn : n < 16) (b : Fin 32) (r : Fin 128) (h : Fin 4) (d : Fin 256) :
    b5 n s (ix4 b r h d) = s.main_v59_0 (ix5 ⟨n, hn⟩ b r h d) := by
  unfold b5 b4 b3 b2 b1 b0
  pointwise
  simp only [clamp_qk n hn]
  simp

theorem b11_at (s : State Ideal) (n : ℕ) (hn : n < 16) (b : Fin 32) (r : Fin 128) (h : Fin 4) (d : Fin 256) :
    b11 n s (ix4 b r h d) = s.main_v59_1 (ix5 ⟨n, hn⟩ b r h d) := by
  unfold b11 b10 b9 b8 b7 b6
  pointwise
  simp only [clamp_qk n hn]
  simp

theorem b17_at (s : State Ideal) (n : ℕ) (hn : n < 16) (b : Fin 32) (r : Fin 128) (h : Fin 4) (d : Fin 512) :
    b17 n s (ix4 b r h d) = s.main_v59_2 (ix5 ⟨n, hn⟩ b r h d) := by
  unfold b17 b16 b15 b14 b13 b12
  pointwise
  simp only [clamp_v n hn]
  simp

theorem b33_at (s : State Ideal) (n : ℕ) (hn : n < 16) (b : Fin 32) (h : Fin 4) (d : Fin 256) (e : Fin 512) :
    b33 n s (ix4 b h d e) = s.main_v59_8 (ix4 b h d e) * s.main_v59_5 (ix4 0 h 0 0)
      + ∑ r : Fin 128, s.main_v59_1 (ix5 ⟨n, hn⟩ b r h d) * s.main_v59_6 (ix4 0 r h 0) * s.main_v59_2 (ix5 ⟨n, hn⟩ b r h e) := by
  unfold b33 b32 b31 b30 b29 b28
  pointwise
  simp only [b11_at s n hn, b17_at s n hn]

theorem b34_at (s : State Ideal) (n : ℕ) (hn : n < 16) (b : Fin 32) (r : Fin 128) (h : Fin 4) (e : Fin 512) :
    b34 n s (ix4 b r h e) = (∑ j : Fin 128, s.main_v59_2 (ix5 ⟨n, hn⟩ b j h e) * ((∑ d : Fin 256, s.main_v59_0 (ix5 ⟨n, hn⟩ b r h d) * s.main_v59_1 (ix5 ⟨n, hn⟩ b j h d)) * s.main_v59_3 (ix3 h r j)))
      + (∑ d : Fin 256, s.main_v59_8 (ix4 b h d e) * s.main_v59_0 (ix5 ⟨n, hn⟩ b r h d)) * s.main_v59_4 (ix4 0 r h 0) := by
  unfold b34 b27 b26 b25 b24 b23 b22 b21 b20 b19 b18
  pointwise
  simp only [b11_at s n hn, b17_at s n hn, b5_at s n hn]

theorem b40_at (s : State Ideal) (n : ℕ) (hn : n < 16) (c : Fin 16) (b : Fin 32) (r : Fin 128) (h : Fin 4) (e : Fin 512) :
    b40 n s (ix5 c b r h e) = if c.val = n then b34 n s (ix4 b r h e) else s.main_v59_9 (ix5 c b r h e) := by
  unfold b40 b39 b38 b37 b36 b35
  pointwise
  simp only [clamp_v n hn]

  by_cases hc : c.val = n
  · rw [dif_pos (by simp [hc])]
    simp [hc]
  · rw [dif_neg (by simp; omega)]
    simp [hc]

end Cert.ReferenceIdeal.Hand

end
-- ==== Proof.RefRun.lean ====
module

public import proofs.«01_k».proof.Proof.RefStep

@[expose] public section

set_option maxRecDepth 16384

noncomputable section

namespace Cert.ReferenceIdeal.Hand

open Cert.ReferenceIdeal Cert.ReferenceIdeal.Gen Idealize.ShloMosaic Cert.Chunk
open Cert.ReferenceIdeal.Step hiding step_main_v59_8 step_main_v59_9

variable {p : ℕ → ℕ → ℕ → ℝ} {g : ℕ → ℝ} {a0 : (⟨S2x4, .f32⟩ : BufTy).Contents (Elt Ideal)}
  {a1 : (⟨S32x2048x6144, .bf16⟩ : BufTy).Contents (Elt Ideal)}

/-- The record before trip `n`, in real numbers: the constants of the loop, the state over the first `n` chunks, and
    the outputs of those chunks. -/
structure Holds (p : ℕ → ℕ → ℕ → ℝ) (g : ℕ → ℝ) (n : ℕ) (s : State Ideal) : Prop where
  qs : ∀ c b r h d, s.main_v59_0 (ix5 c b r h d) = (qRev p b.val h.val (c.val * 128 + r.val) d : EReal)
  ks : ∀ c b r h d, s.main_v59_1 (ix5 c b r h d) = (kRev p b.val h.val (c.val * 128 + r.val) d : EReal)
  vs : ∀ c b r h e, s.main_v59_2 (ix5 c b r h e) = (vRev p b.val h.val e.val (c.val * 128 + r.val) : EReal)
  intra : ∀ h r j, s.main_v59_3 (ix3 h r j) = (mask (g h.val) false r.val j.val : EReal)
  qd : ∀ r h, s.main_v59_4 (ix4 0 r h 0) = (Real.exp ((r.val + 1) * g h.val) : EReal)
  cd : ∀ h, s.main_v59_5 (ix4 0 h 0 0) = (Real.exp ((128 : ℕ) * g h.val) : EReal)
  kd : ∀ r h, s.main_v59_6 (ix4 0 r h 0) = (Real.exp (((128 : ℕ) - 1 - r.val) * g h.val) : EReal)
  state : ∀ b h d e, s.main_v59_8 (ix4 b h d e)
    = (st (kRev p b.val h.val) (vRev p b.val h.val e.val) (g h.val) (n * 128) d : EReal)
  outs : ∀ c b r h e, c.val < n → s.main_v59_9 (ix5 c b r h e)
    = (ret (qRev p b.val h.val) (kRev p b.val h.val) (vRev p b.val h.val e.val) (g h.val) false (c.val * 128 + r.val) : EReal)

/-- Before the first trip. -/
theorem holds_init (hp : ∀ y, a1 y = (p (y 0).val (y 1).val (y 2).val : EReal))
    (hg : ∀ h : Fin 4, a0 (ix2 1 h) = (g h : EReal)) : Holds p g 0 (init a0 a1) where
  qs := q_at p a0 a1 hp
  ks := k_at p a0 a1 hp
  vs c b r h e := v_at p a0 a1 hp c b r h e
  intra := intra_at g a0 a1 hg
  qd r h := qd_at g a0 a1 hg h r
  cd := cd_at g a0 a1 hg
  kd r h := kd_at g a0 a1 hg h r
  state b h d e := by
    show K_main_v51 (F := Ideal) (ix4 b h d e) = _
    unfold K_main_v51 K_main_cst_5
    pointwise
    rw [st_zero, EReal.coe_zero]
  outs c b r h e hc := absurd hc (Nat.not_lt_zero _)

/-- One trip. -/
theorem Holds.next {n : ℕ} {s : State Ideal} (H : Holds p g n s) (hn : n < 16) : Holds p g (n + 1) (step n s) where
  qs := H.qs
  ks := H.ks
  vs := H.vs
  intra := H.intra
  qd := H.qd
  cd := H.cd
  kd := H.kd
  state b h d e := by
    show b33 n s (ix4 b h d e) = _
    rw [b33_at s n hn, H.state, H.cd]
    simp only [H.ks, H.kd, H.vs]
    rw [Nat.succ_mul, st_step, Finset.sum_range, EReal.coe_add, EReal.coe_mul, coe_sum]
    simp only [EReal.coe_mul]
  outs c b r h e hc := by
    show b40 n s (ix5 c b r h e) = _
    rw [b40_at s n hn]
    split
    · rename_i hcn
      rw [b34_at s n hn, hcn, ret_chunk _ _ _ _ false (n * 128) 128 r.val r.isLt, Finset.sum_range]
      simp only [H.ks, H.qs, H.vs, H.intra, H.state, H.qd]
      unfold dotp
      simp only [EReal.coe_add, EReal.coe_mul, coe_sum]
      congr 2
      · funext j
        exact mul_comm _ _
      · exact Finset.sum_congr rfl fun j _ => mul_comm _ _
    · exact H.outs c b r h e (by omega)

/-- Before every trip. -/
theorem holds_carried (hp : ∀ y, a1 y = (p (y 0).val (y 1).val (y 2).val : EReal))
    (hg : ∀ h : Fin 4, a0 (ix2 1 h) = (g h : EReal)) (n : ℕ) (hn : n ≤ 16) : Holds p g n (carried a0 a1 n) := by
  induction n with
  | zero => exact holds_init hp hg
  | succ n ih => exact (ih (by omega)).next (by omega)

/-- The reference's result at one place. -/
theorem result_ix {s : State Ideal} (H : Holds p g 16 s) (b : Fin 32) (i n : Fin 2048) :
    R_main_v64 s (ix3 b i n) = (bwd p g b.val i.val n.val : EReal) := by
  unfold R_main_v64
  pointwise
  show s.main_v59_9 (ix5 ⟨i.rev.val / 128, by omega⟩ b ⟨i.rev.val % 128, by omega⟩ ⟨n.val / 512, by omega⟩
    ⟨n.val % 512, by omega⟩) = _
  rw [H.outs _ _ _ _ _ (show i.rev.val / 128 < 16 by omega)]
  unfold bwd
  have e : i.rev.val / 128 * 128 + i.rev.val % 128 = 2047 - i.val := by rw [Fin.val_rev]; omega
  show ((ret _ _ _ _ false (i.rev.val / 128 * 128 + i.rev.val % 128) : ℝ) : EReal) = _
  rw [e]

/-- The reference's result. -/
theorem result_at (hp : ∀ y, a1 y = (p (y 0).val (y 1).val (y 2).val : EReal))
    (hg : ∀ h : Fin 4, a0 (ix2 1 h) = (g h : EReal)) :
    R_main_v64 (carried a0 a1 16) = fun y : S32x2048x2048.Idx => (bwd p g (y 0).val (y 1).val (y 2).val : EReal) := by
  funext y
  rw [eq_ix3 y]
  exact result_ix (holds_carried hp hg 16 le_rfl) _ _ _

end Cert.ReferenceIdeal.Hand

end
-- ==== Proof.lean ====
/- The claims of the certificate: the frames, and the values of the calls. -/
module

public import proofs.«01_k».proof.Proof.Gen.Kernel2.Frame
public import proofs.«01_k».proof.Proof.Gen.Kernel2Ideal.Value
public import proofs.«01_k».proof.Proof.Gen.Reference2Ideal.Run
public import proofs.«01_k».proof.Proof.ProjB
public import proofs.«01_k».proof.Proof.ProjBRef
public import proofs.«01_k».proof.Proof.Gen.Kernel3.Frame
public import proofs.«01_k».proof.Proof.Gen.Kernel3Ideal.Value
public import proofs.«01_k».proof.Proof.Gen.Reference3Ideal.Run
public import proofs.«01_k».proof.Proof.ProjC
public import proofs.«01_k».proof.Proof.Gen.Kernel4.Frame
public import proofs.«01_k».proof.Proof.Gen.Kernel4Ideal.Value
public import proofs.«01_k».proof.Proof.Gen.Reference4Ideal.Run
public import proofs.«01_k».proof.Proof.ProjA
public import proofs.«01_k».proof.Proof.ProjARef
public import proofs.«01_k».proof.Proof.Gen.Kernel5.Frame
public import proofs.«01_k».proof.Proof.Gen.Kernel5Ideal.Value
public import proofs.«01_k».proof.Proof.Gen.Reference5Ideal.Run
public import proofs.«01_k».proof.Proof.ProjD
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Step
public import proofs.«01_k».proof.Proof.FwdGrid
public import proofs.«01_k».proof.Proof.FwdRefRun
public import proofs.«01_k».proof.Proof.Finite6
public import proofs.«01_k».proof.Proof.Gen.Kernel7.Frame
public import proofs.«01_k».proof.Proof.Gen.Kernel7Ideal.Value
public import proofs.«01_k».proof.Proof.Gen.Reference7Ideal.Run
public import proofs.«01_k».proof.Proof.PermGrid
public import proofs.«01_k».proof.Proof.Gen.Kernel8.Frame
public import proofs.«01_k».proof.Proof.Gen.Kernel8Ideal.Value
public import proofs.«01_k».proof.Proof.Gen.Reference8Ideal.Run
public import proofs.«01_k».proof.Proof.DftGrid
public import proofs.«01_k».proof.Proof.Gen.Kernel9.Frame
public import proofs.«01_k».proof.Proof.Gen.Kernel9Ideal.Value
public import proofs.«01_k».proof.Proof.Gen.Reference9Ideal.Run
public import proofs.«01_k».proof.Proof.FoldGrid
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Grid
public import proofs.«01_k».proof.Proof.RefRun
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_p : Cert.quiescent_Kernel (hKernel := Cert.Kernel.Gen.facts) := fun m ρ _ => Cert.Kernel.Gen.frame m ρ

/-- The idealized kernel's frame. -/
theorem frame_i : Cert.quiescent_KernelIdeal (hKernelIdeal := Cert.KernelIdeal.Gen.facts) :=
  fun m ρ _ => Cert.KernelIdeal.Gen.frame m ρ

/-- The reference's frame; the program has no semaphore. -/
theorem frame_r : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference compute the same backward retention. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hfin hargs
  choose p g hp hg using fun c => Cert.Pre_finite.exists_reals _ _ (hfin c)
  refine ⟨fun c y => (Cert.Chunk.bwd (p c) (g c) (y 0).val (y 1).val (y 2).val : EReal), ?_, ?_⟩
  · exact (θ_run Cert.KernelIdeal.defs _ _).mono
      (fun r h c => ⟨(h c).1.trans (Cert.KernelIdeal.Hand.final ⟨hp c, hg c⟩), (h c).2⟩)
      (Cert.KernelIdeal.Value.run_blocks (F := Ideal) m ρ)
  · exact (θ_run Cert.ReferenceIdeal.defs _ _).mono
      (fun r h c => ⟨(h c).1.trans ((Cert.ReferenceIdeal.Hand.result m' c).trans
        (Cert.ReferenceIdeal.Hand.result_at (fun y => (congrFun (hargs c).2 y).trans (hp c y))
          (fun h => (congrFun (hargs c).1 _).trans (hg c h)))), (h c).2⟩)
      (Cert.ReferenceIdeal.Value.run (F := Ideal) m' ρ')

/-- The frames of the projection with rotated heads. -/
theorem frame_p2 : Cert.quiescent_Kernel2 (hKernel2 := Cert.Kernel2.Gen.facts) := fun m ρ _ => Cert.Kernel2.Gen.frame m ρ

theorem frame_i2 : Cert.quiescent_Kernel2Ideal (hKernel2Ideal := Cert.Kernel2Ideal.Gen.facts) :=
  fun m ρ _ => Cert.Kernel2Ideal.Gen.frame m ρ

theorem frame_r2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Kernel and reference compute the same projection with rotated heads. -/
theorem value2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Kernel2Ideal.Hand.whole m c, ?_, ?_⟩
  · exact (θ_run Cert.Kernel2Ideal.defs _ _).mono
      (fun r h c => ⟨(h c).1.trans (Cert.Kernel2Ideal.Hand.final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Hand.run_at m' ρ')
    obtain ⟨a0, a1, a2⟩ := hargs c
    rw [a0, a1, a2]
    rfl

/-- The frames of the projection of the mixing layer. -/
theorem frame_p3 : Cert.quiescent_Kernel3 (hKernel3 := Cert.Kernel3.Gen.facts) := fun m ρ _ => Cert.Kernel3.Gen.frame m ρ

theorem frame_i3 : Cert.quiescent_Kernel3Ideal (hKernel3Ideal := Cert.Kernel3Ideal.Gen.facts) :=
  fun m ρ _ => Cert.Kernel3Ideal.Gen.frame m ρ

theorem frame_r3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Kernel and reference compute the same projection of the mixing layer. -/
theorem value3 : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => Cert.Kernel3Ideal.Hand.whole m c, ?_, ?_⟩
  · exact (θ_run Cert.Kernel3Ideal.defs _ _).mono
      (fun r h c => ⟨(h c).1.trans (Cert.Kernel3Ideal.Hand.final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Hand.run_at m' ρ')
    obtain ⟨a0, a1, a2⟩ := hargs c
    rw [a0, a1, a2]
    rfl

/-- The frames of the projection of the attention layer. -/
theorem frame_p4 : Cert.quiescent_Kernel4 (hKernel4 := Cert.Kernel4.Gen.facts) := fun m ρ _ => Cert.Kernel4.Gen.frame m ρ

theorem frame_i4 : Cert.quiescent_Kernel4Ideal (hKernel4Ideal := Cert.Kernel4Ideal.Gen.facts) :=
  fun m ρ _ => Cert.Kernel4Ideal.Gen.frame m ρ

theorem frame_r4 : Cert.quiescent_Reference4Ideal (hReference4Ideal := Cert.Reference4Ideal.Gen.facts) := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- Kernel and reference compute the same projection of the attention layer. -/
theorem value4 : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => Cert.Kernel4Ideal.Hand.queries m c, fun c => Cert.Kernel4Ideal.Hand.gates m c, fun c => Cert.Kernel4Ideal.Hand.keys m c,
    fun c => Cert.Kernel4Ideal.Hand.vals m c, ?_, ?_⟩
  · exact (θ_run Cert.Kernel4Ideal.defs _ _).mono
      (fun r h c => ⟨(h c).1.trans (Cert.Kernel4Ideal.Hand.final4 m c), (h c).2.1.trans (Cert.Kernel4Ideal.Hand.final5 m c),
        (h c).2.2.1.trans (Cert.Kernel4Ideal.Hand.final6 m c), (h c).2.2.2.1.trans (Cert.Kernel4Ideal.Hand.final7 m c), (h c).2.2.2.2⟩)
      (Cert.Kernel4Ideal.Value.run_blocks (F := Ideal) m ρ)
  · have e : ∀ c, Cert.Reference4Ideal.Hand.colsAt m' c = Cert.Kernel4Ideal.Hand.colsAt m c := fun c => by
      obtain ⟨a0, a1, a2⟩ := hargs c
      unfold Cert.Reference4Ideal.Hand.colsAt
      rw [a0, a1, a2]
      rfl
    refine (θ_run Cert.Reference4Ideal.defs _ _).mono (fun r h c => ⟨(h c).1.trans ?_, (h c).2.1.trans ?_, (h c).2.2.1.trans ?_,
      (h c).2.2.2.1.trans ?_, (h c).2.2.2.2⟩) (Cert.Reference4Ideal.Hand.run_at m' ρ')
    all_goals
      rw [e]
      rfl

/-- The frames of the output projection of the mixing layer. -/
theorem frame_p5 : Cert.quiescent_Kernel5 (hKernel5 := Cert.Kernel5.Gen.facts) := fun m ρ _ => Cert.Kernel5.Gen.frame m ρ

theorem frame_i5 : Cert.quiescent_Kernel5Ideal (hKernel5Ideal := Cert.Kernel5Ideal.Gen.facts) :=
  fun m ρ _ => Cert.Kernel5Ideal.Gen.frame m ρ

theorem frame_r5 : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Kernel and reference compute the same output projection of the mixing layer. -/
theorem value5 : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => Cert.Kernel5Ideal.Hand.whole m c, ?_, ?_⟩
  · exact (θ_run Cert.Kernel5Ideal.defs _ _).mono
      (fun r h c => ⟨(h c).1.trans (Cert.Kernel5Ideal.Hand.final m c), (h c).2⟩)
      (Cert.Kernel5Ideal.Value.run_blocks (F := Ideal) m ρ)
  · refine (θ_run Cert.Reference5Ideal.defs _ _).mono (fun r h c => ⟨(h c).1.trans ?_, (h c).2⟩)
      (Cert.Reference5Ideal.Hand.run_at m' ρ')
    obtain ⟨a0, a1, a2, a3, a4⟩ := hargs c
    rw [a0, a1, a2, a3, a4]
    rfl

/-- The frames of the output projection with forward retention. -/
theorem frame_p6 : Cert.quiescent_Kernel6 (hKernel6 := Cert.Kernel6.Gen.facts) := fun m ρ _ => Cert.Kernel6.Gen.frame m ρ

theorem frame_i6 : Cert.quiescent_Kernel6Ideal (hKernel6Ideal := Cert.Kernel6Ideal.Gen.facts) :=
  fun m ρ _ => Cert.Kernel6Ideal.Gen.frame m ρ

theorem frame_r6 : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Kernel and reference compute the same output projection of the two retentions. -/
theorem value6 : Cert.algebraic_Kernel6Ideal_Reference6Ideal_pre_finite6 (hKernel6Ideal := Cert.Kernel6Ideal.Gen.facts)
    (hReference6Ideal := Cert.Reference6Ideal.Gen.facts) (hPre_finite6 := Cert.Pre_finite6.facts) := by
  intro m ρ m' ρ' hfin hargs
  choose p g O X W hp hg hO hX hW using fun c => Cert.Pre_finite6.exists_numbers _ _ _ _ _ (hfin c)
  refine ⟨fun c y => Cert.Gated.whole Cert.Gated.gateE (fun b s n => (Cert.Gated.fwd (p c) (g c) b s n : EReal)) (O c)
    (fun b s n => (p c b s (4096 + n) : EReal)) (X c) (W c) (y 0).val (y 1).val (y 2).val, ?_, ?_⟩
  · refine (θ_run Cert.Kernel6Ideal.defs _ _).mono (fun r h c => ⟨(h c).1.trans ?_, (h c).2⟩)
      (Cert.Kernel6Ideal.Value.run_blocks (F := Ideal) m ρ)
    refine (Cert.Kernel6Ideal.Hand.final ⟨hp c, hg c, hO c, hX c, hW c⟩).trans ?_
    unfold Cert.Gated.whole
    simp only [Cert.Gated.gateT_eq]
    rfl
  · refine (θ_run Cert.Reference6Ideal.defs _ _).mono (fun r h c => ⟨(h c).1.trans ?_, (h c).2⟩)
      (Cert.Reference6Ideal.Value.run (F := Ideal) m' ρ')
    obtain ⟨a0, a1, a2, a3, a4⟩ := hargs c
    exact (Cert.Reference6Ideal.Hand.result m' c).trans
      (Cert.Reference6Ideal.Hand.result_at (fun y => (congrFun a1 y).trans (hp c y)) (fun h => (congrFun a0 _).trans (hg c h))
        (fun y => (congrFun a2 y).trans (hO c y)) (fun y => (congrFun a3 y).trans (hX c y)) (fun y => (congrFun a4 y).trans (hW c y)))

/-- The frames of the mixing layer's projection of the long rows. -/
theorem frame_p7 : Cert.quiescent_Kernel7 (hKernel7 := Cert.Kernel7.Gen.facts) := fun m ρ _ => Cert.Kernel7.Gen.frame m ρ

theorem frame_i7 : Cert.quiescent_Kernel7Ideal (hKernel7Ideal := Cert.Kernel7Ideal.Gen.facts) :=
  fun m ρ _ => Cert.Kernel7Ideal.Gen.frame m ρ

theorem frame_r7 : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- Kernel and reference compute the same projection of the long rows. -/
theorem value7 : Cert.algebraic_Kernel7Ideal_Reference7Ideal (hKernel7Ideal := Cert.Kernel7Ideal.Gen.facts)
    (hReference7Ideal := Cert.Reference7Ideal.Gen.facts) := by
  intro m ρ m' ρ' _ hargs
  refine ⟨fun c y => Cert.Perm.proj (Cert.Perm.rows (m ((c.tc : Thread Cert.Kernel7Ideal.nD Cert.Kernel7Ideal.τ).loc Cert.Kernel7Ideal.main_arg0)) (y 0).val)
    (Cert.Perm.scale (m ((c.tc : Thread Cert.Kernel7Ideal.nD Cert.Kernel7Ideal.τ).loc Cert.Kernel7Ideal.main_arg1)))
    (Cert.Perm.cols (m ((c.tc : Thread Cert.Kernel7Ideal.nD Cert.Kernel7Ideal.τ).loc Cert.Kernel7Ideal.main_arg2))) (y 2).val (y 1).val (y 3).val, ?_, ?_⟩
  · exact (θ_run Cert.Kernel7Ideal.defs _ _).mono
      (fun r h c => ⟨(h c).1.trans (Cert.Kernel7Ideal.Hand.final3 m c), (h c).2⟩)
      (Cert.Kernel7Ideal.Value.run_blocks (F := Ideal) m ρ)
  · refine (θ_run Cert.Reference7Ideal.defs _ _).mono (fun r h c => ⟨(h c).1.trans ?_, (h c).2⟩)
      (Cert.Reference7Ideal.Hand.run_at m' ρ')
    obtain ⟨a0, a1, a2⟩ := hargs c
    rw [a0, a1, a2]
    rfl

/-- The frames of the transform's first stage. -/
theorem frame_p8 : Cert.quiescent_Kernel8 (hKernel8 := Cert.Kernel8.Gen.facts) := fun m ρ _ => Cert.Kernel8.Gen.frame m ρ

theorem frame_i8 : Cert.quiescent_Kernel8Ideal (hKernel8Ideal := Cert.Kernel8Ideal.Gen.facts) :=
  fun m ρ _ => Cert.Kernel8Ideal.Gen.frame m ρ

theorem frame_r8 : Cert.quiescent_Reference8Ideal (hReference8Ideal := Cert.Reference8Ideal.Gen.facts) := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

/-- Kernel and reference compute the same first stage of the transform. -/
theorem value8 : Cert.algebraic_Kernel8Ideal_Reference8Ideal (hKernel8Ideal := Cert.Kernel8Ideal.Gen.facts)
    (hReference8Ideal := Cert.Reference8Ideal.Gen.facts) := by
  intro m ρ m' ρ' _ hargs
  refine ⟨fun c y => Cert.Stage.stage (Cert.Stage.tab (m ((c.tc : Thread Cert.Kernel8Ideal.nD Cert.Kernel8Ideal.τ).loc Cert.Kernel8Ideal.main_arg0)))
    (Cert.Stage.ent (m ((c.tc : Thread Cert.Kernel8Ideal.nD Cert.Kernel8Ideal.τ).loc Cert.Kernel8Ideal.main_arg1))) 0 0 (y 0).val (y 1).val (y 2).val (y 3).val,
    fun c y => Cert.Stage.stage (Cert.Stage.tab (m ((c.tc : Thread Cert.Kernel8Ideal.nD Cert.Kernel8Ideal.τ).loc Cert.Kernel8Ideal.main_arg0)))
    (Cert.Stage.ent (m ((c.tc : Thread Cert.Kernel8Ideal.nD Cert.Kernel8Ideal.τ).loc Cert.Kernel8Ideal.main_arg1))) 0 128 (y 0).val (y 1).val (y 2).val (y 3).val,
    fun c y => Cert.Stage.stage (Cert.Stage.tab (m ((c.tc : Thread Cert.Kernel8Ideal.nD Cert.Kernel8Ideal.τ).loc Cert.Kernel8Ideal.main_arg0)))
    (Cert.Stage.ent (m ((c.tc : Thread Cert.Kernel8Ideal.nD Cert.Kernel8Ideal.τ).loc Cert.Kernel8Ideal.main_arg1))) 4096 0 (y 0).val (y 1).val (y 2).val (y 3).val,
    fun c y => Cert.Stage.stage (Cert.Stage.tab (m ((c.tc : Thread Cert.Kernel8Ideal.nD Cert.Kernel8Ideal.τ).loc Cert.Kernel8Ideal.main_arg0)))
    (Cert.Stage.ent (m ((c.tc : Thread Cert.Kernel8Ideal.nD Cert.Kernel8Ideal.τ).loc Cert.Kernel8Ideal.main_arg1))) 4096 128 (y 0).val (y 1).val (y 2).val (y 3).val, ?_, ?_⟩
  · exact (θ_run Cert.Kernel8Ideal.defs _ _).mono
      (fun r h c => ⟨(h c).1.trans (Cert.Kernel8Ideal.Hand.final3 m c), (h c).2.1.trans (Cert.Kernel8Ideal.Hand.final4 m c),
        (h c).2.2.1.trans (Cert.Kernel8Ideal.Hand.final5 m c), (h c).2.2.2.1.trans (Cert.Kernel8Ideal.Hand.final6 m c), (h c).2.2.2.2⟩)
      (Cert.Kernel8Ideal.Value.run_blocks (F := Ideal) m ρ)
  · refine (θ_run Cert.Reference8Ideal.defs _ _).mono (fun r h c => ⟨(h c).1.trans ?_, (h c).2.1.trans ?_, (h c).2.2.1.trans ?_,
      (h c).2.2.2.1.trans ?_, (h c).2.2.2.2⟩) (Cert.Reference8Ideal.Hand.run_at m' ρ')
    all_goals
      obtain ⟨a0, a1⟩ := hargs c
      rw [a0, a1]
      rfl

/-- The frames of the preparation of the mixing layer's weights. -/
theorem frame_p9 : Cert.quiescent_Kernel9 (hKernel9 := Cert.Kernel9.Gen.facts) := fun m ρ _ => Cert.Kernel9.Gen.frame m ρ

theorem frame_i9 : Cert.quiescent_Kernel9Ideal (hKernel9Ideal := Cert.Kernel9Ideal.Gen.facts) :=
  fun m ρ _ => Cert.Kernel9Ideal.Gen.frame m ρ

theorem frame_r9 : Cert.quiescent_Reference9Ideal (hReference9Ideal := Cert.Reference9Ideal.Gen.facts) := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

/-- Kernel and reference prepare the same weights of the mixing layer. -/
theorem value9 : Cert.algebraic_Kernel9Ideal_Reference9Ideal (hKernel9Ideal := Cert.Kernel9Ideal.Gen.facts)
    (hReference9Ideal := Cert.Reference9Ideal.Gen.facts) := by
  intro m ρ m' ρ' _ hargs
  refine ⟨fun c y => Cert.Fold.fold (Cert.Fold.wts (m ((c.tc : Thread Cert.Kernel9Ideal.nD Cert.Kernel9Ideal.τ).loc Cert.Kernel9Ideal.main_arg0)))
    (Cert.Fold.tabs (m ((c.tc : Thread Cert.Kernel9Ideal.nD Cert.Kernel9Ideal.τ).loc Cert.Kernel9Ideal.main_arg1))) (y 0).val ((y 1).val / 256) (0 + (y 1).val % 256),
    fun c y => Cert.Fold.fold (Cert.Fold.wts (m ((c.tc : Thread Cert.Kernel9Ideal.nD Cert.Kernel9Ideal.τ).loc Cert.Kernel9Ideal.main_arg0)))
    (Cert.Fold.tabs (m ((c.tc : Thread Cert.Kernel9Ideal.nD Cert.Kernel9Ideal.τ).loc Cert.Kernel9Ideal.main_arg1))) (y 0).val ((y 1).val / 256) (256 + (y 1).val % 256),
    fun c y => Cert.Fold.total (Cert.Fold.wts (m ((c.tc : Thread Cert.Kernel9Ideal.nD Cert.Kernel9Ideal.τ).loc Cert.Kernel9Ideal.main_arg0)))
    (Cert.Fold.tabs (m ((c.tc : Thread Cert.Kernel9Ideal.nD Cert.Kernel9Ideal.τ).loc Cert.Kernel9Ideal.main_arg1))) (y 0).val (512 + (y 1).val), ?_, ?_⟩
  · exact (θ_run Cert.Kernel9Ideal.defs _ _).mono
      (fun r h c => ⟨(h c).1.trans (Cert.Kernel9Ideal.Hand.final2 m c), (h c).2.1.trans (Cert.Kernel9Ideal.Hand.final3 m c),
        (h c).2.2.1.trans (Cert.Kernel9Ideal.Hand.final4 m c), (h c).2.2.2⟩)
      (Cert.Kernel9Ideal.Value.run_blocks (F := Ideal) m ρ)
  · refine (θ_run Cert.Reference9Ideal.defs _ _).mono (fun r h c => ⟨(h c).1.trans ?_, (h c).2.1.trans ?_, (h c).2.2.1.trans ?_,
      (h c).2.2.2⟩) (Cert.Reference9Ideal.Hand.run_at m' ρ')
    all_goals
      obtain ⟨a0, a1⟩ := hargs c
      rw [a0, a1]
      rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.facts, Cert.Pre_finite6.facts,
    frame_p, frame_i, fun m ρ _ => frame_i m ρ trivial, frame_r, fun m ρ _ => frame_r m ρ trivial,
    frame_p2, frame_i2, frame_r2,
    frame_p3, frame_i3, frame_r3,
    frame_p4, frame_i4, frame_r4,
    frame_p5, frame_i5, frame_r5,
    frame_p6, frame_i6, fun m ρ _ => frame_i6 m ρ trivial, frame_r6, fun m ρ _ => frame_r6 m ρ trivial,
    frame_p7, frame_i7, frame_r7,
    frame_p8, frame_i8, frame_r8,
    frame_p9, frame_i9, frame_r9,
    trivial, value, trivial, value2, trivial, value3, trivial, value4, trivial, value5, trivial, value6, trivial, value7, trivial, value8,
    trivial, value9⟩

end Cert.Proof

end
